-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v33_6)) (v1 : (c : Dev Cert.Kernel4Ideal.nD) → Buf (Elt Ideal) ((c.tc : Thread Cert.Kernel4Ideal.nD Cert.Kernel4Ideal.τ).loc Cert.Kernel4Ideal.main_v33_7)) (v2 : (c : Dev Cert.Kernel4Ideal.nD) → Buf (Elt Ideal) ((c.tc : Thread Cert.Kernel4Ideal.nD Cert.Kernel4Ideal.τ).loc Cert.Kernel4Ideal.main_v33_8)) (v3 : (c : Dev Cert.Kernel4Ideal.nD) → Buf (Elt Ideal) ((c.tc : Thread Cert.Kernel4Ideal.nD Cert.Kernel4Ideal.τ).loc Cert.Kernel4Ideal.main_v33_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v33_6) = v0 c
          ∧ r.2.mem ((c.tc : Thread Cert.Kernel4Ideal.nD Cert.Kernel4Ideal.τ).loc Cert.Kernel4Ideal.main_v33_7) = v1 c
          ∧ r.2.mem ((c.tc : Thread Cert.Kernel4Ideal.nD Cert.Kernel4Ideal.τ).loc Cert.Kernel4Ideal.main_v33_8) = v2 c
          ∧ r.2.mem ((c.tc : Thread Cert.Kernel4Ideal.nD Cert.Kernel4Ideal.τ).loc Cert.Kernel4Ideal.main_v33_9) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_v55) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S4x8192x8x64 : Shape := ⟨4, ![4, 8192, 8, 64]⟩
abbrev S4x8192x8x32 : Shape := ⟨4, ![4, 8192, 8, 32]⟩
abbrev S4x256x8x64 : Shape := ⟨4, ![4, 256, 8, 64]⟩
abbrev S4x256x32 : Shape := ⟨3, ![4, 256, 32]⟩
abbrev S4x8192x32 : Shape := ⟨3, ![4, 8192, 32]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x8x32 : S_.BroadcastsInDim S4x8192x8x32 (![] : Fin 0 → Fin S4x8192x8x32.rank)
  reducesTo_S4x8192x8x32_S_d0_1_2_3 : S4x8192x8x32.ReducesTo [0, 1, 2, 3] S_
  bcast_S_S4x256x8x64 : S_.BroadcastsInDim S4x256x8x64 (![] : Fin 0 → Fin S4x256x8x64.rank)
  reducesTo_S4x256x8x64_S_d0_1_2_3 : S4x256x8x64.ReducesTo [0, 1, 2, 3] S_
  bcast_S_S4x256x32 : S_.BroadcastsInDim S4x256x32 (![] : Fin 0 → Fin S4x256x32.rank)
  reducesTo_S4x256x32_S_d0_1_2 : S4x256x32.ReducesTo [0, 1, 2] S_
  bcast_S_S4x8192x32 : S_.BroadcastsInDim S4x8192x32 (![] : Fin 0 → Fin S4x8192x32.rank)
  reducesTo_S4x8192x32_S_d0_1_2 : S4x8192x32.ReducesTo [0, 1, 2] S_

variable [Facts]

def fn_part1 {F : FTy → Type} [FloatOps F] (main_arg5 : FVec F S4x8192x8x64 .f32) (main_arg6 : FVec F S4x8192x32 .f32) (main_v13 : IVec S_ 1) (main_v16 : IVec S4x256x32 1) : IVec S_ 1 :=
  let main_c_5 : IVec S_ 1 := constantI S_ 1 1#1
  let main_v17 : IVec S_ 1 := (fun x v => Host.reduce IntOp.andi x v reducesTo_S4x256x32_S_d0_1_2 h_S_) main_v16 main_c_5
  let main_v18 : IVec S_ 1 := andi main_v13 main_v17
  let main_v19 : FVec F S4x8192x8x64 .f32 := Host.absf main_arg5
  let main_cst_6 : FVec F S_ .f32 := constant S_ .f32 0x7F800000#32
  let main_v20 : FVec F S4x8192x8x64 .f32 := broadcastInDim S4x8192x8x64 ![] bcast_S_S4x8192x8x64 main_cst_6
  let main_v21 : IVec S4x8192x8x64 1 := cmpf .olt main_v19 main_v20
  let main_c_7 : IVec S_ 1 := constantI S_ 1 1#1
  let main_v22 : IVec S_ 1 := (fun x v => Host.reduce IntOp.andi x v reducesTo_S4x8192x8x64_S_d0_1_2_3 h_S_) main_v21 main_c_7
  let main_v23 : IVec S_ 1 := andi main_v18 main_v22
  let main_v24 : FVec F S4x8192x32 .f32 := Host.absf main_arg6
  let main_cst_8 : FVec F S_ .f32 := constant S_ .f32 0x7F800000#32
  let main_v25 : FVec F S4x8192x32 .f32 := broadcastInDim S4x8192x32 ![] bcast_S_S4x8192x32 main_cst_8
  let main_v26 : IVec S4x8192x32 1 := cmpf .olt main_v24 main_v25
  let main_c_9 : IVec S_ 1 := constantI S_ 1 1#1
  let main_v27 : IVec S_ 1 := (fun x v => Host.reduce IntOp.andi x v reducesTo_S4x8192x32_S_d0_1_2 h_S_) main_v26 main_c_9
  let main_v28 : IVec S_ 1 := andi main_v23 main_v27
  main_v28

def fn {F : FTy → Type} [FloatOps F] (main_arg0 : FVec F S4x8192x8x64 .f32) (main_arg1 : FVec F S4x8192x8x32 .f32) (main_arg2 : FVec F S4x256x8x64 .f32) (main_arg3 : FVec F S4x256x32 .f32) (main_arg4 : FVec F S4x256x8x64 .f32) (main_arg5 : FVec F S4x8192x8x64 .f32) (main_arg6 : FVec F S4x8192x32 .f32) (main_arg7 : FVec F S4x8192x8x64 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x8x32 .f32 := Host.absf main_arg1
  let main_cst_0 : FVec F S_ .f32 := constant S_ .f32 0x7F800000#32
  let main_v5 : FVec F S4x8192x8x32 .f32 := broadcastInDim S4x8192x8x32 ![] bcast_S_S4x8192x8x32 main_cst_0
  let main_v6 : IVec S4x8192x8x32 1 := cmpf .olt main_v4 main_v5
  let main_c_1 : IVec S_ 1 := constantI S_ 1 1#1
  let main_v7 : IVec S_ 1 := (fun x v => Host.reduce IntOp.andi x v reducesTo_S4x8192x8x32_S_d0_1_2_3 h_S_) main_v6 main_c_1
  let main_v8 : IVec S_ 1 := andi main_v3 main_v7
  let main_v9 : FVec F S4x256x8x64 .f32 := Host.absf main_arg2
  let main_cst_2 : FVec F S_ .f32 := constant S_ .f32 0x7F800000#32
  let main_v10 : FVec F S4x256x8x64 .f32 := broadcastInDim S4x256x8x64 ![] bcast_S_S4x256x8x64 main_cst_2
  let main_v11 : IVec S4x256x8x64 1 := cmpf .olt main_v9 main_v10
  let main_c_3 : IVec S_ 1 := constantI S_ 1 1#1
  let main_v12 : IVec S_ 1 := (fun x v => Host.reduce IntOp.andi x v reducesTo_S4x256x8x64_S_d0_1_2_3 h_S_) main_v11 main_c_3
  let main_v13 : IVec S_ 1 := andi main_v8 main_v12
  let main_v14 : FVec F S4x256x32 .f32 := Host.absf main_arg3
  let main_cst_4 : FVec F S_ .f32 := constant S_ .f32 0x7F800000#32
  let main_v15 : FVec F S4x256x32 .f32 := broadcastInDim S4x256x32 ![] bcast_S_S4x256x32 main_cst_4
  let main_v16 : IVec S4x256x32 1 := cmpf .olt main_v14 main_v15
  fn_part1 (F := F) main_arg5 main_arg6 main_v13 main_v16
-- ==== Kernel.lean ====
abbrev S4x8192x8x64 : Shape := ⟨4, ![4, 8192, 8, 64]⟩
abbrev S4x8192x8x32 : Shape := ⟨4, ![4, 8192, 8, 32]⟩
abbrev S4x256x8x64 : Shape := ⟨4, ![4, 256, 8, 64]⟩
abbrev S4x256x32 : Shape := ⟨3, ![4, 256, 32]⟩
abbrev S4x8192x32 : Shape := ⟨3, ![4, 8192, 32]⟩
abbrev S_ : Shape := ⟨0, ![]⟩
abbrev S4x8192x8x96 : Shape := ⟨4, ![4, 8192, 8, 96]⟩
abbrev S4x8192x8x128 : Shape := ⟨4, ![4, 8192, 8, 128]⟩
abbrev S4x8192x1024 : Shape := ⟨3, ![4, 8192, 1024]⟩
abbrev S4x256x1x32 : Shape := ⟨4, ![4, 256, 1, 32]⟩
abbrev S4x256x8x32 : Shape := ⟨4, ![4, 256, 8, 32]⟩
abbrev S4x256x8x96 : Shape := ⟨4, ![4, 256, 8, 96]⟩
abbrev S4x256x8x128 : Shape := ⟨4, ![4, 256, 8, 128]⟩
abbrev S4x256x1024 : Shape := ⟨3, ![4, 256, 1024]⟩
abbrev S4x256x4x128 : Shape := ⟨4, ![4, 256, 4, 128]⟩
abbrev S4x256x4x256 : Shape := ⟨4, ![4, 256, 4, 256]⟩
abbrev S4x8192x1x32 : Shape := ⟨4, ![4, 8192, 1, 32]⟩
abbrev S4x8192x4x128 : Shape := ⟨4, ![4, 8192, 4, 128]⟩
abbrev S4x8192x4x256 : Shape := ⟨4, ![4, 8192, 4, 256]⟩
abbrev S4x8192x512 : Shape := ⟨3, ![4, 8192, 512]⟩
abbrev S1x4096x256 : Shape := ⟨3, ![1, 4096, 256]⟩
abbrev S1x256x256 : Shape := ⟨3, ![1, 256, 256]⟩
abbrev S1x8192x256 : Shape := ⟨3, ![1, 8192, 256]⟩
abbrev S1x4096x128 : Shape := ⟨3, ![1, 4096, 128]⟩
abbrev S2x4096x128 : Shape := ⟨3, ![2, 4096, 128]⟩
abbrev S2x4096x256 : Shape := ⟨3, ![2, 4096, 256]⟩
abbrev S2x4096x512 : Shape := ⟨3, ![2, 4096, 512]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S1x128x256 : Shape := ⟨3, ![1, 128, 256]⟩
abbrev S1x512x128 : Shape := ⟨3, ![1, 512, 128]⟩
abbrev S512x128 : Shape := ⟨2, ![512, 128]⟩
abbrev S128x512 : Shape := ⟨2, ![128, 512]⟩
abbrev S256x256 : Shape := ⟨2, ![256, 256]⟩
abbrev S1x128x512 : Shape := ⟨3, ![1, 128, 512]⟩
abbrev S1x512x256 : Shape := ⟨3, ![1, 512, 256]⟩
abbrev S512x256 : Shape := ⟨2, ![512, 256]⟩
abbrev S4096x128 : Shape := ⟨2, ![4096, 128]⟩

abbrev nBuf : Space → Nat
  | .hbm => 50
  | .vmem => 15
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x256x8x64, .f32⟩
  | .hbm, ⟨3, _⟩ => ⟨S4x256x32, .f32⟩
  | .hbm, ⟨4, _⟩ => ⟨S4x256x8x64, .f32⟩
  | .hbm, ⟨5, _⟩ => ⟨S4x8192x8x64, .f32⟩
  | .hbm, ⟨6, _⟩ => ⟨S4x8192x32, .f32⟩
  | .hbm, ⟨7, _⟩ => ⟨S4x8192x8x64, .f32⟩
  | .hbm, ⟨8, _⟩ => ⟨S_, .f32⟩
  | .hbm, ⟨9, _⟩ => ⟨S4x8192x8x32, .f32⟩
  | .hbm, ⟨10, _⟩ => ⟨S4x8192x8x96, .f32⟩
  | .hbm, ⟨11, _⟩ => ⟨S4x8192x8x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x8192x8x128, .f32⟩
  | .hbm, ⟨18, _⟩ => ⟨S4x8192x8x128, .f32⟩
  | .hbm, ⟨19, _⟩ => ⟨S4x8192x1024, .f32⟩
  | .hbm, ⟨20, _⟩ => ⟨S4x8192x1024, .bf16⟩
  | .hbm, ⟨21, _⟩ => ⟨S4x256x1x32, .f32⟩
  | .hbm, ⟨22, _⟩ => ⟨S4x256x8x32, .f32⟩
  | .hbm, ⟨23, _⟩ => ⟨S_, .f32⟩
  | .hbm, ⟨24, _⟩ => ⟨S4x256x8x32, .f32⟩
  | .hbm, ⟨25, _⟩ => ⟨S4x256x8x96, .f32⟩
  | .hbm, ⟨26, _⟩ => ⟨S4x256x8x128, .f32⟩
  | .hbm, ⟨27, _⟩ => ⟨S4x256x1024, .f32⟩
  | .hbm, ⟨28, _⟩ => ⟨S4x256x1024, .bf16⟩
  | .hbm, ⟨29, _⟩ => ⟨S_, .f32⟩
  | .hbm, ⟨30, _⟩ => ⟨S4x256x4x128, .f32⟩
  | .hbm, ⟨31, _⟩ => ⟨S4x256x4x128, .f32⟩
  | .hbm, ⟨32, _⟩ => ⟨S4x256x4x256, .f32⟩
  | .hbm, ⟨33, _⟩ => ⟨S4x256x1024, .f32⟩
  | .hbm, ⟨34, _⟩ => ⟨S4x256x1024, .bf16⟩
  | .hbm, ⟨35, _⟩ => ⟨S4x8192x1x32, .f32⟩
  | .hbm, ⟨36, _⟩ => ⟨S4x8192x8x32, .f32⟩
  | .hbm, ⟨37, _⟩ => ⟨S_, .f32⟩
  | .hbm, ⟨38, _⟩ => ⟨S4x8192x8x32, .f32⟩
  | .hbm, ⟨39, _⟩ => ⟨S4x8192x8x96, .f32⟩
  | .hbm, ⟨40, _⟩ => ⟨S4x8192x8x128, .f32⟩
  | .hbm, ⟨41, _⟩ => ⟨S4x8192x1024, .f32⟩
  | .hbm, ⟨42, _⟩ => ⟨S4x8192x1024, .bf16⟩
  | .hbm, ⟨43, _⟩ => ⟨S_, .f32⟩
  | .hbm, ⟨44, _⟩ => ⟨S4x8192x4x128, .f32⟩
  | .hbm, ⟨45, _⟩ => ⟨S4x8192x4x128, .f32⟩
  | .hbm, ⟨46, _⟩ => ⟨S4x8192x4x256, .f32⟩
  | .hbm, ⟨47, _⟩ => ⟨S4x8192x1024, .f32⟩
  | .hbm, ⟨48, _⟩ => ⟨S4x8192x1024, .bf16⟩
  | .hbm, ⟨49, _⟩ => ⟨S4x8192x512, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x8192x256, .bf16⟩
  | .local _ .vmem, ⟨7, _⟩ => ⟨S1x8192x256, .bf16⟩
  | .local _ .vmem, ⟨8, _⟩ => ⟨S1x8192x256, .bf16⟩
  | .local _ .vmem, ⟨9, _⟩ => ⟨S1x8192x256, .bf16⟩
  | .local _ .vmem, ⟨10, _⟩ => ⟨S1x4096x128, .bf16⟩
  | .local _ .vmem, ⟨11, _⟩ => ⟨S1x4096x128, .bf16⟩
  | .local _ .vmem, ⟨12, _⟩ => ⟨S2x4096x128, .f32⟩
  | .local _ .vmem, ⟨13, _⟩ => ⟨S2x4096x256, .f32⟩
  | .local _ .vmem, ⟨14, _⟩ => ⟨S2x4096x512, .bf16⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 2], ![false, false, false]⟩

@[reducible] def k0_t1_loop : Scf.Loop 32 :=
  let c1_i32 : BitVec 32 := 1#32
  let c15_i32 : BitVec 32 := 15#32
  let v3264 : BitVec 32 := Scalar.addi c1_i32 c15_i32
  let c1_i32_2590 : BitVec 32 := 1#32
  ⟨c1_i32, v3264, c1_i32_2590⟩
def k0_mult1 (k0_t1 : Fin k0_t1_loop.trips) : BitVec 32 :=
  let c1_i32 : BitVec 32 := 1#32
  let c1_i32_2590 : BitVec 32 := 1#32
  let arg12 : BitVec 32 := Scf.iv c1_i32 c1_i32_2590 k0_t1
  let c512_i32 : BitVec 32 := 512#32
  let v3987 : BitVec 32 := Scalar.muli arg12 c512_i32
  v3987
def k0_mult2 (k0_t1 : Fin k0_t1_loop.trips) : BitVec 32 :=
  let c1_i32 : BitVec 32 := 1#32
  let c1_i32_2590 : BitVec 32 := 1#32
  let arg12 : BitVec 32 := Scf.iv c1_i32 c1_i32_2590 k0_t1
  let c512_i32 : BitVec 32 := 512#32
  let v3987 : BitVec 32 := Scalar.muli arg12 c512_i32
  let v3988 : BitVec 32 := v3987
  let c512_i32_3438 : BitVec 32 := 512#32
  let v3989 : BitVec 32 := Scalar.subi v3988 c512_i32_3438
  v3989
def k0_off1 (k0_t1 : Fin k0_t1_loop.trips) : Fin 3 → Nat :=
  let c0_3442 : Index := 0#32
  let c1_i32 : BitVec 32 := 1#32
  let c1_i32_2590 : BitVec 32 := 1#32
  let arg12 : BitVec 32 := Scf.iv c1_i32 c1_i32_2590 k0_t1
  let c512_i32 : BitVec 32 := 512#32
  let v3987 : BitVec 32 := Scalar.muli arg12 c512_i32
  let v3988 : BitVec 32 := v3987
  let v3993 : Index := Scalar.indexCast v3988
  let c0_3443 : Index := 0#32
  ![0, v3993.toNat, 0]
def k0_off2 (k0_t1 : Fin k0_t1_loop.trips) : Fin 3 → Nat :=
  let c0_3455 : Index := 0#32
  let c1_i32 : BitVec 32 := 1#32
  let c1_i32_2590 : BitVec 32 := 1#32
  let arg12 : BitVec 32 := Scf.iv c1_i32 c1_i32_2590 k0_t1
  let c512_i32 : BitVec 32 := 512#32
  let v3987 : BitVec 32 := Scalar.muli arg12 c512_i32
  let v3988 : BitVec 32 := v3987
  let c512_i32_3438 : BitVec 32 := 512#32
  let v3989 : BitVec 32 := Scalar.subi v3988 c512_i32_3438
  let v3990 : BitVec 32 := v3989
  let v4010 : Index := Scalar.indexCast v3990
  let c0_3456 : Index := 0#32
  ![0, v4010.toNat, 0]
def k0_off3 (k0_t1 : Fin k0_t1_loop.trips) : Fin 3 → Nat :=
  let c0_4338 : Index := 0#32
  let c1_i32 : BitVec 32 := 1#32
  let c1_i32_2590 : BitVec 32 := 1#32
  let arg12 : BitVec 32 := Scf.iv c1_i32 c1_i32_2590 k0_t1
  let c512_i32 : BitVec 32 := 512#32
  let v3987 : BitVec 32 := Scalar.muli arg12 c512_i32
  let v3988 : BitVec 32 := v3987
  let v5209 : Index := Scalar.indexCast v3988
  let c128_4339 : Index := 128#32
  ![0, v5209.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8192x8x64 : Shape := ⟨4, ![4, 8192, 8, 64]⟩
abbrev S4x8192x8x32 : Shape := ⟨4, ![4, 8192, 8, 32]⟩
abbrev S4x256x8x64 : Shape := ⟨4, ![4, 256, 8, 64]⟩
abbrev S4x256x32 : Shape := ⟨3, ![4, 256, 32]⟩
abbrev S4x8192x32 : Shape := ⟨3, ![4, 8192, 32]⟩
abbrev S4x8448x8x64 : Shape := ⟨4, ![4, 8448, 8, 64]⟩
abbrev S4x8448x32 : Shape := ⟨3, ![4, 8448, 32]⟩
abbrev S4x8x8192x8448 : Shape := ⟨4, ![4, 8, 8192, 8448]⟩
abbrev S4x8448x8192x8 : Shape := ⟨4, ![4, 8448, 8192, 8]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x8192x512 : Shape := ⟨3, ![4, 8192, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x256x8x64, .f32⟩
  | .hbm, ⟨3, _⟩ => ⟨S4x256x32, .f32⟩
  | .hbm, ⟨4, _⟩ => ⟨S4x256x8x64, .f32⟩
  | .hbm, ⟨5, _⟩ => ⟨S4x8192x8x64, .f32⟩
  | .hbm, ⟨6, _⟩ => ⟨S4x8192x32, .f32⟩
  | .hbm, ⟨7, _⟩ => ⟨S4x8192x8x64, .f32⟩
  | .hbm, ⟨8, _⟩ => ⟨S4x8448x8x64, .f32⟩
  | .hbm, ⟨9, _⟩ => ⟨S4x8448x32, .f32⟩
  | .hbm, ⟨10, _⟩ => ⟨S4x8448x8x64, .f32⟩
  | .hbm, ⟨11, _⟩ => ⟨S4x8x8192x8448, .f32⟩
  | .hbm, ⟨12, _⟩ => ⟨S4x8448x8192x8, .f32⟩
  | .hbm, ⟨13, _⟩ => ⟨S4x8x8192x8448, .f32⟩
  | .hbm, ⟨14, _⟩ => ⟨S4x8x8192x8448, .f32⟩
  | .hbm, ⟨15, _⟩ => ⟨S_, .f32⟩
  | .hbm, ⟨16, _⟩ => ⟨S_, .f32⟩
  | .hbm, ⟨17, _⟩ => ⟨S4x8x8192x8448, .f32⟩
  | .hbm, ⟨18, _⟩ => ⟨S4x8x8192x8448, .f32⟩
  | .hbm, ⟨19, _⟩ => ⟨S_, .f32⟩
  | .hbm, ⟨20, _⟩ => ⟨S4x8x8192, .f32⟩
  | .hbm, ⟨21, _⟩ => ⟨S_, .f32⟩
  | .hbm, ⟨22, _⟩ => ⟨S4x8x8192, .f32⟩
  | .hbm, ⟨23, _⟩ => ⟨S4x8x8192, .f32⟩
  | .hbm, ⟨24, _⟩ => ⟨S4x8x8192x1, .f32⟩
  | .hbm, ⟨25, _⟩ => ⟨S4x8x8192x8448, .f32⟩
  | .hbm, ⟨26, _⟩ => ⟨S4x8x8192x8448, .f32⟩
  | .hbm, ⟨27, _⟩ => ⟨S4x8x8192x8448, .f32⟩
  | .hbm, ⟨28, _⟩ => ⟨S_, .f32⟩
  | .hbm, ⟨29, _⟩ => ⟨S4x8x8192, .f32⟩
  | .hbm, ⟨30, _⟩ => ⟨S4x8x8192x1, .f32⟩
  | .hbm, ⟨31, _⟩ => ⟨S4x8x8192x8448, .f32⟩
  | .hbm, ⟨32, _⟩ => ⟨S4x8x8192x8448, .f32⟩
  | .hbm, ⟨33, _⟩ => ⟨S4x8x64x8192, .f32⟩
  | .hbm, ⟨34, _⟩ => ⟨S4x8192x8x64, .f32⟩
  | .hbm, ⟨35, _⟩ => ⟨S4x8192x512, .f32⟩
  | .hbm, ⟨36, _⟩ => ⟨S4x8192x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1x1024 : Shape := ⟨3, ![4, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S1x1x1024 : Shape := ⟨3, ![1, 1, 1024]⟩
abbrev S512x1024 : Shape := ⟨2, ![512, 1024]⟩
abbrev S8x1024 : Shape := ⟨2, ![8, 1024]⟩
abbrev S528x1024 : Shape := ⟨2, ![528, 1024]⟩
abbrev S528 : Shape := ⟨1, ![528]⟩
abbrev S528x1 : Shape := ⟨2, ![528, 1]⟩
abbrev S1024x2816 : Shape := ⟨2, ![1024, 2816]⟩
abbrev S528x2816 : Shape := ⟨2, ![528, 2816]⟩
abbrev S1x2816 : Shape := ⟨2, ![1, 2816]⟩
abbrev S512x2816 : Shape := ⟨2, ![512, 2816]⟩
abbrev S512x1 : Shape := ⟨2, ![512, 1]⟩
abbrev S3x2816 : Shape := ⟨2, ![3, 2816]⟩
abbrev S512 : Shape := ⟨1, ![512]⟩

abbrev nBuf : Space → Nat
  | .hbm => 16
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1x1024, .f32⟩
  | .hbm, ⟨11, _⟩ => ⟨S1x1024, .f32⟩
  | .hbm, ⟨12, _⟩ => ⟨S1024x5632, .bf16⟩
  | .hbm, ⟨13, _⟩ => ⟨S1x5632, .f32⟩
  | .hbm, ⟨14, _⟩ => ⟨S2816x1024, .bf16⟩
  | .hbm, ⟨15, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S1024x5632, .bf16⟩
  | .local _ .vmem, ⟨15, _⟩ => ⟨S3x5632, .f32⟩
  | .local _ .vmem, ⟨16, _⟩ => ⟨S1x5632, .f32⟩
  | .local _ .vmem, ⟨17, _⟩ => ⟨S2816x1024, .bf16⟩
  | .local _ .vmem, ⟨18, _⟩ => ⟨S1x512x1024, .f32⟩
  | .local _ .vmem, ⟨19, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x8192x1024 : Shape := ⟨3, ![4, 8192, 1024]⟩
abbrev S4x1x1024 : Shape := ⟨3, ![4, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S1x1x5632 : Shape := ⟨3, ![1, 1, 5632]⟩
abbrev S4x8192x2816 : Shape := ⟨3, ![4, 8192, 2816]⟩

abbrev nBuf : Space → Nat
  | .hbm => 92
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x5632, .f32⟩
  | .hbm, ⟨34, _⟩ => ⟨S_, .i32⟩
  | .hbm, ⟨35, _⟩ => ⟨S_, .f32⟩
  | .hbm, ⟨36, _⟩ => ⟨S4x8194x5632, .f32⟩
  | .hbm, ⟨37, _⟩ => ⟨S4x8192x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S4x8192x5632, .f32⟩
  | .hbm, ⟨42, _⟩ => ⟨S4x8192x5632, .f32⟩
  | .hbm, ⟨43, _⟩ => ⟨S4x8192x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S4x8192x5632, .f32⟩
  | .hbm, ⟨48, _⟩ => ⟨S4x8192x5632, .f32⟩
  | .hbm, ⟨49, _⟩ => ⟨S4x8192x5632, .f32⟩
  | .hbm, ⟨50, _⟩ => ⟨S4x8192x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S4x8192x5632, .f32⟩
  | .hbm, ⟨55, _⟩ => ⟨S4x8192x5632, .f32⟩
  | .hbm, ⟨56, _⟩ => ⟨S4x8192x5632, .f32⟩
  | .hbm, ⟨57, _⟩ => ⟨S1x1x5632, .f32⟩
  | .hbm, ⟨58, _⟩ => ⟨S4x8192x5632, .f32⟩
  | .hbm, ⟨59, _⟩ => ⟨S4x8192x5632, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S_, .f32⟩
  | .hbm, ⟨65, _⟩ => ⟨S4x8192x2816, .f32⟩
  | .hbm, ⟨66, _⟩ => ⟨S4x8192x2816, .f32⟩
  | .hbm, ⟨67, _⟩ => ⟨S_, .f32⟩
  | .hbm, ⟨68, _⟩ => ⟨S4x8192x2816, .f32⟩
  | .hbm, ⟨69, _⟩ => ⟨S4x8192x2816, .f32⟩
  | .hbm, ⟨70, _⟩ => ⟨S4x8192x2816, .f32⟩
  | .hbm, ⟨71, _⟩ => ⟨S4x8192x2816, .f32⟩
  | .hbm, ⟨72, _⟩ => ⟨S4x8192x1024, .f32⟩
  | .hbm, ⟨73, _⟩ => ⟨S4x8192x1024, .f32⟩
  | .hbm, ⟨74, _⟩ => ⟨S_, .f32⟩
  | .hbm, ⟨75, _⟩ => ⟨S4x8192, .f32⟩
  | .hbm, ⟨76, _⟩ => ⟨S4x8192x1, .f32⟩
  | .hbm, ⟨77, _⟩ => ⟨S_, .f32⟩
  | .hbm, ⟨78, _⟩ => ⟨S4x8192x1, .f32⟩
  | .hbm, ⟨79, _⟩ => ⟨S4x8192x1, .f32⟩
  | .hbm, ⟨80, _⟩ => ⟨S_, .f32⟩
  | .hbm, ⟨81, _⟩ => ⟨S4x8192x1, .f32⟩
  | .hbm, ⟨82, _⟩ => ⟨S4x8192x1, .f32⟩
  | .hbm, ⟨83, _⟩ => ⟨S4x8192x1, .f32⟩
  | .hbm, ⟨84, _⟩ => ⟨S4x8192x1024, .f32⟩
  | .hbm, ⟨85, _⟩ => ⟨S4x8192x1024, .f32⟩
  | .hbm, ⟨86, _⟩ => ⟨S1x1x1024, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_3 : Ref sig .tc := ⟨.hbm, 74, rfl⟩
abbrev main_v50 : Ref sig .tc := ⟨.hbm, 75, rfl⟩
abbrev main_v51 : Ref sig .tc := ⟨.hbm, 76, rfl⟩
abbrev main_cst_4 : Ref sig .tc := ⟨.hbm, 77, rfl⟩
abbrev main_v52 : Ref sig .tc := ⟨.hbm, 78, rfl⟩
abbrev main_v53 : Ref sig .tc := ⟨.hbm, 79, rfl⟩
abbrev main_cst_5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1x1024 : Shape := ⟨3, ![4, 1, 1024]⟩
abbrev S1024 : Shape := ⟨1, ![1024]⟩
abbrev S4x8192x512 : Shape := ⟨3, ![4, 8192, 512]⟩
abbrev S4x8192x3072 : Shape := ⟨3, ![4, 8192, 3072]⟩
abbrev S3x512x1024 : Shape := ⟨3, ![3, 512, 1024]⟩
abbrev S1024x1024 : Shape := ⟨2, ![1024, 1024]⟩
abbrev S_ : Shape := ⟨0, ![]⟩
abbrev S1x1024 : Shape := ⟨2, ![1, 1024]⟩
abbrev S1x1024x1024 : Shape := ⟨3, ![1, 1024, 1024]⟩
abbrev S1x1024x512 : Shape := ⟨3, ![1, 1024, 512]⟩
abbrev S1x1024x3072 : Shape := ⟨3, ![1, 1024, 3072]⟩
abbrev S1x1x1024 : Shape := ⟨3, ![1, 1, 1024]⟩
abbrev S1024x512 : Shape := ⟨2, ![1024, 512]⟩
abbrev S1x512x1024 : Shape := ⟨3, ![1, 512, 1024]⟩
abbrev S512x1024 : Shape := ⟨2, ![512, 1024]⟩
abbrev S1024x1 : Shape := ⟨2, ![1024, 1]⟩

abbrev nBuf : Space → Nat
  | .hbm => 24
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S1024, .f32⟩
  | .hbm, ⟨3, _⟩ => ⟨S4x8192x512, .f32⟩
  | .hbm, ⟨4, _⟩ => ⟨S4x8192x512, .f32⟩
  | .hbm, ⟨5, _⟩ => ⟨S4x8192x512, .f32⟩
  | .hbm, ⟨6, _⟩ => ⟨S4x8192x3072, .f32⟩
  | .hbm, ⟨7, _⟩ => ⟨S3x512x1024, .f32⟩
  | .hbm, ⟨8, _⟩ => ⟨S1024x1024, .f32⟩
  | .hbm, ⟨9, _⟩ => ⟨S4x8192x512, .bf16⟩
  | .hbm, ⟨10, _⟩ => ⟨S4x8192x512, .bf16⟩
  | .hbm, ⟨11, _⟩ => ⟨S4x8192x3072, .f32⟩
  | .hbm, ⟨12, _⟩ => ⟨S4x8192x3072, .f32⟩
  | .hbm, ⟨13, _⟩ => ⟨S_, .f32⟩
  | .hbm, ⟨14, _⟩ => ⟨S4x8192x3072, .f32⟩
  | .hbm, ⟨15, _⟩ => ⟨S4x8192x3072, .f32⟩
  | .hbm, ⟨16, _⟩ => ⟨S_, .f32⟩
  | .hbm, ⟨17, _⟩ => ⟨S4x8192x3072, .f32⟩
  | .hbm, ⟨18, _⟩ => ⟨S4x8192x3072, .f32⟩
  | .hbm, ⟨19, _⟩ => ⟨S4x8192x3072, .bf16⟩
  | .hbm, ⟨20, _⟩ => ⟨S3x512x1024, .bf16⟩
  | .hbm, ⟨21, _⟩ => ⟨S1024x1024, .bf16⟩
  | .hbm, ⟨22, _⟩ => ⟨S1x1024, .f32⟩
  | .hbm, ⟨23, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x3072, .bf16⟩
  | .local _ .vmem, ⟨9, _⟩ => ⟨S1x1024x3072, .bf16⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024x1024, .f32⟩
  | .local _ .vmem, ⟨16, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4x8192x1024 : Shape := ⟨3, ![4, 8192, 1024]⟩
abbrev S4x1x1024 : Shape := ⟨3, ![4, 1, 1024]⟩
abbrev S1024 : Shape := ⟨1, ![1024]⟩
abbrev S4x8192x512 : Shape := ⟨3, ![4, 8192, 512]⟩
abbrev S4x8192x3072 : Shape := ⟨3, ![4, 8192, 3072]⟩
abbrev S3x512x1024 : Shape := ⟨3, ![3, 512, 1024]⟩
abbrev S1024x1024 : Shape := ⟨2, ![1024, 1024]⟩
abbrev S_ : Shape := ⟨0, ![]⟩
abbrev S1x512x1024 : Shape := ⟨3, ![1, 512, 1024]⟩
abbrev S512x1024 : Shape := ⟨2, ![512, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S1024, .f32⟩
  | .hbm, ⟨3, _⟩ => ⟨S4x8192x512, .f32⟩
  | .hbm, ⟨4, _⟩ => ⟨S4x8192x512, .f32⟩
  | .hbm, ⟨5, _⟩ => ⟨S4x8192x512, .f32⟩
  | .hbm, ⟨6, _⟩ => ⟨S4x8192x3072, .f32⟩
  | .hbm, ⟨7, _⟩ => ⟨S3x512x1024, .f32⟩
  | .hbm, ⟨8, _⟩ => ⟨S1024x1024, .f32⟩
  | .hbm, ⟨9, _⟩ => ⟨S4x8192x3072, .f32⟩
  | .hbm, ⟨10, _⟩ => ⟨S4x8192x3072, .f32⟩
  | .hbm, ⟨11, _⟩ => ⟨S_, .f32⟩
  | .hbm, ⟨12, _⟩ => ⟨S4x8192x3072, .f32⟩
  | .hbm, ⟨13, _⟩ => ⟨S4x8192x3072, .f32⟩
  | .hbm, ⟨14, _⟩ => ⟨S_, .f32⟩
  | .hbm, ⟨15, _⟩ => ⟨S4x8192x3072, .f32⟩
  | .hbm, ⟨16, _⟩ => ⟨S4x8192x3072, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S1x512x1024, .f32⟩
  | .hbm, ⟨21, _⟩ => ⟨S512x1024, .f32⟩
  | .hbm, ⟨22, _⟩ => ⟨S4x8192x1024, .f32⟩
  | .hbm, ⟨23, _⟩ => ⟨S4x8192x1024, .f32⟩
  | .hbm, ⟨24, _⟩ => ⟨S1x512x1024, .f32⟩
  | .hbm, ⟨25, _⟩ => ⟨S512x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S1x512x1024, .f32⟩
  | .hbm, ⟨30, _⟩ => ⟨S512x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S4x8192x1, .f32⟩
  | .hbm, ⟨46, _⟩ => ⟨S4x8192x1024, .f32⟩
  | .hbm, ⟨47, _⟩ => ⟨S4x8192x1024, .f32⟩
  | .hbm, ⟨48, _⟩ => ⟨S1x1x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1x1024 : Shape := ⟨3, ![4, 1, 1024]⟩
abbrev S1024 : Shape := ⟨1, ![1024]⟩
abbrev S1024x6432 : Shape := ⟨2, ![1024, 6432]⟩
abbrev S256 : Shape := ⟨1, ![256]⟩
abbrev S256x1024 : Shape := ⟨2, ![256, 1024]⟩
abbrev S3x1536 : Shape := ⟨2, ![3, 1536]⟩
abbrev S1536 : Shape := ⟨1, ![1536]⟩
abbrev S8192x128 : Shape := ⟨2, ![8192, 128]⟩
abbrev S1x1024 : Shape := ⟨2, ![1, 1024]⟩
abbrev S1024x768 : Shape := ⟨2, ![1024, 768]⟩
abbrev S1024x256 : Shape := ⟨2, ![1024, 256]⟩
abbrev S1024x32 : Shape := ⟨2, ![1024, 32]⟩
abbrev S1024x512 : Shape := ⟨2, ![1024, 512]⟩
abbrev S1024x128 : Shape := ⟨2, ![1024, 128]⟩
abbrev S1024x1536 : Shape := ⟨2, ![1024, 1536]⟩
abbrev S1024x3072 : Shape := ⟨2, ![1024, 3072]⟩
abbrev S1024x8x96 : Shape := ⟨3, ![1024, 8, 96]⟩
abbrev S_ : Shape := ⟨0, ![]⟩
abbrev S1024x8x128 : Shape := ⟨3, ![1024, 8, 128]⟩
abbrev S1024x1024 : Shape := ⟨2, ![1024, 1024]⟩
abbrev S1024x2x1x64 : Shape := ⟨4, ![1024, 2, 1, 64]⟩
abbrev S1024x2x1x2x64 : Shape := ⟨5, ![1024, 2, 1, 2, 64]⟩
abbrev S1024x2x2x64 : Shape := ⟨4, ![1024, 2, 2, 64]⟩
abbrev S1024x7040 : Shape := ⟨2, ![1024, 7040]⟩
abbrev S256x8x128 : Shape := ⟨3, ![256, 8, 128]⟩
abbrev S256x8x64 : Shape := ⟨3, ![256, 8, 64]⟩
abbrev S256x512 : Shape := ⟨2, ![256, 512]⟩
abbrev S256x1536 : Shape := ⟨2, ![256, 1536]⟩
abbrev S1x256 : Shape := ⟨2, ![1, 256]⟩
abbrev S1x1536 : Shape := ⟨2, ![1, 1536]⟩
abbrev S4x8192x512 : Shape := ⟨3, ![4, 8192, 512]⟩
abbrev S4x8192x256 : Shape := ⟨3, ![4, 8192, 256]⟩
abbrev S4x8192x3072 : Shape := ⟨3, ![4, 8192, 3072]⟩
abbrev S1x512x1024 : Shape := ⟨3, ![1, 512, 1024]⟩
abbrev S1x8x1024 : Shape := ⟨3, ![1, 8, 1024]⟩
abbrev S1x1x1024 : Shape := ⟨3, ![1, 1, 1024]⟩
abbrev S512x128 : Shape := ⟨2, ![512, 128]⟩
abbrev S1x512x512 : Shape := ⟨3, ![1, 512, 512]⟩
abbrev S1x512x256 : Shape := ⟨3, ![1, 512, 256]⟩
abbrev S1x512x3072 : Shape := ⟨3, ![1, 512, 3072]⟩
abbrev S512x1024 : Shape := ⟨2, ![512, 1024]⟩
abbrev S8x1024 : Shape := ⟨2, ![8, 1024]⟩
abbrev S528x1024 : Shape := ⟨2, ![528, 1024]⟩
abbrev S528 : Shape := ⟨1, ![528]⟩
abbrev S528x1 : Shape := ⟨2, ![528, 1]⟩
abbrev S1x512x128 : Shape := ⟨3, ![1, 512, 128]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩
abbrev S512x512 : Shape := ⟨2, ![512, 512]⟩
abbrev S528x1536 : Shape := ⟨2, ![528, 1536]⟩
abbrev S512x3072 : Shape := ⟨2, ![512, 3072]⟩

abbrev nBuf : Space → Nat
  | .hbm => 64
  | .vmem => 48
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x6432, .f32⟩
  | .hbm, ⟨5, _⟩ => ⟨S256, .f32⟩
  | .hbm, ⟨6, _⟩ => ⟨S256x1024, .f32⟩
  | .hbm, ⟨7, _⟩ => ⟨S3x1536, .f32⟩
  | .hbm, ⟨8, _⟩ => ⟨S1536, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S1x1024, .f32⟩
  | .hbm, ⟨16, _⟩ => ⟨S1024x768, .f32⟩
  | .hbm, ⟨17, _⟩ => ⟨S1024x256, .f32⟩
  | .hbm, ⟨18, _⟩ => ⟨S1024x32, .f32⟩
  | .hbm, ⟨19, _⟩ => ⟨S1024x512, .f32⟩
  | .hbm, ⟨20, _⟩ => ⟨S1024x128, .f32⟩
  | .hbm, ⟨21, _⟩ => ⟨S1024x128, .f32⟩
  | .hbm, ⟨22, _⟩ => ⟨S1024x1536, .f32⟩
  | .hbm, ⟨23, _⟩ => ⟨S1024x3072, .f32⟩
  | .hbm, ⟨24, _⟩ => ⟨S1024x8x96, .f32⟩
  | .hbm, ⟨25, _⟩ => ⟨S_, .i32⟩
  | .hbm, ⟨26, _⟩ => ⟨S_, .f32⟩
  | .hbm, ⟨27, _⟩ => ⟨S1024x8x128, .f32⟩
  | .hbm, ⟨28, _⟩ => ⟨S1024x1024, .f32⟩
  | .hbm, ⟨29, _⟩ => ⟨S_, .i32⟩
  | .hbm, ⟨30, _⟩ => ⟨S_, .f32⟩
  | .hbm, ⟨31, _⟩ => ⟨S1024x128, .f32⟩
  | .hbm, ⟨32, _⟩ => ⟨S1024x2x1x64, .f32⟩
  | .hbm, ⟨33, _⟩ => ⟨S1024x2x1x2x64, .f32⟩
  | .hbm, ⟨34, _⟩ => ⟨S1024x2x2x64, .f32⟩
  | .hbm, ⟨35, _⟩ => ⟨S1024x256, .f32⟩
  | .hbm, ⟨36, _⟩ => ⟨S1024x2x1x64, .f32⟩
  | .hbm, ⟨37, _⟩ => ⟨S1024x2x1x2x64, .f32⟩
  | .hbm, ⟨38, _⟩ => ⟨S1024x2x2x64, .f32⟩
  | .hbm, ⟨39, _⟩ => ⟨S1024x256, .f32⟩
  | .hbm, ⟨40, _⟩ => ⟨S1024x7040, .f32⟩
  | .hbm, ⟨41, _⟩ => ⟨S1024x7040, .bf16⟩
  | .hbm, ⟨42, _⟩ => ⟨S256x8x128, .f32⟩
  | .hbm, ⟨43, _⟩ => ⟨S256x8x64, .f32⟩
  | .hbm, ⟨44, _⟩ => ⟨S_, .i32⟩
  | .hbm, ⟨45, _⟩ => ⟨S_, .f32⟩
  | .hbm, ⟨46, _⟩ => ⟨S256x8x128, .f32⟩
  | .hbm, ⟨47, _⟩ => ⟨S256x1024, .f32⟩
  | .hbm, ⟨48, _⟩ => ⟨S256x8x64, .f32⟩
  | .hbm, ⟨49, _⟩ => ⟨S256x512, .f32⟩
  | .hbm, ⟨50, _⟩ => ⟨S256x1536, .f32⟩
  | .hbm, ⟨51, _⟩ => ⟨S256x1536, .bf16⟩
  | .hbm, ⟨52, _⟩ => ⟨S1x256, .f32⟩
  | .hbm, ⟨53, _⟩ => ⟨S1x1536, .f32⟩
  | .hbm, ⟨54, _⟩ => ⟨S4x8192x1024, .bf16⟩
  | .hbm, ⟨55, _⟩ => ⟨S4x8192x1024, .bf16⟩
  | .hbm, ⟨56, _⟩ => ⟨S4x8192x1024, .bf16⟩
  | .hbm, ⟨57, _⟩ => ⟨S4x8192x512, .bf16⟩
  | .hbm, ⟨58, _⟩ => ⟨S4x8192x256, .bf16⟩
  | .hbm, ⟨59, _⟩ => ⟨S4x8192x256, .bf16⟩
  | .hbm, ⟨60, _⟩ => ⟨S4x8192x512, .f32⟩
  | .hbm, ⟨61, _⟩ => ⟨S4x8192x512, .f32⟩
  | .hbm, ⟨62, _⟩ => ⟨S4x8192x512, .f32⟩
  | .hbm, ⟨63, _⟩ => ⟨S4x8192x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x7040, .bf16⟩
  | .local _ .vmem, ⟨12, _⟩ => ⟨S256x1536, .bf16⟩
  | .local _ .vmem, ⟨13, _⟩ => ⟨S1x256, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S3x1536, .f32⟩
  | .local _ .vmem, ⟨27, _⟩ => ⟨S1x1536, .f32⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x512, .bf16⟩
  | .local _ .vmem, ⟨35, _⟩ => ⟨S1x512x512, .bf16⟩
  | .local _ .vmem, ⟨36, _⟩ => ⟨S1x512x256, .bf16⟩
  | .local _ .vmem, ⟨37, _⟩ => ⟨S1x512x256, .bf16⟩
  | .local _ .vmem, ⟨38, _⟩ => ⟨S1x512x256, .bf16⟩
  | .local _ .vmem, ⟨39, _⟩ => ⟨S1x512x256, .bf16⟩
  | .local _ .vmem, ⟨40, _⟩ => ⟨S1x512x512, .f32⟩
  | .local _ .vmem, ⟨41, _⟩ => ⟨S1x512x512, .f32⟩
  | .local _ .vmem, ⟨42, _⟩ => ⟨S1x512x512, .f32⟩
  | .local _ .vmem, ⟨43, _⟩ => ⟨S1x512x512, .f32⟩
  | .local _ .vmem, ⟨44, _⟩ => ⟨S1x512x512, .f32⟩
  | .local _ .vmem, ⟨45, _⟩ => ⟨S1x512x512, .f32⟩
  | .local _ .vmem, ⟨46, _⟩ => ⟨S1x512x3072, .bf16⟩
  | .local _ .vmem, ⟨47, _⟩ => ⟨S1x512x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_call0_v0 : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_call1_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_1 : Ref sig .tc := ⟨.hbm, 44, rfl⟩
abbrev main_call2_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33_0 : Ref sig .tc := ⟨.hbm, 54, rfl⟩
abbrev main_v33_1 : Ref sig .tc := ⟨.hbm, 55, rfl⟩
abbrev main_v33_2 : Ref sig .tc := ⟨.hbm, 56, rfl⟩
abbrev main_v33_3 : Ref sig .tc := ⟨.hbm, 57, rfl⟩
abbrev main_v33_4 : Ref sig .tc := ⟨.hbm, 58, rfl⟩
abbrev main_v33_5 : Ref sig .tc := ⟨.hbm, 59, rfl⟩
abbrev main_v33_6 : Ref sig .tc := ⟨.hbm, 60, rfl⟩
abbrev main_v33_7 : Ref sig .tc := ⟨.hbm, 61, rfl⟩
abbrev main_v33_8 : Ref sig .tc := ⟨.hbm, 62, rfl⟩
abbrev main_v33_9 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_stg26_0 : Ref sig .tc := ⟨.vmem, 46, rfl⟩
abbrev cc0_stg26_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45
abbrev cc0_sem26_0 : DmaSem sig := 46
abbrev cc0_sem26_1 : DmaSem sig := 47

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x7040 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S3x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x3072 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Reference4Ideal.lean ====
abbrev S4x8192x1024 : Shape := ⟨3, ![4, 8192, 1024]⟩
abbrev S4x1x1024 : Shape := ⟨3, ![4, 1, 1024]⟩
abbrev S1024 : Shape := ⟨1, ![1024]⟩
abbrev S1024x6432 : Shape := ⟨2, ![1024, 6432]⟩
abbrev S256 : Shape := ⟨1, ![256]⟩
abbrev S256x1024 : Shape := ⟨2, ![256, 1024]⟩
abbrev S3x1536 : Shape := ⟨2, ![3, 1536]⟩
abbrev S1536 : Shape := ⟨1, ![1536]⟩
abbrev S8192x128 : Shape := ⟨2, ![8192, 128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6432 : Shape := ⟨3, ![4, 8192, 6432]⟩
abbrev S4x8192x1536 : Shape := ⟨3, ![4, 8192, 1536]⟩
abbrev S4x8194x1536 : Shape := ⟨3, ![4, 8194, 1536]⟩
abbrev S1x1536 : Shape := ⟨2, ![1, 1536]⟩
abbrev S1x1x1536 : Shape := ⟨3, ![1, 1, 1536]⟩
abbrev S4x8192x512 : Shape := ⟨3, ![4, 8192, 512]⟩
abbrev S4x8192x3072 : Shape := ⟨3, ![4, 8192, 3072]⟩

abbrev nBuf : Space → Nat
  | .hbm => 79
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x6432, .f32⟩
  | .hbm, ⟨5, _⟩ => ⟨S256, .f32⟩
  | .hbm, ⟨6, _⟩ => ⟨S256x1024, .f32⟩
  | .hbm, ⟨7, _⟩ => ⟨S3x1536, .f32⟩
  | .hbm, ⟨8, _⟩ => ⟨S1536, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S4x8192x1024, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S4x8192x6432, .f32⟩
  | .hbm, ⟨39, _⟩ => ⟨S4x8192x1536, .f32⟩
  | .hbm, ⟨40, _⟩ => ⟨S_, .i32⟩
  | .hbm, ⟨41, _⟩ => ⟨S_, .f32⟩
  | .hbm, ⟨42, _⟩ => ⟨S4x8194x1536, .f32⟩
  | .hbm, ⟨43, _⟩ => ⟨S4x8192x1536, .f32⟩
  | .hbm, ⟨44, _⟩ => ⟨S1x1536, .f32⟩
  | .hbm, ⟨45, _⟩ => ⟨S1536, .f32⟩
  | .hbm, ⟨46, _⟩ => ⟨S1x1x1536, .f32⟩
  | .hbm, ⟨47, _⟩ => ⟨S4x8192x1536, .f32⟩
  | .hbm, ⟨48, _⟩ => ⟨S4x8192x1536, .f32⟩
  | .hbm, ⟨49, _⟩ => ⟨S4x8192x1536, .f32⟩
  | .hbm, ⟨50, _⟩ => ⟨S1x1536, .f32⟩
  | .hbm, ⟨51, _⟩ => ⟨S1536, .f32⟩
  | .hbm, ⟨52, _⟩ => ⟨S1x1x1536, .f32⟩
  | .hbm, ⟨53, _⟩ => ⟨S4x8192x1536, .f32⟩
  | .hbm, ⟨54, _⟩ => ⟨S4x8192x1536, .f32⟩
  | .hbm, ⟨55, _⟩ => ⟨S4x8192x1536, .f32⟩
  | .hbm, ⟨56, _⟩ => ⟨S4x8192x1536, .f32⟩
  | .hbm, ⟨57, _⟩ => ⟨S1x1536, .f32⟩
  | .hbm, ⟨58, _⟩ => ⟨S1536, .f32⟩
  | .hbm, ⟨59, _⟩ => ⟨S1x1x1536, .f32⟩
  | .hbm, ⟨60, _⟩ => ⟨S4x8192x1536, .f32⟩
  | .hbm, ⟨61, _⟩ => ⟨S4x8192x1536, .f32⟩
  | .hbm, ⟨62, _⟩ => ⟨S4x8192x1536, .f32⟩
  | .hbm, ⟨63, _⟩ => ⟨S1x1x1536, .f32⟩
  | .hbm, ⟨64, _⟩ => ⟨S4x8192x1536, .f32⟩
  | .hbm, ⟨65, _⟩ => ⟨S4x8192x1536, .f32⟩
  | .hbm, ⟨66, _⟩ => ⟨S4x8192x512, .f32⟩
  | .hbm, ⟨67, _⟩ => ⟨S4x8192x512, .f32⟩
  | .hbm, ⟨68, _⟩ => ⟨S4x8192x512, .f32⟩
  | .hbm, ⟨69, _⟩ => ⟨S4x8192x3072, .f32⟩
  | .hbm, ⟨70, _⟩ => ⟨S4x8192x3072, .f32⟩
  | .hbm, ⟨71, _⟩ => ⟨S4x8192x3072, .f32⟩
  | .hbm, ⟨72, _⟩ => ⟨S_, .f32⟩
  | .hbm, ⟨73, _⟩ => ⟨S4x8192x3072, .f32⟩
  | .hbm, ⟨74, _⟩ => ⟨S4x8192x3072, .f32⟩
  | .hbm, ⟨75, _⟩ => ⟨S_, .f32⟩
  | .hbm, ⟨76, _⟩ => ⟨S4x8192x3072, .f32⟩
  | .hbm, ⟨77, _⟩ => ⟨S4x8192x3072, .f32⟩
  | .hbm, ⟨78, _⟩ => ⟨S4x8192x3072, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c : Ref sig .tc := ⟨.hbm, 40, rfl⟩
abbrev main_call0_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_3 : Ref sig .tc := ⟨.hbm, 72, rfl⟩
abbrev main_v51 : Ref sig .tc := ⟨.hbm, 73, rfl⟩
abbrev main_v52 : Ref sig .tc := ⟨.hbm, 74, rfl⟩
abbrev main_cst_4 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Proof.ProjFrame.lean ====
/- The idealized projection kernel: its run, with the arrays it ends with, and its frame. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer as the pipeline finds it, after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- The program is its host operations, then the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The host operations leave the arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- A window's block of its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block whenever the body runs. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1620000 in
/-- A run of the pipeline keeps the arguments. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).1 4).trans (((dats 0 c).arrAt_in 4 rfl _).trans ((hA c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 15).trans (((dats 0 c).arrAt_in 15 rfl _).trans ((hA c 15).trans (V_main_arg7 m c))),
      ((h c).2 main_arg8 (Pipeline.mem_restRefs_of main_arg8 (by decide) (by decide))).trans (V_main_arg8 m c),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c)))⟩) h

/-- The loaded and stored parts. -/
abbrev r0_0 : Rect S1x1024 := Rect.unit (s := S1x1024) ![0, 0] S1x1024.size inb_S1x1024_S1x1024_0_0
abbrev r0_1 : Rect S1x1x1024 := Rect.unit (s := S1x1x1024) ![0, 0, 0] S1x1x1024.size inb_S1x1x1024_S1x1x1024_0_0_0
abbrev r0_2 : Rect S1x512x1024 := Rect.unit (s := S1x512x1024) ![0, 0, 0] S1x512x1024.size inb_S1x512x1024_S1x512x1024_0_0_0
abbrev r0_3 : Rect S1x8x1024 := Rect.unit (s := S1x8x1024) ![0, 0, 0] S1x8x1024.size inb_S1x8x1024_S1x8x1024_0_0_0
abbrev r0_4 : Rect S512x128 := Rect.unit (s := S512x128) ![0, 0] S512x128.size inb_S512x128_S512x128_0_0
abbrev r0_5 : Rect S1024x7040 := Rect.unit (s := S1024x7040) ![0, 0] S1024x1024.size inb_S1024x7040_S1024x1024_0_0
abbrev r0_6 : Rect S1x512x1024 := Rect.unit (s := S1x512x1024) ![0, 0, 0] S1x512x128.size inb_S1x512x1024_S1x512x128_0_0_0
abbrev r0_7 : Rect S1x512x1024 := Rect.unit (s := S1x512x1024) ![0, 0, 128] S1x512x128.size inb_S1x512x1024_S1x512x128_0_0_128
abbrev r0_8 : Rect S1x512x1024 := Rect.unit (s := S1x512x1024) ![0, 0, 256] S1x512x128.size inb_S1x512x1024_S1x512x128_0_0_256
abbrev r0_9 : Rect S1x512x1024 := Rect.unit (s := S1x512x1024) ![0, 0, 384] S1x512x128.size inb_S1x512x1024_S1x512x128_0_0_384
abbrev r0_10 : Rect S1x512x1024 := Rect.unit (s := S1x512x1024) ![0, 0, 512] S1x512x128.size inb_S1x512x1024_S1x512x128_0_0_512
abbrev r0_11 : Rect S1x512x1024 := Rect.unit (s := S1x512x1024) ![0, 0, 640] S1x512x128.size inb_S1x512x1024_S1x512x128_0_0_640
abbrev r0_12 : Rect S1x512x1024 := Rect.unit (s := S1x512x1024) ![0, 0, 768] S1x512x128.size inb_S1x512x1024_S1x512x128_0_0_768
abbrev r0_13 : Rect S1x512x1024 := Rect.unit (s := S1x512x1024) ![0, 0, 896] S1x512x128.size inb_S1x512x1024_S1x512x128_0_0_896
abbrev r0_14 : Rect S1024x7040 := Rect.unit (s := S1024x7040) ![0, 1024] S1024x256.size inb_S1024x7040_S1024x256_0_1024
abbrev r0_15 : Rect S1x256 := Rect.unit (s := S1x256) ![0, 0] S1x256.size inb_S1x256_S1x256_0_0
abbrev r0_16 : Rect S256x1536 := Rect.unit (s := S256x1536) ![0, 0] S256x1536.size inb_S256x1536_S256x1536_0_0
abbrev r0_17 : Rect S1024x7040 := Rect.unit (s := S1024x7040) ![0, 1280] S1024x128.size inb_S1024x7040_S1024x128_0_1280
abbrev r0_18 : Rect S1024x7040 := Rect.unit (s := S1024x7040) ![0, 1408] S1024x512.size inb_S1024x7040_S1024x512_0_1408
abbrev r0_19 : Rect S1x512x512 := Rect.unit (s := S1x512x512) ![0, 0, 0] S1x512x128.size inb_S1x512x512_S1x512x128_0_0_0
abbrev r0_20 : Rect S1x512x512 := Rect.unit (s := S1x512x512) ![0, 0, 128] S1x512x128.size inb_S1x512x512_S1x512x128_0_0_128
abbrev r0_21 : Rect S1x512x512 := Rect.unit (s := S1x512x512) ![0, 0, 256] S1x512x128.size inb_S1x512x512_S1x512x128_0_0_256
abbrev r0_22 : Rect S1x512x512 := Rect.unit (s := S1x512x512) ![0, 0, 384] S1x512x128.size inb_S1x512x512_S1x512x128_0_0_384
abbrev r0_23 : Rect S1024x7040 := Rect.unit (s := S1024x7040) ![0, 1920] S1024x256.size inb_S1024x7040_S1024x256_0_1920
abbrev r0_24 : Rect S1x512x256 := Rect.unit (s := S1x512x256) ![0, 0, 0] S1x512x128.size inb_S1x512x256_S1x512x128_0_0_0
abbrev r0_25 : Rect S1x512x256 := Rect.unit (s := S1x512x256) ![0, 0, 128] S1x512x128.size inb_S1x512x256_S1x512x128_0_0_128
abbrev r0_26 : Rect S1024x7040 := Rect.unit (s := S1024x7040) ![0, 2176] S1024x256.size inb_S1024x7040_S1024x256_0_2176
abbrev r0_27 : Rect S1x512x256 := Rect.unit (s := S1x512x256) ![0, 0, 0] S1x512x256.size inb_S1x512x256_S1x512x256_0_0_0
abbrev r0_28 : Rect S1024x7040 := Rect.unit (s := S1024x7040) ![0, 2432] S1024x1536.size inb_S1024x7040_S1024x1536_0_2432
abbrev r0_29 : Rect S3x1536 := Rect.unit (s := S3x1536) ![0, 0] S1x1536.size inb_S3x1536_S1x1536_0_0
abbrev r0_30 : Rect S3x1536 := Rect.unit (s := S3x1536) ![1, 0] S1x1536.size inb_S3x1536_S1x1536_1_0
abbrev r0_31 : Rect S3x1536 := Rect.unit (s := S3x1536) ![2, 0] S1x1536.size inb_S3x1536_S1x1536_2_0
abbrev r0_32 : Rect S1x1536 := Rect.unit (s := S1x1536) ![0, 0] S1x1536.size inb_S1x1536_S1x1536_0_0
abbrev r0_33 : Rect S1x512x512 := Rect.unit (s := S1x512x512) ![0, 0, 0] S1x512x512.size inb_S1x512x512_S1x512x512_0_0_0
abbrev r0_34 : Rect S1024x7040 := Rect.unit (s := S1024x7040) ![0, 3968] S1024x3072.size inb_S1024x7040_S1024x3072_0_3968
abbrev r0_35 : Rect S1x512x3072 := Rect.unit (s := S1x512x3072) ![0, 0, 0] S1x512x3072.size inb_S1x512x3072_S1x512x3072_0_0_0

/-- Values that several results share. -/
def k0_pay57 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : FVec F S528x1024 .bf16 :=
  k0_pay4 (View.ld x5 r0_0) (View.ld x3 r0_1) (View.ld x4 r0_1) (View.ld x0 r0_2) (View.ld x1 r0_3) (View.ld x2 r0_3)
def k0_pay58 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : FVec F S512x1024 .bf16 :=
  k0_pay5 (View.ld x5 r0_0) (View.ld x3 r0_1) (View.ld x4 r0_1) (View.ld x0 r0_2) (View.ld x1 r0_3) (View.ld x2 r0_3)
def k0_pay59 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : FVec F S512x1024 .f32 :=
  k0_pay6 (k0_pay58 i x0 x1 x2 x3 x4 x5 x6 x7 x8 x9 x10 x11 x12 x13 x14 x15 x16) (View.ld x6 r0_5)
def k0_pay60 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : FVec F S512x1536 .f32 :=
  k0_pay18 (k0_pay58 i x0 x1 x2 x3 x4 x5 x6 x7 x8 x9 x10 x11 x12 x13 x14 x15 x16) (View.ld x6 r0_14) (View.ld x8 r0_15) (View.ld x7 r0_16)
def k0_pay61 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : FVec F S512x128 .f32 :=
  k0_pay19 (k0_pay58 i x0 x1 x2 x3 x4 x5 x6 x7 x8 x9 x10 x11 x12 x13 x14 x15 x16) (View.ld x9 r0_4) (View.ld x10 r0_4) (View.ld x11 r0_4) (View.ld x6 r0_17)
def k0_pay62 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : FVec F S512x128 .bf16 :=
  k0_pay30 (F := F)
def k0_pay63 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : FVec F S512x512 .f32 :=
  k0_pay39 (k0_pay58 i x0 x1 x2 x3 x4 x5 x6 x7 x8 x9 x10 x11 x12 x13 x14 x15 x16) (View.ld x6 r0_18)
def k0_pay64 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : FVec F S528x1536 .f32 :=
  k0_pay52 (k0_pay57 i x0 x1 x2 x3 x4 x5 x6 x7 x8 x9 x10 x11 x12 x13 x14 x15 x16) (View.ld x6 r0_28)
def k0_pay65 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : FVec F S1x1536 .f32 :=
  k0_pay53 (BitVec.ofNat 32 (i 1).val) (k0_pay57 i x0 x1 x2 x3 x4 x5 x6 x7 x8 x9 x10 x11 x12 x13 x14 x15 x16) (View.ld x6 r0_28)

/-- What the body leaves of each result, from the blocks. -/
def out0_17 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : Vec F S1x512x1024 .bf16 :=
  View.canon [⟨r0_13, k0_pay17 (k0_pay16 (View.ld x9 r0_4) (View.ld x10 r0_4) (View.ld x11 r0_4) (k0_pay59 i x0 x1 x2 x3 x4 x5 x6 x7 x8 x9 x10 x11 x12 x13 x14 x15 x16))⟩,
    ⟨r0_12, k0_pay15 (View.ld x9 r0_4) (View.ld x10 r0_4) (View.ld x11 r0_4) (k0_pay59 i x0 x1 x2 x3 x4 x5 x6 x7 x8 x9 x10 x11 x12 x13 x14 x15 x16)⟩,
    ⟨r0_11, k0_pay14 (View.ld x9 r0_4) (View.ld x10 r0_4) (View.ld x11 r0_4) (k0_pay59 i x0 x1 x2 x3 x4 x5 x6 x7 x8 x9 x10 x11 x12 x13 x14 x15 x16)⟩,
    ⟨r0_10, k0_pay13 (k0_pay12 (View.ld x9 r0_4) (View.ld x10 r0_4) (View.ld x11 r0_4) (k0_pay59 i x0 x1 x2 x3 x4 x5 x6 x7 x8 x9 x10 x11 x12 x13 x14 x15 x16))⟩,
    ⟨r0_9, k0_pay11 (View.ld x9 r0_4) (View.ld x10 r0_4) (View.ld x11 r0_4) (k0_pay59 i x0 x1 x2 x3 x4 x5 x6 x7 x8 x9 x10 x11 x12 x13 x14 x15 x16)⟩,
    ⟨r0_8, k0_pay10 (View.ld x9 r0_4) (View.ld x10 r0_4) (View.ld x11 r0_4) (k0_pay59 i x0 x1 x2 x3 x4 x5 x6 x7 x8 x9 x10 x11 x12 x13 x14 x15 x16)⟩,
    ⟨r0_7, k0_pay9 (k0_pay8 (k0_pay58 i x0 x1 x2 x3 x4 x5 x6 x7 x8 x9 x10 x11 x12 x13 x14 x15 x16) (View.ld x9 r0_4) (View.ld x10 r0_4) (View.ld x11 r0_4) (View.ld x6 r0_5))⟩,
    ⟨r0_6, k0_pay7 (k0_pay58 i x0 x1 x2 x3 x4 x5 x6 x7 x8 x9 x10 x11 x12 x13 x14 x15 x16) (View.ld x9 r0_4) (View.ld x10 r0_4) (View.ld x11 r0_4) (View.ld x6 r0_5)⟩]

/-- The stored parts make up the block. -/
theorem cover0_17 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S1x512x1024 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S1x512x128.size (by rfl) y

def out0_18 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : Vec F S1x512x1024 .bf16 :=
  View.canon [⟨r0_13, k0_pay29 (k0_pay60 i x0 x1 x2 x3 x4 x5 x6 x7 x8 x9 x10 x11 x12 x13 x14 x15 x16) (k0_pay61 i x0 x1 x2 x3 x4 x5 x6 x7 x8 x9 x10 x11 x12 x13 x14 x15 x16)⟩,
    ⟨r0_12, k0_pay28 (k0_pay27 (k0_pay60 i x0 x1 x2 x3 x4 x5 x6 x7 x8 x9 x10 x11 x12 x13 x14 x15 x16) (k0_pay61 i x0 x1 x2 x3 x4 x5 x6 x7 x8 x9 x10 x11 x12 x13 x14 x15 x16))⟩,
    ⟨r0_11, k0_pay26 (k0_pay60 i x0 x1 x2 x3 x4 x5 x6 x7 x8 x9 x10 x11 x12 x13 x14 x15 x16) (k0_pay61 i x0 x1 x2 x3 x4 x5 x6 x7 x8 x9 x10 x11 x12 x13 x14 x15 x16)⟩,
    ⟨r0_10, k0_pay25 (k0_pay60 i x0 x1 x2 x3 x4 x5 x6 x7 x8 x9 x10 x11 x12 x13 x14 x15 x16) (k0_pay61 i x0 x1 x2 x3 x4 x5 x6 x7 x8 x9 x10 x11 x12 x13 x14 x15 x16)⟩,
    ⟨r0_9, k0_pay24 (k0_pay60 i x0 x1 x2 x3 x4 x5 x6 x7 x8 x9 x10 x11 x12 x13 x14 x15 x16) (k0_pay61 i x0 x1 x2 x3 x4 x5 x6 x7 x8 x9 x10 x11 x12 x13 x14 x15 x16)⟩,
    ⟨r0_8, k0_pay23 (k0_pay60 i x0 x1 x2 x3 x4 x5 x6 x7 x8 x9 x10 x11 x12 x13 x14 x15 x16) (k0_pay61 i x0 x1 x2 x3 x4 x5 x6 x7 x8 x9 x10 x11 x12 x13 x14 x15 x16)⟩,
    ⟨r0_7, k0_pay22 (k0_pay60 i x0 x1 x2 x3 x4 x5 x6 x7 x8 x9 x10 x11 x12 x13 x14 x15 x16) (k0_pay61 i x0 x1 x2 x3 x4 x5 x6 x7 x8 x9 x10 x11 x12 x13 x14 x15 x16)⟩,
    ⟨r0_6, k0_pay21 (k0_pay20 (k0_pay58 i x0 x1 x2 x3 x4 x5 x6 x7 x8 x9 x10 x11 x12 x13 x14 x15 x16) (View.ld x9 r0_4) (View.ld x10 r0_4) (View.ld x11 r0_4) (View.ld x6 r0_14) (View.ld x8 r0_15) (View.ld x7 r0_16) (View.ld x6 r0_17))⟩]

theorem cover0_18 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S1x512x1024 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S1x512x128.size (by rfl) y

def out0_19 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : Vec F S1x512x1024 .bf16 :=
  View.canon [⟨r0_13, k0_pay38 (k0_pay62 i x0 x1 x2 x3 x4 x5 x6 x7 x8 x9 x10 x11 x12 x13 x14 x15 x16)⟩,
    ⟨r0_12, k0_pay37 (k0_pay60 i x0 x1 x2 x3 x4 x5 x6 x7 x8 x9 x10 x11 x12 x13 x14 x15 x16)⟩,
    ⟨r0_11, k0_pay36 (k0_pay62 i x0 x1 x2 x3 x4 x5 x6 x7 x8 x9 x10 x11 x12 x13 x14 x15 x16)⟩,
    ⟨r0_10, k0_pay35 (k0_pay60 i x0 x1 x2 x3 x4 x5 x6 x7 x8 x9 x10 x11 x12 x13 x14 x15 x16)⟩,
    ⟨r0_9, k0_pay34 (F := F)⟩,
    ⟨r0_8, k0_pay33 (k0_pay60 i x0 x1 x2 x3 x4 x5 x6 x7 x8 x9 x10 x11 x12 x13 x14 x15 x16)⟩,
    ⟨r0_7, k0_pay32 (F := F)⟩,
    ⟨r0_6, k0_pay31 (k0_pay60 i x0 x1 x2 x3 x4 x5 x6 x7 x8 x9 x10 x11 x12 x13 x14 x15 x16)⟩]

theorem cover0_19 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S1x512x1024 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S1x512x128.size (by rfl) y

def out0_20 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : Vec F S1x512x512 .bf16 :=
  View.canon [⟨r0_22, k0_pay45 (View.ld x12 r0_4) (View.ld x13 r0_4) (View.ld x14 r0_4) (k0_pay63 i x0 x1 x2 x3 x4 x5 x6 x7 x8 x9 x10 x11 x12 x13 x14 x15 x16)⟩,
    ⟨r0_21, k0_pay44 (View.ld x12 r0_4) (View.ld x13 r0_4) (View.ld x14 r0_4) (k0_pay63 i x0 x1 x2 x3 x4 x5 x6 x7 x8 x9 x10 x11 x12 x13 x14 x15 x16)⟩,
    ⟨r0_20, k0_pay43 (k0_pay41 (k0_pay58 i x0 x1 x2 x3 x4 x5 x6 x7 x8 x9 x10 x11 x12 x13 x14 x15 x16) (View.ld x12 r0_4) (View.ld x13 r0_4) (View.ld x14 r0_4) (View.ld x6 r0_18)) (k0_pay42 (F := F))⟩,
    ⟨r0_19, k0_pay40 (k0_pay58 i x0 x1 x2 x3 x4 x5 x6 x7 x8 x9 x10 x11 x12 x13 x14 x15 x16) (View.ld x12 r0_4) (View.ld x13 r0_4) (View.ld x14 r0_4) (View.ld x6 r0_18)⟩]

theorem cover0_20 (p0 : Vec F S1x512x128 .bf16) (p1 : Vec F S1x512x128 .bf16) (p2 : Vec F S1x512x128 .bf16) (p3 : Vec F S1x512x128 .bf16) (y : S1x512x512.Idx) :
    ∃ pc ∈ ([⟨r0_22, p0⟩, ⟨r0_21, p1⟩, ⟨r0_20, p2⟩, ⟨r0_19, p3⟩] : List (View.Piece (Elt F) S1x512x512 .bf16)), y ∈ pc.1.set :=
  View.cover_of_tiled [⟨r0_22, p0⟩, ⟨r0_21, p1⟩, ⟨r0_20, p2⟩, ⟨r0_19, p3⟩] S1x512x128.size (by rfl) y

def out0_21 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : Vec F S1x512x256 .bf16 :=
  View.canon [⟨r0_25, k0_pay50 (View.ld x12 r0_4) (View.ld x13 r0_4) (View.ld x14 r0_4) (k0_pay46 (k0_pay58 i x0 x1 x2 x3 x4 x5 x6 x7 x8 x9 x10 x11 x12 x13 x14 x15 x16) (View.ld x6 r0_23))⟩,
    ⟨r0_24, k0_pay49 (View.ld x13 r0_4) (View.ld x14 r0_4) (k0_pay47 (k0_pay58 i x0 x1 x2 x3 x4 x5 x6 x7 x8 x9 x10 x11 x12 x13 x14 x15 x16) (View.ld x6 r0_23)) (k0_pay48 (k0_pay58 i x0 x1 x2 x3 x4 x5 x6 x7 x8 x9 x10 x11 x12 x13 x14 x15 x16) (View.ld x12 r0_4) (View.ld x6 r0_23)) 96#32⟩]

theorem cover0_21 (p0 : Vec F S1x512x128 .bf16) (p1 : Vec F S1x512x128 .bf16) (y : S1x512x256.Idx) :
    ∃ pc ∈ ([⟨r0_25, p0⟩, ⟨r0_24, p1⟩] : List (View.Piece (Elt F) S1x512x256 .bf16)), y ∈ pc.1.set :=
  View.cover_of_tiled [⟨r0_25, p0⟩, ⟨r0_24, p1⟩] S1x512x128.size (by rfl) y

def out0_22 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : Vec F S1x512x256 .bf16 :=
  View.canon [⟨r0_27, k0_pay51 (k0_pay58 i x0 x1 x2 x3 x4 x5 x6 x7 x8 x9 x10 x11 x12 x13 x14 x15 x16) (View.ld x6 r0_26)⟩]

theorem cover0_22 (p0 : Vec F S1x512x256 .bf16) (y : S1x512x256.Idx) :
    ∃ pc ∈ ([⟨r0_27, p0⟩] : List (View.Piece (Elt F) S1x512x256 .bf16)), y ∈ pc.1.set :=
  View.cover_of_tiled [⟨r0_27, p0⟩] S1x512x256.size (by rfl) y

def out0_23 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : Vec F S1x512x512 .f32 :=
  View.canon [⟨r0_33, k0_pay55 (BitVec.ofNat 32 (i 1).val) (k0_pay64 i x0 x1 x2 x3 x4 x5 x6 x7 x8 x9 x10 x11 x12 x13 x14 x15 x16) (k0_pay65 i x0 x1 x2 x3 x4 x5 x6 x7 x8 x9 x10 x11 x12 x13 x14 x15 x16) 15#32 (View.ld x15 r0_29) (View.ld x15 r0_30) (View.ld x15 r0_31) (View.ld x16 r0_32)⟩]

theorem cover0_23 (p0 : Vec F S1x512x512 .f32) (y : S1x512x512.Idx) :
    ∃ pc ∈ ([⟨r0_33, p0⟩] : List (View.Piece (Elt F) S1x512x512 .f32)), y ∈ pc.1.set :=
  View.cover_of_tiled [⟨r0_33, p0⟩] S1x512x512.size (by rfl) y

def out0_24 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : Vec F S1x512x512 .f32 :=
  View.canon [⟨r0_33, k0_pay1 (k0_pay56 (BitVec.ofNat 32 (i 1).val) (k0_pay64 i x0 x1 x2 x3 x4 x5 x6 x7 x8 x9 x10 x11 x12 x13 x14 x15 x16) (k0_pay65 i x0 x1 x2 x3 x4 x5 x6 x7 x8 x9 x10 x11 x12 x13 x14 x15 x16) 15#32 (View.ld x15 r0_29) (View.ld x15 r0_30) (View.ld x15 r0_31) (View.ld x16 r0_32))⟩]

theorem cover0_24 (p0 : Vec F S1x512x512 .f32) (y : S1x512x512.Idx) :
    ∃ pc ∈ ([⟨r0_33, p0⟩] : List (View.Piece (Elt F) S1x512x512 .f32)), y ∈ pc.1.set :=
  View.cover_of_tiled [⟨r0_33, p0⟩] S1x512x512.size (by rfl) y

def out0_25 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : Vec F S1x512x512 .f32 :=
  View.canon [⟨r0_33, k0_pay2 (k0_pay54 (BitVec.ofNat 32 (i 1).val) (k0_pay64 i x0 x1 x2 x3 x4 x5 x6 x7 x8 x9 x10 x11 x12 x13 x14 x15 x16) (k0_pay65 i x0 x1 x2 x3 x4 x5 x6 x7 x8 x9 x10 x11 x12 x13 x14 x15 x16) 15#32 (View.ld x15 r0_29) (View.ld x15 r0_30) (View.ld x15 r0_31) (View.ld x16 r0_32))⟩]

theorem cover0_25 (p0 : Vec F S1x512x512 .f32) (y : S1x512x512.Idx) :
    ∃ pc ∈ ([⟨r0_33, p0⟩] : List (View.Piece (Elt F) S1x512x512 .f32)), y ∈ pc.1.set :=
  View.cover_of_tiled [⟨r0_33, p0⟩] S1x512x512.size (by rfl) y

def out0_26 (i : grid0.Coords) (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) : Vec F S1x512x3072 .bf16 :=
  View.canon [⟨r0_35, k0_pay3 (k0_pay58 i x0 x1 x2 x3 x4 x5 x6 x7 x8 x9 x10 x11 x12 x13 x14 x15 x16) (View.ld x6 r0_34)⟩]

theorem cover0_26 (p0 : Vec F S1x512x3072 .bf16) (y : S1x512x3072.Idx) :
    ∃ pc ∈ ([⟨r0_35, p0⟩] : List (View.Piece (Elt F) S1x512x3072 .bf16)), y ∈ pc.1.set :=
  View.cover_of_tiled [⟨r0_35, p0⟩] S1x512x3072.size (by rfl) y

set_option maxHeartbeats 1000000 in
/-- The body's triple. -/
theorem sound_kernel (c : Dev nD) (E : Set ℕ) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x7040 .bf16) (harg8 : arg8.IsWhole) (arg9 : Memref sig .tc .vmem S256x1536 .bf16) (harg9 : arg9.IsWhole) (arg10 : Memref sig .tc .vmem S1x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S3x1536 .f32) (harg17 : arg17.IsWhole) (arg18 : Memref sig .tc .vmem S1x1536 .f32) (harg18 : arg18.IsWhole) (arg19 : Memref sig .tc .vmem S1x512x1024 .bf16) (harg19 : arg19.IsWhole) (arg20 : Memref sig .tc .vmem S1x512x1024 .bf16) (harg20 : arg20.IsWhole) (arg21 : Memref sig .tc .vmem S1x512x1024 .bf16) (harg21 : arg21.IsWhole) (arg22 : Memref sig .tc .vmem S1x512x512 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x512 .f32) (harg25 : arg25.IsWhole) (arg26 : Memref sig .tc .vmem S1x512x512 .f32) (harg26 : arg26.IsWhole) (arg27 : Memref sig .tc .vmem S1x512x512 .f32) (harg27 : arg27.IsWhole) (arg28 : Memref sig .tc .vmem S1x512x3072 .bf16) (harg28 : arg28.IsWhole)
    (x0 : Vec F S1x512x1024 .f32) (x1 : Vec F S1x8x1024 .f32) (x2 : Vec F S1x8x1024 .f32) (x3 : Vec F S1x1x1024 .f32) (x4 : Vec F S1x1x1024 .f32) (x5 : Vec F S1x1024 .f32) (x6 : Vec F S1024x7040 .bf16) (x7 : Vec F S256x1536 .bf16) (x8 : Vec F S1x256 .f32) (x9 : Vec F S512x128 .f32) (x10 : Vec F S512x128 .f32) (x11 : Vec F S512x128 .f32) (x12 : Vec F S512x128 .f32) (x13 : Vec F S512x128 .f32) (x14 : Vec F S512x128 .f32) (x15 : Vec F S3x1536 .f32) (x16 : Vec F S1x1536 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare (out0_17 i x0 x1 x2 x3 x4 x5 x6 x7 x8 x9 x10 x11 x12 x13 x14 x15 x16) ∗ owns (c : Thread nD τ) arg20 fullShare (out0_18 i x0 x1 x2 x3 x4 x5 x6 x7 x8 x9 x10 x11 x12 x13 x14 x15 x16) ∗ owns (c : Thread nD τ) arg21 fullShare (out0_19 i x0 x1 x2 x3 x4 x5 x6 x7 x8 x9 x10 x11 x12 x13 x14 x15 x16) ∗ owns (c : Thread nD τ) arg22 fullShare (out0_20 i x0 x1 x2 x3 x4 x5 x6 x7 x8 x9 x10 x11 x12 x13 x14 x15 x16) ∗ owns (c : Thread nD τ) arg23 fullShare (out0_21 i x0 x1 x2 x3 x4 x5 x6 x7 x8 x9 x10 x11 x12 x13 x14 x15 x16) ∗ owns (c : Thread nD τ) arg24 fullShare (out0_22 i x0 x1 x2 x3 x4 x5 x6 x7 x8 x9 x10 x11 x12 x13 x14 x15 x16) ∗ owns (c : Thread nD τ) arg25 fullShare (out0_23 i x0 x1 x2 x3 x4 x5 x6 x7 x8 x9 x10 x11 x12 x13 x14 x15 x16) ∗ owns (c : Thread nD τ) arg26 fullShare (out0_24 i x0 x1 x2 x3 x4 x5 x6 x7 x8 x9 x10 x11 x12 x13 x14 x15 x16) ∗ owns (c : Thread nD τ) arg27 fullShare (out0_25 i x0 x1 x2 x3 x4 x5 x6 x7 x8 x9 x10 x11 x12 x13 x14 x15 x16) ∗ owns (c : Thread nD τ) arg28 fullShare (out0_26 i x0 x1 x2 x3 x4 x5 x6 x7 x8 x9 x10 x11 x12 x13 x14 x15 x16)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _ _ _ _ _ _ _ _)).trans ?_
    rfl
  isplitl [H18]
  · iexists _; isplitr
    swap; · iexact H18
    ipureintro
    refine (View.read_writes_eq_canon _ _ _ (cover0_18 _ _ _ _ _ _ _ _)).trans ?_
    rfl
  isplitl [H19]
  · iexists _; isplitr
    swap; · iexact H19
    ipureintro
    refine (View.read_writes_eq_canon _ _ _ (cover0_19 _ _ _ _ _ _ _ _)).trans ?_
    rfl
  isplitl [H20]
  · iexists _; isplitr
    swap; · iexact H20
    ipureintro
    refine (View.read_writes_eq_canon _ _ _ (cover0_20 _ _ _ _)).trans ?_
    rfl
  isplitl [H21]
  · iexists _; isplitr
    swap; · iexact H21
    ipureintro
    refine (View.read_writes_eq_canon _ _ _ (cover0_21 _ _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  iexists _; isplitr
  swap; · iexact H26
  ipureintro
  refine (View.read_writes_eq_canon _ _ _ (cover0_26 _)).trans ?_
  rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 27, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's staging buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- What the body is given at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The triple at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body does at every point what the pipeline needs of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run ends with the arrays the proof data name and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel4Ideal.Gen

end
-- ==== Proof.Finite.lean ====
/- The precondition read back: the queries and keys are reals. -/
module

public import proofs.«01_k».proof.Proof.Gen.Pre_finite_scores
public import Idealize.ShloMosaic.Lib.ReduceAll
public import Idealize.ShloMosaic.Lib.Pipeline.ValueKit

@[expose] public section

set_option maxRecDepth 16384

noncomputable section

namespace Cert.Pre_finite_scores.At

open Idealize.ShloMosaic Idealize.SL.Sem
open Cert.Pre_finite_scores Cert.Pre_finite_scores.Gen

instance : Subsingleton S_.Idx := ⟨fun a b => funext fun i => i.elim0⟩

/-- An extended real whose absolute value is below infinity is a real. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- An array all of whose absolute values are below infinity is an array of reals. -/
theorem real_of_all {s : Shape} {axes : List (Fin s.rank)} (x : FVec Ideal s .f32) (hr : s.ReducesTo axes S_) (hb : S_.BroadcastsInDim s (![] : Fin 0 → Fin s.rank)) (j : S_.Idx)
    (e : Host.reduce IntOp.andi (cmpf .olt (Host.absf x) (broadcastInDim s ![] hb (constant S_ .f32 0x7F800000#32))) (constantI S_ 1 1#1) hr Facts.h_S_ j = 1#1) :
    ∀ i, ∃ r : ℝ, x i = (r : EReal) := fun i => real_of_lt _ (Host.reduce_andi_all _ _ _ _ j e i)

/-- The precondition holds of arrays whose queries and keys are reals. -/
theorem reals (a0 : FVec Ideal S4x8192x8x64 .f32) (a1 : FVec Ideal S4x8192x8x32 .f32) (a2 : FVec Ideal S4x256x8x64 .f32) (a3 : FVec Ideal S4x256x32 .f32)
    (a4 : FVec Ideal S4x256x8x64 .f32) (a5 : FVec Ideal S4x8192x8x64 .f32) (a6 : FVec Ideal S4x8192x32 .f32) (a7 : FVec Ideal S4x8192x8x64 .f32)
    (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a5 i = (r : EReal)) ∧ (∀ i, ∃ r : ℝ, a6 i = (r : EReal)) := by
  have j : S_.Idx := fun i => i.elim0
  have e := congrFun h j
  unfold fn fn_part1 at e
  dsimp only [andi] at e
  simp only [IntOp.andi_eq_one] at e
  obtain ⟨⟨⟨⟨⟨e0, e1⟩, e2⟩, e3⟩, e5⟩, e6⟩ := e
  exact ⟨real_of_all a0 _ _ j e0, real_of_all a1 _ _ j e1, real_of_all a2 _ _ j e2, real_of_all a3 _ _ j e3, real_of_all a5 _ _ j e5, real_of_all a6 _ _ j e6⟩

end Cert.Pre_finite_scores.At

end
-- ==== Proof.Blocks.lean ====
/- The kernel's body as blocks: for each of the two heads of a pair and each run of 128 query rows, one
   generic block program a stage; the printed body's stages are these block programs in sequence. -/
module

public import proofs.«01_k».proof.Proof.Gen.KernelIdeal.Skeleton

@[expose] public section

set_option maxRecDepth 1000000

noncomputable section

namespace Cert.KernelIdeal.Blocks

open Idealize.ShloMosaic Idealize.SL.Sem
open Cert.KernelIdeal Cert.KernelIdeal.Gen

variable {F : FTy → Type} [FloatOps F]

/-- The head (of the pair) of block number `n`. -/
def hd (n : ℕ) : Fin 2 := ⟨n / 32 % 2, Nat.mod_lt _ (by decide)⟩
/-- The row block of block number `n`. -/
def rw' (n : ℕ) : Fin 32 := ⟨n % 32, Nat.mod_lt _ (by decide)⟩

/-- The programs `f e r` of the `k` blocks from block number `s` on, one after another. -/
def seq {E : Type → Type} (f : Fin 2 → Fin 32 → Prog E Unit) (s : ℕ) : ℕ → Prog E Unit
  | 0 => pure ()
  | k + 1 => f (hd s) (rw' s) >>= fun _ => seq f (s + 1) k

theorem inb_q (e : Fin 2) (r : Fin 32) : ∀ a, (![0, 128 * r.val, 128 * e.val] : Fin 3 → Nat) a + S1x128x128.size a ≤ S1x4096x256.size a := by
  revert e r; decide
theorem inb_m (e : Fin 2) (r : Fin 32) : ∀ a, (![e.val, 128 * r.val, 0] : Fin 3 → Nat) a + S1x128x128.size a ≤ S2x4096x128.size a := by
  revert e r; decide
theorem inb_a (e : Fin 2) (r : Fin 32) : ∀ a, (![e.val, 128 * r.val, 0] : Fin 3 → Nat) a + S1x128x256.size a ≤ S2x4096x256.size a := by
  revert e r; decide
theorem inb_p (e : Fin 2) (r : Fin 32) : ∀ a, (![e.val, 128 * r.val, 0] : Fin 3 → Nat) a + S1x128x512.size a ≤ S2x4096x512.size a := by
  revert e r; decide
theorem inb_k (e : Fin 2) (k : Fin k0_t1_loop.trips) : ∀ a, (![0, k0_off1 k 1, 128 * e.val] : Fin 3 → Nat) a + S1x512x128.size a ≤ S1x8192x256.size a := by
  revert e k; decide +kernel
theorem packed_p (e : Fin 2) (r : Fin 32) : (Rect.unit (s := S2x4096x512) ![e.val, 128 * r.val, 0] S1x128x512.size (inb_p e r)).PackedRows (EltTy.packing .bf16) := by
  revert e r; decide

/-- One block of one trip of the loop over the key chunks: the scores of the block's rows against the chunk's
    keys, the running maximum, the accumulator rescaled after the previous chunk's weights met its values. -/
def smBlk (arg3 : Memref sig .tc .vmem S1x4096x256 .bf16) (arg6 : Memref sig .tc .vmem S1x8192x256 .bf16)
    (arg7 : Memref sig .tc .vmem S1x8192x256 .bf16) (arg9 : Memref sig .tc .vmem S2x4096x128 .f32)
    (arg10 : Memref sig .tc .vmem S2x4096x256 .f32) (arg11 : Memref sig .tc .vmem S2x4096x512 .bf16) (harg11 : arg11.IsWhole)
    (k : Fin k0_t1_loop.trips) (e : Fin 2) (r : Fin 32) : Prog (TpuEff nD τ sig (Elt F) Λ₀ .tc) Unit := do
  let q : Vec F S1x128x128 .bf16 ← Prog.lift (.load arg3 (Rect.unit (s := S1x4096x256) ![0, 128 * r.val, 128 * e.val] S1x128x128.size (inb_q e r)).toLoadRect (View.loadsAt_vmem h_S1x128x128))
  let kk : Vec F S1x512x128 .bf16 ← Prog.lift (.load arg6 (Rect.unit (s := S1x8192x256) ![0, k0_off1 k 1, 128 * e.val] S1x512x128.size (inb_k e k)).toLoadRect (View.loadsAt_vmem h_S1x512x128))
  let mm : Vec F S1x128x128 .f32 ← Prog.lift (.load arg9 (Rect.unit (s := S2x4096x128) ![e.val, 128 * r.val, 0] S1x128x128.size (inb_m e r)).toLoadRect (View.loadsAt_vmem h_S1x128x128))
  let aa : Vec F S1x128x256 .f32 ← Prog.lift (.load arg10 (Rect.unit (s := S2x4096x256) ![e.val, 128 * r.val, 0] S1x128x256.size (inb_a e r)).toLoadRect (View.loadsAt_vmem h_S1x128x256))
  let pp : Vec F S1x128x512 .bf16 ← Prog.lift (.load arg11 (Rect.unit (s := S2x4096x512) ![e.val, 128 * r.val, 0] S1x128x512.size (inb_p e r)).toLoadRect (View.loadsAt_vmem h_S1x128x512))
  let vv : Vec F S1x512x256 .bf16 ← Prog.lift (.load arg7 (Rect.unit (s := S1x8192x256) (k0_off2 k) S1x512x256.size (k0_off2_inb k)).toLoadRect (View.loadsAt_vmem h_S1x512x256))
  let _a : Vec F S1x128x256 .f32 ← Prog.lift (.load arg10 (Rect.unit (s := S2x4096x256) ![e.val, 128 * r.val, 0] S1x128x256.size (inb_a e r)).toLoadRect (View.loadsAt_vmem h_S1x128x256))
  Prog.lift (.store arg10 (Rect.unit (s := S2x4096x256) ![e.val, 128 * r.val, 0] S1x128x256.size (inb_a e r)) (k0_pay5 q kk mm aa pp vv) Finset.univ (View.stores_vmem_bits_univ h_S1x128x256 rfl) (.inl rfl))
  let _p : Vec F S1x128x512 .bf16 ← Prog.lift (.load arg11 (Rect.unit (s := S2x4096x512) ![e.val, 128 * r.val, 0] S1x128x512.size (inb_p e r)).toLoadRect (View.loadsAt_vmem h_S1x128x512))
  Prog.lift (.store arg11 (Rect.unit (s := S2x4096x512) ![e.val, 128 * r.val, 0] S1x128x512.size (inb_p e r)) (k0_pay7 (k0_pay6 q kk mm)) Finset.univ (View.stores_vmem h_S1x128x512 (harg11.storeExact_slice rfl _ (packed_p e r)) (fun _ => rfl)) (.inl rfl))
  let _m : Vec F S1x128x128 .f32 ← Prog.lift (.load arg9 (Rect.unit (s := S2x4096x128) ![e.val, 128 * r.val, 0] S1x128x128.size (inb_m e r)).toLoadRect (View.loadsAt_vmem h_S1x128x128))
  Prog.lift (.store arg9 (Rect.unit (s := S2x4096x128) ![e.val, 128 * r.val, 0] S1x128x128.size (inb_m e r)) (k0_pay8 (k0_pay4 q kk mm)) Finset.univ (View.stores_vmem_bits_univ h_S1x128x128 rfl) (.inl rfl))

set_option maxHeartbeats 0 in
theorem body_eq (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x4096x128 .bf16) (harg8 : arg8.IsWhole) (arg9 : Memref sig .tc .vmem S2x4096x128 .f32) (harg9 : arg9.IsWhole) (arg10 : Memref sig .tc .vmem S2x4096x256 .f32) (harg10 : arg10.IsWhole) (arg11 : Memref sig .tc .vmem S2x4096x512 .bf16) (harg11 : arg11.IsWhole) (v3235 : FVec F S128x512 .f32) (v3241 : FVec F S128x128 .f32) (v3244 : FVec F S128x256 .f32) (v3246 : FVec F S128x256 .bf16) (k : Fin k0_t1_loop.trips) :
    k0_t1_body (F := F) i arg3 harg3 arg4 harg4 arg5 harg5 arg6 harg6 arg7 harg7 arg8 harg8 arg9 harg9 arg10 harg10 arg11 harg11 v3235 v3241 v3244 v3246 k PUnit.unit
      = seq (smBlk arg3 arg6 arg7 arg9 arg10 arg11 harg11 k) 0 64 := rfl

theorem inb_kc (e : Fin 2) : ∀ a, (![0, 0, 128 * e.val] : Fin 3 → Nat) a + S1x256x128.size a ≤ S1x256x256.size a := by
  revert e; decide
theorem inb_k0 (e : Fin 2) : ∀ a, (![0, 0, 128 * e.val] : Fin 3 → Nat) a + S1x512x128.size a ≤ S1x8192x256.size a := by
  revert e; decide
theorem inb_pc (e : Fin 2) (r : Fin 32) : ∀ a, (![e.val, 128 * r.val, 0] : Fin 3 → Nat) a + S1x128x256.size a ≤ S2x4096x512.size a := by
  revert e r; decide
theorem packed_pc (e : Fin 2) (r : Fin 32) : (Rect.unit (s := S2x4096x512) ![e.val, 128 * r.val, 0] S1x128x256.size (inb_pc e r)).PackedRows (EltTy.packing .bf16) := by
  revert e r; decide

/-- One block of the pass over the context keys: the scores, their maximum by rows, the weights. -/
def ctxBlk (arg3 : Memref sig .tc .vmem S1x4096x256 .bf16) (arg4 : Memref sig .tc .vmem S1x256x256 .bf16)
    (arg9 : Memref sig .tc .vmem S2x4096x128 .f32) (arg11 : Memref sig .tc .vmem S2x4096x512 .bf16) (harg11 : arg11.IsWhole)
    (e : Fin 2) (r : Fin 32) : Prog (TpuEff nD τ sig (Elt F) Λ₀ .tc) Unit := do
  let q : Vec F S1x128x128 .bf16 ← Prog.lift (.load arg3 (Rect.unit (s := S1x4096x256) ![0, 128 * r.val, 128 * e.val] S1x128x128.size (inb_q e r)).toLoadRect (View.loadsAt_vmem h_S1x128x128))
  let kk : Vec F S1x256x128 .bf16 ← Prog.lift (.load arg4 (Rect.unit (s := S1x256x256) ![0, 0, 128 * e.val] S1x256x128.size (inb_kc e)).toLoadRect (View.loadsAt_vmem h_S1x256x128))
  let _p : Vec F S1x128x256 .bf16 ← Prog.lift (.load arg11 (Rect.unit (s := S2x4096x512) ![e.val, 128 * r.val, 0] S1x128x256.size (inb_pc e r)).toLoadRect (View.loadsAt_vmem h_S1x128x256))
  Prog.lift (.store arg11 (Rect.unit (s := S2x4096x512) ![e.val, 128 * r.val, 0] S1x128x256.size (inb_pc e r)) (k0_pay466 q kk) Finset.univ (View.stores_vmem h_S1x128x256 (harg11.storeExact_slice rfl _ (packed_pc e r)) (fun _ => rfl)) (.inl rfl))
  let _m : Vec F S1x128x128 .f32 ← Prog.lift (.load arg9 (Rect.unit (s := S2x4096x128) ![e.val, 128 * r.val, 0] S1x128x128.size (inb_m e r)).toLoadRect (View.loadsAt_vmem h_S1x128x128))
  Prog.lift (.store arg9 (Rect.unit (s := S2x4096x128) ![e.val, 128 * r.val, 0] S1x128x128.size (inb_m e r)) (k0_pay467 q kk) Finset.univ (View.stores_vmem_bits_univ h_S1x128x128 rfl) (.inl rfl))

/-- One block of the first chunk of keys: as `smBlk`, the accumulator begun from the context's weights and values. -/
def sm0Blk (arg3 : Memref sig .tc .vmem S1x4096x256 .bf16) (arg5 : Memref sig .tc .vmem S1x256x256 .bf16)
    (arg6 : Memref sig .tc .vmem S1x8192x256 .bf16) (arg9 : Memref sig .tc .vmem S2x4096x128 .f32)
    (arg10 : Memref sig .tc .vmem S2x4096x256 .f32) (arg11 : Memref sig .tc .vmem S2x4096x512 .bf16) (harg11 : arg11.IsWhole)
    (e : Fin 2) (r : Fin 32) : Prog (TpuEff nD τ sig (Elt F) Λ₀ .tc) Unit := do
  let q : Vec F S1x128x128 .bf16 ← Prog.lift (.load arg3 (Rect.unit (s := S1x4096x256) ![0, 128 * r.val, 128 * e.val] S1x128x128.size (inb_q e r)).toLoadRect (View.loadsAt_vmem h_S1x128x128))
  let kk : Vec F S1x512x128 .bf16 ← Prog.lift (.load arg6 (Rect.unit (s := S1x8192x256) ![0, 0, 128 * e.val] S1x512x128.size (inb_k0 e)).toLoadRect (View.loadsAt_vmem h_S1x512x128))
  let mm : Vec F S1x128x128 .f32 ← Prog.lift (.load arg9 (Rect.unit (s := S2x4096x128) ![e.val, 128 * r.val, 0] S1x128x128.size (inb_m e r)).toLoadRect (View.loadsAt_vmem h_S1x128x128))
  let pp : Vec F S1x128x256 .bf16 ← Prog.lift (.load arg11 (Rect.unit (s := S2x4096x512) ![e.val, 128 * r.val, 0] S1x128x256.size (inb_pc e r)).toLoadRect (View.loadsAt_vmem h_S1x128x256))
  let vv : Vec F S1x256x256 .bf16 ← Prog.lift (.load arg5 (Rect.unit (s := S1x256x256) ![0, 0, 0] S1x256x256.size inb_S1x256x256_S1x256x256_0_0_0).toLoadRect (View.loadsAt_vmem h_S1x256x256))
  let _a : Vec F S1x128x256 .f32 ← Prog.lift (.load arg10 (Rect.unit (s := S2x4096x256) ![e.val, 128 * r.val, 0] S1x128x256.size (inb_a e r)).toLoadRect (View.loadsAt_vmem h_S1x128x256))
  Prog.lift (.store arg10 (Rect.unit (s := S2x4096x256) ![e.val, 128 * r.val, 0] S1x128x256.size (inb_a e r)) (k0_pay748 (k0_pay747 q kk mm pp vv)) Finset.univ (View.stores_vmem_bits_univ h_S1x128x256 rfl) (.inl rfl))
  let _p : Vec F S1x128x512 .bf16 ← Prog.lift (.load arg11 (Rect.unit (s := S2x4096x512) ![e.val, 128 * r.val, 0] S1x128x512.size (inb_p e r)).toLoadRect (View.loadsAt_vmem h_S1x128x512))
  Prog.lift (.store arg11 (Rect.unit (s := S2x4096x512) ![e.val, 128 * r.val, 0] S1x128x512.size (inb_p e r)) (k0_pay749 (k0_pay744 q kk) (k0_pay746 q kk mm)) Finset.univ (View.stores_vmem h_S1x128x512 (harg11.storeExact_slice rfl _ (packed_p e r)) (fun _ => rfl)) (.inl rfl))
  let _m : Vec F S1x128x128 .f32 ← Prog.lift (.load arg9 (Rect.unit (s := S2x4096x128) ![e.val, 128 * r.val, 0] S1x128x128.size (inb_m e r)).toLoadRect (View.loadsAt_vmem h_S1x128x128))
  Prog.lift (.store arg9 (Rect.unit (s := S2x4096x128) ![e.val, 128 * r.val, 0] S1x128x128.size (inb_m e r)) (k0_pay750 (k0_pay746 q kk mm)) Finset.univ (View.stores_vmem_bits_univ h_S1x128x128 rfl) (.inl rfl))

/-- One block of the end: the last chunk's weights meet its values. -/
def lastBlk (arg7 : Memref sig .tc .vmem S1x8192x256 .bf16) (arg10 : Memref sig .tc .vmem S2x4096x256 .f32)
    (arg11 : Memref sig .tc .vmem S2x4096x512 .bf16)
    (e : Fin 2) (r : Fin 32) : Prog (TpuEff nD τ sig (Elt F) Λ₀ .tc) Unit := do
  let aa : Vec F S1x128x256 .f32 ← Prog.lift (.load arg10 (Rect.unit (s := S2x4096x256) ![e.val, 128 * r.val, 0] S1x128x256.size (inb_a e r)).toLoadRect (View.loadsAt_vmem h_S1x128x256))
  let pp : Vec F S1x128x512 .bf16 ← Prog.lift (.load arg11 (Rect.unit (s := S2x4096x512) ![e.val, 128 * r.val, 0] S1x128x512.size (inb_p e r)).toLoadRect (View.loadsAt_vmem h_S1x128x512))
  let vv : Vec F S1x512x256 .bf16 ← Prog.lift (.load arg7 (Rect.unit (s := S1x8192x256) ![0, 7680, 0] S1x512x256.size inb_S1x8192x256_S1x512x256_0_7680_0).toLoadRect (View.loadsAt_vmem h_S1x512x256))
  let _a : Vec F S1x128x256 .f32 ← Prog.lift (.load arg10 (Rect.unit (s := S2x4096x256) ![e.val, 128 * r.val, 0] S1x128x256.size (inb_a e r)).toLoadRect (View.loadsAt_vmem h_S1x128x256))
  Prog.lift (.store arg10 (Rect.unit (s := S2x4096x256) ![e.val, 128 * r.val, 0] S1x128x256.size (inb_a e r)) (k0_pay1280 aa pp vv) Finset.univ (View.stores_vmem_bits_univ h_S1x128x256 rfl) (.inl rfl))

/-- The end of the body: the accumulators over their sums, each head's lanes, written out. -/
def finish (arg8 : Memref sig .tc .vmem S1x4096x128 .bf16) (harg8 : arg8.IsWhole) (arg10 : Memref sig .tc .vmem S2x4096x256 .f32) :
    Prog (TpuEff nD τ sig (Elt F) Λ₀ .tc) PUnit := do
  let a0 : Vec F S1x4096x128 .f32 ← Prog.lift (.load arg10 (Rect.unit (s := S2x4096x256) ![0, 0, 0] S1x4096x128.size inb_S2x4096x256_S1x4096x128_0_0_0).toLoadRect (View.loadsAt_vmem h_S1x4096x128))
  let l0 : Vec F S1x4096x128 .f32 ← Prog.lift (.load arg10 (Rect.unit (s := S2x4096x256) ![0, 0, 128] S1x4096x128.size inb_S2x4096x256_S1x4096x128_0_0_128).toLoadRect (View.loadsAt_vmem h_S1x4096x128))
  let a1 : Vec F S1x4096x128 .f32 ← Prog.lift (.load arg10 (Rect.unit (s := S2x4096x256) ![1, 0, 0] S1x4096x128.size inb_S2x4096x256_S1x4096x128_1_0_0).toLoadRect (View.loadsAt_vmem h_S1x4096x128))
  let l1 : Vec F S1x4096x128 .f32 ← Prog.lift (.load arg10 (Rect.unit (s := S2x4096x256) ![1, 0, 128] S1x4096x128.size inb_S2x4096x256_S1x4096x128_1_0_128).toLoadRect (View.loadsAt_vmem h_S1x4096x128))
  let _o : Vec F S1x4096x128 .bf16 ← Prog.lift (.load arg8 (Rect.unit (s := S1x4096x128) ![0, 0, 0] S1x4096x128.size inb_S1x4096x128_S1x4096x128_0_0_0).toLoadRect (View.loadsAt_vmem h_S1x4096x128))
  Prog.lift (.store arg8 (Rect.unit (s := S1x4096x128) ![0, 0, 0] S1x4096x128.size inb_S1x4096x128_S1x4096x128_0_0_0) (k0_pay1 (k0_pay1283 a0 l0 a1 l1)) Finset.univ (View.stores_vmem h_S1x4096x128 (harg8.storeExact_slice rfl _ packedbf16_S1x4096x128_S1x4096x128_0_0_0) (fun _ => rfl)) (.inl rfl))
  pure ⟨⟩

/-- The loop over the key chunks, a trip being the 64 blocks in sequence. -/
def loop (arg3 : Memref sig .tc .vmem S1x4096x256 .bf16) (arg6 : Memref sig .tc .vmem S1x8192x256 .bf16)
    (arg7 : Memref sig .tc .vmem S1x8192x256 .bf16) (arg9 : Memref sig .tc .vmem S2x4096x128 .f32)
    (arg10 : Memref sig .tc .vmem S2x4096x256 .f32) (arg11 : Memref sig .tc .vmem S2x4096x512 .bf16) (harg11 : arg11.IsWhole) :
    Prog (TpuEff nD τ sig (Elt F) Λ₀ .tc) Unit :=
  Scf.Loop.for k0_t1_loop k0_t1_ok ⟨⟩ fun k _ => seq (smBlk arg3 arg6 arg7 arg9 arg10 arg11 harg11 k) 0 64

end Cert.KernelIdeal.Blocks

end
-- ==== Proof.State.lean ====
/- What the kernel's three scratch arrays hold, block by block: the running maximum, the accumulator and the weights
   of each of the 64 blocks (two heads by 32 runs of 128 rows), as functions of the staged queries, keys and values. -/
module

public import proofs.«01_k».proof.Proof.Blocks
public import Idealize.ShloMosaic.Lib.WritesUnit
public import Idealize.ShloMosaic.Lib.Pipeline.Frame

@[expose] public section

set_option maxRecDepth 16384

noncomputable section

namespace Cert.KernelIdeal.Blocks

open Idealize.ShloMosaic Idealize.SL.Sem
open Cert.KernelIdeal Cert.KernelIdeal.Gen

/-! ## Arrays made of 64 blocks -/

/-- The part of an array under a rectangle. -/
def part {α : Type} {s : Shape} (X : s.Idx → α) (r : Rect s) : r.shape.Idx → α := fun i => X (r.emb i)

/-- The index of row `r` and lane `l` of a `[1, 128, L]` block. -/
def bI {L : ℕ} (r : ℕ) (hr : r < 128) (l : Fin L) : (⟨3, ![1, 128, L]⟩ : Shape).Idx := fun a => match a with
  | ⟨0, _⟩ => ⟨0, Nat.one_pos⟩
  | ⟨1, _⟩ => ⟨r, hr⟩
  | ⟨2, _⟩ => l

/-- A `[2, 4096, L]` array made of 64 blocks of 128 rows, 32 a head. -/
def glue {α : Type} {L : ℕ} (A : ℕ → (⟨3, ![1, 128, L]⟩ : Shape).Idx → α) : (⟨3, ![2, 4096, L]⟩ : Shape).Idx → α :=
  fun j => A (32 * (j 0).val + (j 1).val / 128) (bI ((j 1).val % 128) (Nat.mod_lt _ (by decide)) (j 2))

/-- The block number `n` of an array (its last block for a number past the end). -/
def blockOf {α : Type} {L : ℕ} (X : (⟨3, ![2, 4096, L]⟩ : Shape).Idx → α) (n : ℕ) : (⟨3, ![1, 128, L]⟩ : Shape).Idx → α :=
  fun i => X fun a => match a with
    | ⟨0, _⟩ => ⟨n / 32 % 2, Nat.mod_lt _ (by decide)⟩
    | ⟨1, _⟩ => ⟨128 * (n % 32) + (i 1).val, by
        have h : (i 1).val < 128 := (i 1).isLt
        have := Nat.mod_lt n (show 0 < 32 by decide)
        show 128 * (n % 32) + (i 1).val < 4096
        omega⟩
    | ⟨2, _⟩ => i 2

/-- An array is made of its blocks. -/
theorem glue_blockOf {α : Type} {L : ℕ} (X : (⟨3, ![2, 4096, L]⟩ : Shape).Idx → α) : glue (blockOf X) = X := by
  funext j
  unfold glue blockOf
  have h0 : (j 0).val < 2 := (j 0).isLt
  have h1 : (j 1).val < 4096 := (j 1).isLt
  refine congrArg X (funext fun a => Fin.ext ?_)
  match a with
  | ⟨0, _⟩ => show (32 * (j 0).val + (j 1).val / 128) / 32 % 2 = (j 0).val; omega
  | ⟨1, _⟩ => show 128 * ((32 * (j 0).val + (j 1).val / 128) % 32) + (j 1).val % 128 = (j 1).val; omega
  | ⟨2, _⟩ => rfl

theorem hd_val (n : ℕ) : (hd n).val = n / 32 % 2 := rfl
theorem rw'_val (n : ℕ) : (rw' n).val = n % 32 := rfl

/-- The part of a glued array under block `n`'s rectangle is its block `n`. -/
theorem part_glue {α : Type} {L : ℕ} (A : ℕ → (⟨3, ![1, 128, L]⟩ : Shape).Idx → α) (n : ℕ) (hn : n < 64)
    (inb : ∀ a, (![(hd n).val, 128 * (rw' n).val, 0] : Fin 3 → ℕ) a + (⟨3, ![1, 128, L]⟩ : Shape).size a ≤ (⟨3, ![2, 4096, L]⟩ : Shape).size a) :
    part (glue A) (Rect.unit (s := ⟨3, ![2, 4096, L]⟩) ![(hd n).val, 128 * (rw' n).val, 0] (⟨3, ![1, 128, L]⟩ : Shape).size inb) = A n := by
  funext i
  have h0 : (i 0).val < 1 := (i 0).isLt
  have h1 : (i 1).val < 128 := (i 1).isLt
  have e0 : ((hd n).val + 1 * (i 0).val) = n / 32 := by have := hd_val n; omega
  have e1 : (128 * (rw' n).val + 1 * (i 1).val) = 128 * (n % 32) + (i 1).val := by have := rw'_val n; omega
  unfold part glue
  have hb : 32 * ((hd n).val + 1 * (i 0).val) + (128 * (rw' n).val + 1 * (i 1).val) / 128 = n := by rw [e0, e1]; omega
  refine (congrArg (fun b => A b _) hb).trans (congrArg (A n) (funext fun a => Fin.ext ?_))
  match a with
  | ⟨0, _⟩ => show 0 = (i 0).val; omega
  | ⟨1, _⟩ => show (128 * (rw' n).val + 1 * (i 1).val) % 128 = (i 1).val; rw [e1]; omega
  | ⟨2, _⟩ => show 0 + 1 * (i 2).val = (i 2).val; omega

/-- A `[1, 128, 512]` block with its first 256 lanes replaced. -/
def setL {α : Type} (X : (⟨3, ![1, 128, 512]⟩ : Shape).Idx → α) (G : (⟨3, ![1, 128, 256]⟩ : Shape).Idx → α) :
    (⟨3, ![1, 128, 512]⟩ : Shape).Idx → α :=
  fun i => if h : (i 2).val < 256 then G (bI (i 1).val (i 1).isLt ⟨(i 2).val, h⟩) else X i

/-- The first 256 lanes of block `n` of a glued array whose block was so replaced are the replacement. -/
theorem part_glueL {α : Type} (A : ℕ → (⟨3, ![1, 128, 512]⟩ : Shape).Idx → α) (n : ℕ) (hn : n < 64) (X : (⟨3, ![1, 128, 512]⟩ : Shape).Idx → α)
    (G : (⟨3, ![1, 128, 256]⟩ : Shape).Idx → α) (hA : A n = setL X G)
    (inb : ∀ a, (![(hd n).val, 128 * (rw' n).val, 0] : Fin 3 → ℕ) a + (⟨3, ![1, 128, 256]⟩ : Shape).size a ≤ (⟨3, ![2, 4096, 512]⟩ : Shape).size a) :
    part (glue A) (Rect.unit (s := ⟨3, ![2, 4096, 512]⟩) ![(hd n).val, 128 * (rw' n).val, 0] (⟨3, ![1, 128, 256]⟩ : Shape).size inb) = G := by
  funext i
  have h0 : (i 0).val < 1 := (i 0).isLt
  have h1 : (i 1).val < 128 := (i 1).isLt
  have h2 : (i 2).val < 256 := (i 2).isLt
  have e0 : ((hd n).val + 1 * (i 0).val) = n / 32 := by have := hd_val n; omega
  have e1 : (128 * (rw' n).val + 1 * (i 1).val) = 128 * (n % 32) + (i 1).val := by have := rw'_val n; omega
  unfold part glue
  have hb : 32 * ((hd n).val + 1 * (i 0).val) + (128 * (rw' n).val + 1 * (i 1).val) / 128 = n := by rw [e0, e1]; omega
  refine (congrArg (fun b => A b _) hb).trans ?_
  rw [hA]
  unfold setL
  refine (dif_pos (show 0 + 1 * (i 2).val < 256 by omega)).trans (congrArg G (funext fun a => Fin.ext ?_))
  match a with
  | ⟨0, _⟩ => show 0 = (i 0).val; omega
  | ⟨1, _⟩ => show (128 * (rw' n).val + 1 * (i 1).val) % 128 = (i 1).val; rw [e1]; omega
  | ⟨2, _⟩ => show 0 + 1 * (i 2).val = (i 2).val; omega

section Write

variable {κ : Kind} {sp : Space} {e : EltTy} {Val : EltTy → Type} {L : ℕ}

/-- Block `n` of a glued array stored: the array made of the blocks with that one replaced. -/
theorem write_glue {m : Memref sig κ sp ⟨3, ![2, 4096, L]⟩ e} (h : m.IsWhole) (A B : ℕ → (⟨3, ![1, 128, L]⟩ : Shape).Idx → Val e)
    (n : ℕ) (hn : n < 64) (hAB : ∀ b, b ≠ n → B b = A b)
    (inb : ∀ a, (![(hd n).val, 128 * (rw' n).val, 0] : Fin 3 → ℕ) a + (⟨3, ![1, 128, L]⟩ : Shape).size a ≤ (⟨3, ![2, 4096, L]⟩ : Shape).size a)
    (G : (⟨3, ![1, 128, L]⟩ : Shape).Idx → Val e) (hG : B n = G) :
    m.view.read Val (m.view.writes Val (h.unread (glue A)) [⟨Rect.unit (s := ⟨3, ![2, 4096, L]⟩) ![(hd n).val, 128 * (rw' n).val, 0] (⟨3, ![1, 128, L]⟩ : Shape).size inb, G⟩])
      = glue B := by
  subst hG
  funext y
  have h0 : (y 0).val < 2 := (y 0).isLt
  have h1 : (y 1).val < 4096 := (y 1).isLt
  by_cases hy : 32 * (y 0).val + (y 1).val / 128 = n
  · rw [View.read_writes_cons_unit_of_mem m.view _ inb (B n) [] y
      (bI ((y 1).val % 128) (Nat.mod_lt _ (by decide)) (y 2)) rfl ?_]
    · subst hy; rfl
    · intro a
      match a with
      | ⟨0, _⟩ => show (y 0).val = (hd n).val + 0; have := hd_val n; omega
      | ⟨1, _⟩ => show (y 1).val = 128 * (rw' n).val + (y 1).val % 128; have := rw'_val n; omega
      | ⟨2, _⟩ => show (y 2).val = 0 + (y 2).val; omega
  · have hread : m.view.read Val (m.view.writes Val (h.unread (glue A)) [⟨Rect.unit (s := ⟨3, ![2, 4096, L]⟩) ![(hd n).val, 128 * (rw' n).val, 0] (⟨3, ![1, 128, L]⟩ : Shape).size inb, B n⟩]) y
        = m.view.read Val (m.view.writes Val (h.unread (glue A)) []) y := by
      by_cases hz : (y 0).val = n / 32
      · refine View.read_writes_cons_unit_of_not_mem m.view _ inb (B n) [] y rfl 1 ?_
        show (y 1).val < 128 * (rw' n).val ∨ 128 * (rw' n).val + 128 ≤ (y 1).val
        have := rw'_val n; omega
      · refine View.read_writes_cons_unit_of_not_mem m.view _ inb (B n) [] y rfl 0 ?_
        show (y 0).val < (hd n).val ∨ (hd n).val + 1 ≤ (y 0).val
        have := hd_val n; omega
    rw [hread]
    show m.view.read Val (h.unread (glue A)) y = _
    rw [h.read_unread]
    unfold glue
    rw [hAB _ hy]

/-- The first 256 lanes of block `n` stored. -/
theorem write_glueL {m : Memref sig κ sp ⟨3, ![2, 4096, 512]⟩ e} (h : m.IsWhole) (A B : ℕ → (⟨3, ![1, 128, 512]⟩ : Shape).Idx → Val e)
    (n : ℕ) (hn : n < 64) (hAB : ∀ b, b ≠ n → B b = A b)
    (inb : ∀ a, (![(hd n).val, 128 * (rw' n).val, 0] : Fin 3 → ℕ) a + (⟨3, ![1, 128, 256]⟩ : Shape).size a ≤ (⟨3, ![2, 4096, 512]⟩ : Shape).size a)
    (G : (⟨3, ![1, 128, 256]⟩ : Shape).Idx → Val e) (hG : B n = setL (A n) G) :
    m.view.read Val (m.view.writes Val (h.unread (glue A)) [⟨Rect.unit (s := ⟨3, ![2, 4096, 512]⟩) ![(hd n).val, 128 * (rw' n).val, 0] (⟨3, ![1, 128, 256]⟩ : Shape).size inb, G⟩])
      = glue B := by
  funext y
  have h0 : (y 0).val < 2 := (y 0).isLt
  have h1 : (y 1).val < 4096 := (y 1).isLt
  by_cases hy : 32 * (y 0).val + (y 1).val / 128 = n
  · by_cases h2 : (y 2).val < 256
    · rw [View.read_writes_cons_unit_of_mem m.view _ inb G [] y
        (bI ((y 1).val % 128) (Nat.mod_lt _ (by decide)) ⟨(y 2).val, h2⟩) rfl ?_]
      · unfold glue; rw [hy, hG]; unfold setL
        split
        · rfl
        · rename_i hh; exact absurd h2 hh
      · intro a
        match a with
        | ⟨0, _⟩ => show (y 0).val = (hd n).val + 0; have := hd_val n; omega
        | ⟨1, _⟩ => show (y 1).val = 128 * (rw' n).val + (y 1).val % 128; have := rw'_val n; omega
        | ⟨2, _⟩ => show (y 2).val = 0 + (y 2).val; omega
    · rw [View.read_writes_cons_unit_of_not_mem m.view _ inb G [] y rfl 2
        (show (y 2).val < 0 ∨ 0 + 256 ≤ (y 2).val by omega)]
      show m.view.read Val (h.unread (glue A)) y = _
      rw [h.read_unread]
      unfold glue; rw [hy, hG]; unfold setL
      split
      · rename_i hh; exact absurd hh h2
      · rfl
  · have hread : m.view.read Val (m.view.writes Val (h.unread (glue A)) [⟨Rect.unit (s := ⟨3, ![2, 4096, 512]⟩) ![(hd n).val, 128 * (rw' n).val, 0] (⟨3, ![1, 128, 256]⟩ : Shape).size inb, G⟩]) y
        = m.view.read Val (m.view.writes Val (h.unread (glue A)) []) y := by
      by_cases hz : (y 0).val = n / 32
      · refine View.read_writes_cons_unit_of_not_mem m.view _ inb G [] y rfl 1 ?_
        show (y 1).val < 128 * (rw' n).val ∨ 128 * (rw' n).val + 128 ≤ (y 1).val
        have := rw'_val n; omega
      · refine View.read_writes_cons_unit_of_not_mem m.view _ inb G [] y rfl 0 ?_
        show (y 0).val < (hd n).val ∨ (hd n).val + 1 ≤ (y 0).val
        have := hd_val n; omega
    rw [hread]
    show m.view.read Val (h.unread (glue A)) y = _
    rw [h.read_unread]
    unfold glue
    rw [hAB _ hy]

/-- A load from a whole array is the array's part under the rectangle. -/
theorem readAt_part {s : Shape} {m : Memref sig κ sp s e} (h : m.IsWhole) (X : s.Idx → Val e) (r : Rect s) :
    m.view.readAt Val r.toLoadRect (h.unread X) = part X r :=
  funext fun i => congrFun (h.read_unread X) (r.emb i)

end Write

/-! ## The state of block `n` -/

variable {F : FTy → Type} [FloatOps F]

/-- The staged arrays of a grid point: queries, context keys and values, keys and values. -/
structure Staged (F : FTy → Type) where
  q : Vec F S1x4096x256 .bf16
  kc : Vec F S1x256x256 .bf16
  vc : Vec F S1x256x256 .bf16
  k : Vec F S1x8192x256 .bf16
  v : Vec F S1x8192x256 .bf16

namespace Staged

variable (x : Staged F) (n : ℕ)

/-- Block `n`'s queries, its head's context keys, its head's first chunk of keys and the later ones, -/
def qB : Vec F S1x128x128 .bf16 := part x.q (Rect.unit (s := S1x4096x256) ![0, 128 * (rw' n).val, 128 * (hd n).val] S1x128x128.size (inb_q (hd n) (rw' n)))
def kcB : Vec F S1x256x128 .bf16 := part x.kc (Rect.unit (s := S1x256x256) ![0, 0, 128 * (hd n).val] S1x256x128.size (inb_kc (hd n)))
def k0B : Vec F S1x512x128 .bf16 := part x.k (Rect.unit (s := S1x8192x256) ![0, 0, 128 * (hd n).val] S1x512x128.size (inb_k0 (hd n)))
def kB (t : Fin k0_t1_loop.trips) : Vec F S1x512x128 .bf16 := part x.k (Rect.unit (s := S1x8192x256) ![0, k0_off1 t 1, 128 * (hd n).val] S1x512x128.size (inb_k (hd n) t))
/-- the context values, trip `t`'s chunk of values (the chunk before its keys') and the last chunk. -/
def vcB : Vec F S1x256x256 .bf16 := part x.vc (Rect.unit (s := S1x256x256) ![0, 0, 0] S1x256x256.size inb_S1x256x256_S1x256x256_0_0_0)
def vB (t : Fin k0_t1_loop.trips) : Vec F S1x512x256 .bf16 := part x.v (Rect.unit (s := S1x8192x256) (k0_off2 t) S1x512x256.size (k0_off2_inb t))
def vLast : Vec F S1x512x256 .bf16 := part x.v (Rect.unit (s := S1x8192x256) ![0, 7680, 0] S1x512x256.size inb_S1x8192x256_S1x512x256_0_7680_0)

/-- After the context pass: the weights and the maximum. -/
def pC : Vec F S1x128x256 .bf16 := k0_pay466 (x.qB n) (x.kcB n)
def mC : Vec F S1x128x128 .f32 := k0_pay467 (x.qB n) (x.kcB n)

/-- After `t` trips of the loop: the maximum, the accumulator and the weights of block `n`. -/
def mT : ℕ → ℕ → Vec F S1x128x128 .f32
  | 0, n => k0_pay750 (k0_pay746 (x.qB n) (x.k0B n) (x.mC n))
  | t + 1, n => if h : t < k0_t1_loop.trips then k0_pay8 (k0_pay4 (x.qB n) (x.kB n ⟨t, h⟩) (mT t n)) else mT t n
def pT : ℕ → ℕ → Vec F S1x128x512 .bf16
  | 0, n => k0_pay749 (k0_pay744 (x.qB n) (x.k0B n)) (k0_pay746 (x.qB n) (x.k0B n) (x.mC n))
  | t + 1, n => if h : t < k0_t1_loop.trips then k0_pay7 (k0_pay6 (x.qB n) (x.kB n ⟨t, h⟩) (x.mT t n)) else pT t n
def aT : ℕ → ℕ → Vec F S1x128x256 .f32
  | 0, n => k0_pay748 (k0_pay747 (x.qB n) (x.k0B n) (x.mC n) (x.pC n) x.vcB)
  | t + 1, n => if h : t < k0_t1_loop.trips then k0_pay5 (x.qB n) (x.kB n ⟨t, h⟩) (x.mT t n) (aT t n) (x.pT t n) (x.vB ⟨t, h⟩) else aT t n

/-- The accumulator at the end. -/
def aF (n : ℕ) : Vec F S1x128x256 .f32 := k0_pay1280 (x.aT k0_t1_loop.trips n) (x.pT k0_t1_loop.trips n) x.vLast

/-- What the body writes out. -/
def out : Vec F S1x4096x128 .bf16 :=
  k0_pay1 (k0_pay1283
    (part (glue x.aF) (Rect.unit (s := S2x4096x256) ![0, 0, 0] S1x4096x128.size inb_S2x4096x256_S1x4096x128_0_0_0))
    (part (glue x.aF) (Rect.unit (s := S2x4096x256) ![0, 0, 128] S1x4096x128.size inb_S2x4096x256_S1x4096x128_0_0_128))
    (part (glue x.aF) (Rect.unit (s := S2x4096x256) ![1, 0, 0] S1x4096x128.size inb_S2x4096x256_S1x4096x128_1_0_0))
    (part (glue x.aF) (Rect.unit (s := S2x4096x256) ![1, 0, 128] S1x4096x128.size inb_S2x4096x256_S1x4096x128_1_0_128)))

end Staged

/-- Blocks below `n` new, the others old. -/
def upto {β : Type} (n : ℕ) (new old : ℕ → β) (b : ℕ) : β := if b < n then new b else old b

theorem upto_zero {β : Type} (new old : ℕ → β) : upto 0 new old = old := funext fun b => if_neg (Nat.not_lt_zero b)
theorem upto_self {β : Type} (n : ℕ) (new old : ℕ → β) : upto n new old n = old n := if_neg (Nat.lt_irrefl n)
theorem upto_succ_self {β : Type} (n : ℕ) (new old : ℕ → β) : upto (n + 1) new old n = new n := if_pos (Nat.lt_succ_self n)
theorem upto_succ_ne {β : Type} (n : ℕ) (new old : ℕ → β) (b : ℕ) (h : b ≠ n) : upto (n + 1) new old b = upto n new old b := by
  unfold upto; simp only [show b < n + 1 ↔ b < n by omega]

/-- A glued array depends on its 64 blocks only. -/
theorem glue_congr {α : Type} {L : ℕ} {A B : ℕ → (⟨3, ![1, 128, L]⟩ : Shape).Idx → α} (h : ∀ b, b < 64 → A b = B b) : glue A = glue B := by
  funext j
  have h0 : (j 0).val < 2 := (j 0).isLt
  have h1 : (j 1).val < 4096 := (j 1).isLt
  unfold glue; rw [h _ (by omega)]

theorem glue_upto {α : Type} {L : ℕ} (new old : ℕ → (⟨3, ![1, 128, L]⟩ : Shape).Idx → α) : glue (upto 64 new old) = glue new :=
  glue_congr fun b hb => if_pos hb

end Cert.KernelIdeal.Blocks

end
-- ==== Proof.Stages.lean ====
/- The printed body is five stages: the pass over the context, the first chunk of keys, the loop over the other
   chunks, the last chunk's values, the division. -/
module

public import proofs.«01_k».proof.Proof.Blocks

@[expose] public section

set_option maxRecDepth 1000000

noncomputable section

namespace Cert.KernelIdeal.Blocks

open Idealize.ShloMosaic Idealize.SL.Sem
open Cert.KernelIdeal Cert.KernelIdeal.Gen

variable {F : FTy → Type} [FloatOps F]

/-- The statements that follow the loop in the loop's own part of the body. -/
def afterLoop (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x4096x128 .bf16) (harg8 : arg8.IsWhole) (arg9 : Memref sig .tc .vmem S2x4096x128 .f32) (harg9 : arg9.IsWhole) (arg10 : Memref sig .tc .vmem S2x4096x256 .f32) (harg10 : arg10.IsWhole) (arg11 : Memref sig .tc .vmem S2x4096x512 .bf16) (harg11 : arg11.IsWhole) :
    Prog (TpuEff nD τ sig (Elt F) Λ₀ .tc) (FVec F S128x256 .f32) := do
  let v3265 : Vec F S1x128x256 .f32 ← Prog.lift (.load arg10 (Rect.unit (s := S2x4096x256) ![0, 0, 0] S1x128x256.size inb_S2x4096x256_S1x128x256_0_0_0).toLoadRect (View.loadsAt_vmem h_S1x128x256))
  let v3267 : Vec F S1x128x512 .bf16 ← Prog.lift (.load arg11 (Rect.unit (s := S2x4096x512) ![0, 0, 0] S1x128x512.size inb_S2x4096x512_S1x128x512_0_0_0).toLoadRect (View.loadsAt_vmem h_S1x128x512))
  let v3269 : Vec F S1x512x256 .bf16 ← Prog.lift (.load arg7 (Rect.unit (s := S1x8192x256) ![0, 7680, 0] S1x512x256.size inb_S1x8192x256_S1x512x256_0_7680_0).toLoadRect (View.loadsAt_vmem h_S1x512x256))
  let v3273 : Vec F S1x128x256 .f32 ← Prog.lift (.load arg10 (Rect.unit (s := S2x4096x256) ![0, 0, 0] S1x128x256.size inb_S2x4096x256_S1x128x256_0_0_0).toLoadRect (View.loadsAt_vmem h_S1x128x256))
  pure (k0_pay1192 v3265 v3267 v3269)

/-- The parts that follow the loop's in the middle third of the body. -/
def afterPart (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x4096x128 .bf16) (harg8 : arg8.IsWhole) (arg9 : Memref sig .tc .vmem S2x4096x128 .f32) (harg9 : arg9.IsWhole) (arg10 : Memref sig .tc .vmem S2x4096x256 .f32) (harg10 : arg10.IsWhole) (arg11 : Memref sig .tc .vmem S2x4096x512 .bf16) (harg11 : arg11.IsWhole) (v3272 : FVec F S128x256 .f32) :
    Prog (TpuEff nD τ sig (Elt F) Λ₀ .tc) (FVec F S128x256 .f32) := do
  let v3299 : FVec F S128x256 .f32 ← k0_part179 i arg3 harg3 arg4 harg4 arg5 harg5 arg6 harg6 arg7 harg7 arg8 harg8 arg9 harg9 arg10 harg10 arg11 harg11 v3272
  let v3327 : FVec F S128x256 .f32 ← k0_part180 i arg3 harg3 arg4 harg4 arg5 harg5 arg6 harg6 arg7 harg7 arg8 harg8 arg9 harg9 arg10 harg10 arg11 harg11 v3299
  k0_part181 i arg3 harg3 arg4 harg4 arg5 harg5 arg6 harg6 arg7 harg7 arg8 harg8 arg9 harg9 arg10 harg10 arg11 harg11 v3327
  let ⟨v3376, v3378⟩ : Σ' (v3376 : FVec F S128x256 .f32), FVec F S128x512 .bf16 ← k0_part182 i arg3 harg3 arg4 harg4 arg5 harg5 arg6 harg6 arg7 harg7 arg8 harg8 arg9 harg9 arg10 harg10 arg11 harg11
  let v3404 : FVec F S128x256 .f32 ← k0_part183 i arg3 harg3 arg4 harg4 arg5 harg5 arg6 harg6 arg7 harg7 arg8 harg8 arg9 harg9 arg10 harg10 arg11 harg11 v3376 v3378
  let v3431 : FVec F S128x256 .f32 ← k0_part184 i arg3 harg3 arg4 harg4 arg5 harg5 arg6 harg6 arg7 harg7 arg8 harg8 arg9 harg9 arg10 harg10 arg11 harg11 v3404
  let v3459 : FVec F S128x256 .f32 ← k0_part185 i arg3 harg3 arg4 harg4 arg5 harg5 arg6 harg6 arg7 harg7 arg8 harg8 arg9 harg9 arg10 harg10 arg11 harg11 v3431
  k0_part186 i arg3 harg3 arg4 harg4 arg5 harg5 arg6 harg6 arg7 harg7 arg8 harg8 arg9 harg9 arg10 harg10 arg11 harg11 v3459
  let ⟨v3508, v3510⟩ : Σ' (v3508 : FVec F S128x256 .f32), FVec F S128x512 .bf16 ← k0_part187 i arg3 harg3 arg4 harg4 arg5 harg5 arg6 harg6 arg7 harg7 arg8 harg8 arg9 harg9 arg10 harg10 arg11 harg11
  let v3536 : FVec F S128x256 .f32 ← k0_part188 i arg3 harg3 arg4 harg4 arg5 harg5 arg6 harg6 arg7 harg7 arg8 harg8 arg9 harg9 arg10 harg10 arg11 harg11 v3508 v3510
  let v3563 : FVec F S128x256 .f32 ← k0_part189 i arg3 harg3 arg4 harg4 arg5 harg5 arg6 harg6 arg7 harg7 arg8 harg8 arg9 harg9 arg10 harg10 arg11 harg11 v3536
  let v3591 : FVec F S128x256 .f32 ← k0_part190 i arg3 harg3 arg4 harg4 arg5 harg5 arg6 harg6 arg7 harg7 arg8 harg8 arg9 harg9 arg10 harg10 arg11 harg11 v3563
  k0_part191 i arg3 harg3 arg4 harg4 arg5 harg5 arg6 harg6 arg7 harg7 arg8 harg8 arg9 harg9 arg10 harg10 arg11 harg11 v3591
  let ⟨v3640, v3642⟩ : Σ' (v3640 : FVec F S128x256 .f32), FVec F S128x512 .bf16 ← k0_part192 i arg3 harg3 arg4 harg4 arg5 harg5 arg6 harg6 arg7 harg7 arg8 harg8 arg9 harg9 arg10 harg10 arg11 harg11
  let v3668 : FVec F S128x256 .f32 ← k0_part193 i arg3 harg3 arg4 harg4 arg5 harg5 arg6 harg6 arg7 harg7 arg8 harg8 arg9 harg9 arg10 harg10 arg11 harg11 v3640 v3642
  let v3695 : FVec F S128x256 .f32 ← k0_part194 i arg3 harg3 arg4 harg4 arg5 harg5 arg6 harg6 arg7 harg7 arg8 harg8 arg9 harg9 arg10 harg10 arg11 harg11 v3668
  pure v3695

/-- The last third of the body. -/
def lastThird (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x4096x128 .bf16) (harg8 : arg8.IsWhole) (arg9 : Memref sig .tc .vmem S2x4096x128 .f32) (harg9 : arg9.IsWhole) (arg10 : Memref sig .tc .vmem S2x4096x256 .f32) (harg10 : arg10.IsWhole) (arg11 : Memref sig .tc .vmem S2x4096x512 .bf16) (harg11 : arg11.IsWhole) (v3695 : FVec F S128x256 .f32) :
    Prog (TpuEff nD τ sig (Elt F) Λ₀ .tc) PUnit := do
  let v3983 : FVec F S4096x128 .bf16 ← k0_part207 i arg3 harg3 arg4 harg4 arg5 harg5 arg6 harg6 arg7 harg7 arg8 harg8 arg9 harg9 arg10 harg10 arg11 harg11 v3695
  Prog.lift (.store arg8 (Rect.unit (s := S1x4096x128) ![0, 0, 0] S1x4096x128.size inb_S1x4096x128_S1x4096x128_0_0_0) (k0_pay1 v3983) Finset.univ (View.stores_vmem h_S1x4096x128 (harg8.storeExact_slice rfl _ packedbf16_S1x4096x128_S1x4096x128_0_0_0) (fun _ => rfl)) (.inl rfl))
  pure ⟨⟩

/-- `ctxBlk`, then the program `nx`. -/
def ctxK {β : Type} (arg3 : Memref sig .tc .vmem S1x4096x256 .bf16) (arg4 : Memref sig .tc .vmem S1x256x256 .bf16)
    (arg9 : Memref sig .tc .vmem S2x4096x128 .f32) (arg11 : Memref sig .tc .vmem S2x4096x512 .bf16) (harg11 : arg11.IsWhole)
    (e : Fin 2) (r : Fin 32) (nx : Prog (TpuEff nD τ sig (Elt F) Λ₀ .tc) β) : Prog (TpuEff nD τ sig (Elt F) Λ₀ .tc) β :=
  Prog.op (.load arg3 (Rect.unit (s := S1x4096x256) ![0, 128 * r.val, 128 * e.val] S1x128x128.size (inb_q e r)).toLoadRect (View.loadsAt_vmem h_S1x128x128)) fun (q : Vec F S1x128x128 .bf16) =>
  Prog.op (.load arg4 (Rect.unit (s := S1x256x256) ![0, 0, 128 * e.val] S1x256x128.size (inb_kc e)).toLoadRect (View.loadsAt_vmem h_S1x256x128)) fun (kk : Vec F S1x256x128 .bf16) =>
  Prog.op (.load arg11 (Rect.unit (s := S2x4096x512) ![e.val, 128 * r.val, 0] S1x128x256.size (inb_pc e r)).toLoadRect (View.loadsAt_vmem h_S1x128x256)) fun (_p : Vec F S1x128x256 .bf16) =>
  Prog.op (.store arg11 (Rect.unit (s := S2x4096x512) ![e.val, 128 * r.val, 0] S1x128x256.size (inb_pc e r)) (k0_pay466 q kk) Finset.univ (View.stores_vmem h_S1x128x256 (harg11.storeExact_slice rfl _ (packed_pc e r)) (fun _ => rfl)) (.inl rfl)) fun _ =>
  Prog.op (.load arg9 (Rect.unit (s := S2x4096x128) ![e.val, 128 * r.val, 0] S1x128x128.size (inb_m e r)).toLoadRect (View.loadsAt_vmem h_S1x128x128)) fun (_m : Vec F S1x128x128 .f32) =>
  Prog.op (.store arg9 (Rect.unit (s := S2x4096x128) ![e.val, 128 * r.val, 0] S1x128x128.size (inb_m e r)) (k0_pay467 q kk) Finset.univ (View.stores_vmem_bits_univ h_S1x128x128 rfl) (.inl rfl)) fun _ =>
  nx

/-- `sm0Blk`, then the program `nx`. -/
def sm0K {β : Type} (arg3 : Memref sig .tc .vmem S1x4096x256 .bf16) (arg5 : Memref sig .tc .vmem S1x256x256 .bf16)
    (arg6 : Memref sig .tc .vmem S1x8192x256 .bf16) (arg9 : Memref sig .tc .vmem S2x4096x128 .f32)
    (arg10 : Memref sig .tc .vmem S2x4096x256 .f32) (arg11 : Memref sig .tc .vmem S2x4096x512 .bf16) (harg11 : arg11.IsWhole)
    (e : Fin 2) (r : Fin 32) (nx : Prog (TpuEff nD τ sig (Elt F) Λ₀ .tc) β) : Prog (TpuEff nD τ sig (Elt F) Λ₀ .tc) β :=
  Prog.op (.load arg3 (Rect.unit (s := S1x4096x256) ![0, 128 * r.val, 128 * e.val] S1x128x128.size (inb_q e r)).toLoadRect (View.loadsAt_vmem h_S1x128x128)) fun (q : Vec F S1x128x128 .bf16) =>
  Prog.op (.load arg6 (Rect.unit (s := S1x8192x256) ![0, 0, 128 * e.val] S1x512x128.size (inb_k0 e)).toLoadRect (View.loadsAt_vmem h_S1x512x128)) fun (kk : Vec F S1x512x128 .bf16) =>
  Prog.op (.load arg9 (Rect.unit (s := S2x4096x128) ![e.val, 128 * r.val, 0] S1x128x128.size (inb_m e r)).toLoadRect (View.loadsAt_vmem h_S1x128x128)) fun (mm : Vec F S1x128x128 .f32) =>
  Prog.op (.load arg11 (Rect.unit (s := S2x4096x512) ![e.val, 128 * r.val, 0] S1x128x256.size (inb_pc e r)).toLoadRect (View.loadsAt_vmem h_S1x128x256)) fun (pp : Vec F S1x128x256 .bf16) =>
  Prog.op (.load arg5 (Rect.unit (s := S1x256x256) ![0, 0, 0] S1x256x256.size inb_S1x256x256_S1x256x256_0_0_0).toLoadRect (View.loadsAt_vmem h_S1x256x256)) fun (vv : Vec F S1x256x256 .bf16) =>
  Prog.op (.load arg10 (Rect.unit (s := S2x4096x256) ![e.val, 128 * r.val, 0] S1x128x256.size (inb_a e r)).toLoadRect (View.loadsAt_vmem h_S1x128x256)) fun (_a : Vec F S1x128x256 .f32) =>
  Prog.op (.store arg10 (Rect.unit (s := S2x4096x256) ![e.val, 128 * r.val, 0] S1x128x256.size (inb_a e r)) (k0_pay748 (k0_pay747 q kk mm pp vv)) Finset.univ (View.stores_vmem_bits_univ h_S1x128x256 rfl) (.inl rfl)) fun _ =>
  Prog.op (.load arg11 (Rect.unit (s := S2x4096x512) ![e.val, 128 * r.val, 0] S1x128x512.size (inb_p e r)).toLoadRect (View.loadsAt_vmem h_S1x128x512)) fun (_p : Vec F S1x128x512 .bf16) =>
  Prog.op (.store arg11 (Rect.unit (s := S2x4096x512) ![e.val, 128 * r.val, 0] S1x128x512.size (inb_p e r)) (k0_pay749 (k0_pay744 q kk) (k0_pay746 q kk mm)) Finset.univ (View.stores_vmem h_S1x128x512 (harg11.storeExact_slice rfl _ (packed_p e r)) (fun _ => rfl)) (.inl rfl)) fun _ =>
  Prog.op (.load arg9 (Rect.unit (s := S2x4096x128) ![e.val, 128 * r.val, 0] S1x128x128.size (inb_m e r)).toLoadRect (View.loadsAt_vmem h_S1x128x128)) fun (_m : Vec F S1x128x128 .f32) =>
  Prog.op (.store arg9 (Rect.unit (s := S2x4096x128) ![e.val, 128 * r.val, 0] S1x128x128.size (inb_m e r)) (k0_pay750 (k0_pay746 q kk mm)) Finset.univ (View.stores_vmem_bits_univ h_S1x128x128 rfl) (.inl rfl)) fun _ =>
  nx

/-- `lastBlk`, then the program `nx`. -/
def lastK {β : Type} (arg7 : Memref sig .tc .vmem S1x8192x256 .bf16) (arg10 : Memref sig .tc .vmem S2x4096x256 .f32)
    (arg11 : Memref sig .tc .vmem S2x4096x512 .bf16)
    (e : Fin 2) (r : Fin 32) (nx : Prog (TpuEff nD τ sig (Elt F) Λ₀ .tc) β) : Prog (TpuEff nD τ sig (Elt F) Λ₀ .tc) β :=
  Prog.op (.load arg10 (Rect.unit (s := S2x4096x256) ![e.val, 128 * r.val, 0] S1x128x256.size (inb_a e r)).toLoadRect (View.loadsAt_vmem h_S1x128x256)) fun (aa : Vec F S1x128x256 .f32) =>
  Prog.op (.load arg11 (Rect.unit (s := S2x4096x512) ![e.val, 128 * r.val, 0] S1x128x512.size (inb_p e r)).toLoadRect (View.loadsAt_vmem h_S1x128x512)) fun (pp : Vec F S1x128x512 .bf16) =>
  Prog.op (.load arg7 (Rect.unit (s := S1x8192x256) ![0, 7680, 0] S1x512x256.size inb_S1x8192x256_S1x512x256_0_7680_0).toLoadRect (View.loadsAt_vmem h_S1x512x256)) fun (vv : Vec F S1x512x256 .bf16) =>
  Prog.op (.load arg10 (Rect.unit (s := S2x4096x256) ![e.val, 128 * r.val, 0] S1x128x256.size (inb_a e r)).toLoadRect (View.loadsAt_vmem h_S1x128x256)) fun (_a : Vec F S1x128x256 .f32) =>
  Prog.op (.store arg10 (Rect.unit (s := S2x4096x256) ![e.val, 128 * r.val, 0] S1x128x256.size (inb_a e r)) (k0_pay1280 aa pp vv) Finset.univ (View.stores_vmem_bits_univ h_S1x128x256 rfl) (.inl rfl)) fun _ =>
  nx

/-- The programs `f e r` of the `k` blocks from block number `s` on, then `nx`. -/
def seqK {E : Type → Type} {β : Type} (f : Fin 2 → Fin 32 → Prog E β → Prog E β) (s : ℕ) (nx : Prog E β) : ℕ → Prog E β
  | 0 => nx
  | k + 1 => f (hd s) (rw' s) (seqK f (s + 1) nx k)

theorem seqK_eq {E : Type → Type} {β : Type} (f : Fin 2 → Fin 32 → Prog E Unit) (g : Fin 2 → Fin 32 → Prog E β → Prog E β)
    (h : ∀ e r nx, g e r nx = (f e r >>= fun _ => nx)) (nx : Prog E β) (k : ℕ) :
    ∀ s, seqK g s nx k = (seq f s k >>= fun _ => nx) := by
  induction k with
  | zero => intro s; rfl
  | succ k ih =>
    intro s
    show g (hd s) (rw' s) (seqK g (s + 1) nx k) = ((f (hd s) (rw' s) >>= fun _ => seq f (s + 1) k) >>= fun _ => nx)
    rw [h, ih, bind_assoc]

set_option maxHeartbeats 0 in
/-- What follows the loop is the last chunk's values and the division. -/
theorem after_eq (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x4096x128 .bf16) (harg8 : arg8.IsWhole) (arg9 : Memref sig .tc .vmem S2x4096x128 .f32) (harg9 : arg9.IsWhole) (arg10 : Memref sig .tc .vmem S2x4096x256 .f32) (harg10 : arg10.IsWhole) (arg11 : Memref sig .tc .vmem S2x4096x512 .bf16) (harg11 : arg11.IsWhole) :
    (((afterLoop i arg3 harg3 arg4 harg4 arg5 harg5 arg6 harg6 arg7 harg7 arg8 harg8 arg9 harg9 arg10 harg10 arg11 harg11 : Prog (TpuEff nD τ sig (Elt F) Λ₀ .tc) (FVec F S128x256 .f32)) >>= afterPart i arg3 harg3 arg4 harg4 arg5 harg5 arg6 harg6 arg7 harg7 arg8 harg8 arg9 harg9 arg10 harg10 arg11 harg11) >>= lastThird i arg3 harg3 arg4 harg4 arg5 harg5 arg6 harg6 arg7 harg7 arg8 harg8 arg9 harg9 arg10 harg10 arg11 harg11)
      = seqK (lastK arg7 arg10 arg11) 0 (finish arg8 harg8 arg10) 64 := rfl

set_option maxHeartbeats 0 in
/-- The printed body before, around and after its loop. -/
theorem main_printed (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x4096x128 .bf16) (harg8 : arg8.IsWhole) (arg9 : Memref sig .tc .vmem S2x4096x128 .f32) (harg9 : arg9.IsWhole) (arg10 : Memref sig .tc .vmem S2x4096x256 .f32) (harg10 : arg10.IsWhole) (arg11 : Memref sig .tc .vmem S2x4096x512 .bf16) (harg11 : arg11.IsWhole) :
    cc0_mla_attn (F := F) i arg3 harg3 arg4 harg4 arg5 harg5 arg6 harg6 arg7 harg7 arg8 harg8 arg9 harg9 arg10 harg10 arg11 harg11
      = seqK (ctxK (F := F) arg3 arg4 arg9 arg11 harg11) 0
          (seqK (sm0K (F := F) arg3 arg5 arg6 arg9 arg10 arg11 harg11) 0
            (((loop (F := F) arg3 arg6 arg7 arg9 arg10 arg11 harg11 >>= fun _ => afterLoop i arg3 harg3 arg4 harg4 arg5 harg5 arg6 harg6 arg7 harg7 arg8 harg8 arg9 harg9 arg10 harg10 arg11 harg11) >>= afterPart i arg3 harg3 arg4 harg4 arg5 harg5 arg6 harg6 arg7 harg7 arg8 harg8 arg9 harg9 arg10 harg10 arg11 harg11) >>= lastThird i arg3 harg3 arg4 harg4 arg5 harg5 arg6 harg6 arg7 harg7 arg8 harg8 arg9 harg9 arg10 harg10 arg11 harg11) 64) 64 := by
  have key : ∀ a b c d, (Scf.Loop.for k0_t1_loop k0_t1_ok ⟨⟩ (k0_t1_body (F := F) i arg3 harg3 arg4 harg4 arg5 harg5 arg6 harg6 arg7 harg7 arg8 harg8 arg9 harg9 arg10 harg10 arg11 harg11 a b c d) : Prog (TpuEff nD τ sig (Elt F) Λ₀ .tc) Unit)
      = loop arg3 arg6 arg7 arg9 arg10 arg11 harg11 := fun a b c d =>
    congrArg (Scf.Loop.for k0_t1_loop k0_t1_ok ⟨⟩) (funext fun k => funext fun _ => body_eq i arg3 harg3 arg4 harg4 arg5 harg5 arg6 harg6 arg7 harg7 arg8 harg8 arg9 harg9 arg10 harg10 arg11 harg11 a b c d k)
  rw [cc0_mla_attn_eq_skeleton]; unfold cc0_mla_attn_skel
  simp only [k0_part206_eq_skeleton]; unfold k0_part206_skel
  simp only [k0_part178_eq_skeleton]; unfold k0_part178_skel
  simp only [key]
  generalize loop (F := F) arg3 arg6 arg7 arg9 arg10 arg11 harg11 = L
  rfl

/-- The printed body is its five stages. -/
theorem main_eq (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x4096x128 .bf16) (harg8 : arg8.IsWhole) (arg9 : Memref sig .tc .vmem S2x4096x128 .f32) (harg9 : arg9.IsWhole) (arg10 : Memref sig .tc .vmem S2x4096x256 .f32) (harg10 : arg10.IsWhole) (arg11 : Memref sig .tc .vmem S2x4096x512 .bf16) (harg11 : arg11.IsWhole) :
    cc0_mla_attn (F := F) i arg3 harg3 arg4 harg4 arg5 harg5 arg6 harg6 arg7 harg7 arg8 harg8 arg9 harg9 arg10 harg10 arg11 harg11
      = (seq (ctxBlk arg3 arg4 arg9 arg11 harg11) 0 64 >>= fun _ =>
         seq (sm0Blk arg3 arg5 arg6 arg9 arg10 arg11 harg11) 0 64 >>= fun _ =>
         loop arg3 arg6 arg7 arg9 arg10 arg11 harg11 >>= fun _ =>
         seq (lastBlk arg7 arg10 arg11) 0 64 >>= fun _ => finish arg8 harg8 arg10) := by
  rw [main_printed, seqK_eq (ctxBlk arg3 arg4 arg9 arg11 harg11) (ctxK arg3 arg4 arg9 arg11 harg11) (fun _ _ _ => rfl),
    seqK_eq (sm0Blk arg3 arg5 arg6 arg9 arg10 arg11 harg11) (sm0K arg3 arg5 arg6 arg9 arg10 arg11 harg11) (fun _ _ _ => rfl),
    ← seqK_eq (lastBlk arg7 arg10 arg11) (lastK arg7 arg10 arg11) (fun _ _ _ => rfl), ← after_eq i arg3 harg3 arg4 harg4 arg5 harg5 arg6 harg6 arg7 harg7 arg8 harg8 arg9 harg9 arg10 harg10 arg11 harg11]
  simp only [bind_assoc]

end Cert.KernelIdeal.Blocks

end
-- ==== Proof.Triples.lean ====
/- What the stages of the body do to the scratch arrays: a triple for one block of each stage, then the stages. -/
module

public import proofs.«01_k».proof.Proof.State
public import proofs.«01_k».proof.Proof.Stages
public import proofs.«01_k».proof.Proof.Gen.KernelIdeal.Frame.Runs

@[expose] public section

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The weakest precondition of a program of core `c`. -/
abbrev wpc (c : Dev nD) (E : Set ℕ) (p : Prog (TpuEff nD τ sig (Elt F) Λ₀ .tc) Unit) (K : Unit → sProp 𝕄) : sProp 𝕄 :=
  wp frame (wpE (defs₀ (F := F)) Variants.none (c : Thread nD τ) none) E p K

/-- Blocks run in sequence: an invariant that each block carries to the next number is carried to the end. -/
theorem wp_seq (c : Dev nD) (E : Set ℕ) (f : Fin 2 → Fin 32 → Prog (TpuEff nD τ sig (Elt F) Λ₀ .tc) Unit) (I : ℕ → sProp 𝕄)
    (h : ∀ n, n < 64 → ∀ K : Unit → sProp 𝕄, iprop(I n ∗ (I (n + 1) -∗ K ())) ⊢ wpc c E (f (hd n) (rw' n)) K)
    (k : ℕ) : ∀ s, s + k ≤ 64 → ∀ K : Unit → sProp 𝕄, iprop(I s ∗ (I (s + k) -∗ K ())) ⊢ wpc c E (seq f s k) K := by
  induction k with
  | zero =>
    intro s hs K
    refine BIBase.Entails.trans ?_ (le_wp_ret _ _ _ () K)
    iintro ⟨HI, HK⟩
    iapply HK; iexact HI
  | succ k ih =>
    intro s hs K
    unfold seq wpc
    rw [wp_bind]
    iintro ⟨HI, HK⟩
    iapply (h s (by omega) _)
    isplitl [HI]; · iexact HI
    iintro HI
    iapply (ih (s + 1) (by omega) K)
    isplitl [HI]; · iexact HI
    iintro HI
    iapply HK
    rw [show s + 1 + k = s + (k + 1) by omega]
    iexact HI

section Stages

variable (c : Dev nD) {arg3 : Memref sig .tc .vmem S1x4096x256 .bf16} (harg3 : arg3.IsWhole) {arg4 : Memref sig .tc .vmem S1x256x256 .bf16} (harg4 : arg4.IsWhole) {arg5 : Memref sig .tc .vmem S1x256x256 .bf16} (harg5 : arg5.IsWhole) {arg6 : Memref sig .tc .vmem S1x8192x256 .bf16} (harg6 : arg6.IsWhole) {arg7 : Memref sig .tc .vmem S1x8192x256 .bf16} (harg7 : arg7.IsWhole) {arg8 : Memref sig .tc .vmem S1x4096x128 .bf16} (harg8 : arg8.IsWhole) {arg9 : Memref sig .tc .vmem S2x4096x128 .f32} (harg9 : arg9.IsWhole) {arg10 : Memref sig .tc .vmem S2x4096x256 .f32} (harg10 : arg10.IsWhole) {arg11 : Memref sig .tc .vmem S2x4096x512 .bf16} (harg11 : arg11.IsWhole)
  (x : Staged F)
  (M : ℕ → Vec F S1x128x128 .f32) (A : ℕ → Vec F S1x128x256 .f32) (P : ℕ → Vec F S1x128x512 .bf16)

/-- The staged arrays and the scratch, in blocks. -/
def res (c : Dev nD) (arg3 : Memref sig .tc .vmem S1x4096x256 .bf16) (arg4 : Memref sig .tc .vmem S1x256x256 .bf16) (arg5 : Memref sig .tc .vmem S1x256x256 .bf16)
    (arg6 : Memref sig .tc .vmem S1x8192x256 .bf16) (arg7 : Memref sig .tc .vmem S1x8192x256 .bf16) (arg9 : Memref sig .tc .vmem S2x4096x128 .f32)
    (arg10 : Memref sig .tc .vmem S2x4096x256 .f32) (arg11 : Memref sig .tc .vmem S2x4096x512 .bf16) (x : Staged F)
    (M : ℕ → Vec F S1x128x128 .f32) (A : ℕ → Vec F S1x128x256 .f32) (P : ℕ → Vec F S1x128x512 .bf16) : sProp 𝕄 :=
  iprop(owns (c : Thread nD τ) arg3 fullShare x.q ∗ owns (c : Thread nD τ) arg4 fullShare x.kc ∗ owns (c : Thread nD τ) arg5 fullShare x.vc
    ∗ owns (c : Thread nD τ) arg6 fullShare x.k ∗ owns (c : Thread nD τ) arg7 fullShare x.v
    ∗ owns (c : Thread nD τ) arg9 fullShare (glue M) ∗ owns (c : Thread nD τ) arg10 fullShare (glue A) ∗ owns (c : Thread nD τ) arg11 fullShare (glue P))

include harg3 harg4 harg5 harg6 harg7 harg9 harg10 harg11

/-- The pass over the context: block `n`. -/
theorem ctx_blk (E : Set ℕ) (n : ℕ) (hn : n < 64) (K : Unit → sProp 𝕄) :
    iprop(res c arg3 arg4 arg5 arg6 arg7 arg9 arg10 arg11 x (upto n x.mC M) A (upto n (fun b => setL (P b) (x.pC b)) P)
      ∗ (res c arg3 arg4 arg5 arg6 arg7 arg9 arg10 arg11 x (upto (n + 1) x.mC M) A (upto (n + 1) (fun b => setL (P b) (x.pC b)) P) -∗ K ()))
      ⊢ wpc c E (ctxBlk arg3 arg4 arg9 arg11 harg11 (hd n) (rw' n)) K := by
  unfold ctxBlk res owns wpc
  iintro ⟨⟨⟨%f0, %hf0, H0⟩, ⟨%f1, %hf1, H1⟩, H2, H3, H4, ⟨%f9, %hf9, H9⟩, H10, ⟨%f11, %hf11, H11⟩⟩, Hk⟩
  obtain rfl := harg3.eq_unread hf0; obtain rfl := harg4.eq_unread hf1; obtain rfl := harg9.eq_unread hf9; obtain rfl := harg11.eq_unread hf11
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]; · iexact H2
  isplitl [H3]; · iexact H3
  isplitl [H4]; · iexact H4
  isplitl [H9]
  · iexists _; isplitr; swap; · iexact H9
    ipureintro
    refine write_glue harg9 _ _ n hn (fun b hb => upto_succ_ne n _ _ b hb) _ _ ?_
    rw [upto_succ_self, readAt_part, readAt_part]; rfl
  isplitl [H10]; · iexact H10
  iexists _; isplitr; swap; · iexact H11
  ipureintro
  refine write_glueL harg11 _ _ n hn (fun b hb => upto_succ_ne n _ _ b hb) _ _ ?_
  rw [upto_succ_self, upto_self, readAt_part, readAt_part]; rfl

/-- The first chunk of keys: block `n`. -/
theorem sm0_blk (E : Set ℕ) (n : ℕ) (hn : n < 64) (K : Unit → sProp 𝕄) :
    iprop(res c arg3 arg4 arg5 arg6 arg7 arg9 arg10 arg11 x (upto n (x.mT 0) x.mC) (upto n (x.aT 0) A) (upto n (x.pT 0) (fun b => setL (P b) (x.pC b)))
      ∗ (res c arg3 arg4 arg5 arg6 arg7 arg9 arg10 arg11 x (upto (n + 1) (x.mT 0) x.mC) (upto (n + 1) (x.aT 0) A) (upto (n + 1) (x.pT 0) (fun b => setL (P b) (x.pC b))) -∗ K ()))
      ⊢ wpc c E (sm0Blk arg3 arg5 arg6 arg9 arg10 arg11 harg11 (hd n) (rw' n)) K := by
  unfold sm0Blk res owns wpc
  iintro ⟨⟨⟨%f0, %hf0, H0⟩, H1, ⟨%f2, %hf2, H2⟩, ⟨%f3, %hf3, H3⟩, H4, ⟨%f9, %hf9, H9⟩, ⟨%f10, %hf10, H10⟩, ⟨%f11, %hf11, H11⟩⟩, Hk⟩
  obtain rfl := harg3.eq_unread hf0; obtain rfl := harg5.eq_unread hf2; obtain rfl := harg6.eq_unread hf3; obtain rfl := harg9.eq_unread hf9; obtain rfl := harg10.eq_unread hf10; obtain rfl := harg11.eq_unread hf11
  sl_exec
  sl_step
  iapply Hk
  isplitl [H0]
  · iexists _; isplitr; · ipureintro; exact harg3.read_unread _
    iexact H0
  isplitl [H1]; · iexact H1
  isplitl [H2]
  · iexists _; isplitr; · ipureintro; exact harg5.read_unread _
    iexact H2
  isplitl [H3]
  · iexists _; isplitr; · ipureintro; exact harg6.read_unread _
    iexact H3
  isplitl [H4]; · iexact H4
  have hm := part_glue (upto n (x.mT 0) x.mC) n hn (inb_m (hd n) (rw' n))
  have hp := part_glueL (upto n (x.pT 0) (fun b => setL (P b) (x.pC b))) n hn (P n) (x.pC n) (upto_self n _ _) (inb_pc (hd n) (rw' n))
  rw [upto_self] at hm
  have hm' : sm0_blk.sl.mm c harg9 x n = x.mC n := (readAt_part harg9 _ _).trans hm
  have hp' : sm0_blk.sl.pp c harg11 x P n = x.pC n := (readAt_part harg11 _ _).trans hp
  isplitl [H9]
  · iexists _; isplitr; swap; · iexact H9
    ipureintro
    refine write_glue harg9 _ _ n hn (fun b hb => upto_succ_ne n _ _ b hb) _ _ ?_
    rw [upto_succ_self]; simp only [readAt_part]; rw [hm']; rfl
  isplitl [H10]
  · iexists _; isplitr; swap; · iexact H10
    ipureintro
    refine write_glue harg10 _ _ n hn (fun b hb => upto_succ_ne n _ _ b hb) _ _ ?_
    rw [upto_succ_self]; simp only [readAt_part]; rw [hm', hp']; rfl
  iexists _; isplitr; swap; · iexact H11
  ipureintro
  refine write_glue harg11 _ _ n hn (fun b hb => upto_succ_ne n _ _ b hb) _ _ ?_
  rw [upto_succ_self]; simp only [readAt_part]; rw [hm']; rfl

/-- Trip `t` of the loop over the later chunks: block `n`. -/
theorem sm_blk (t : Fin k0_t1_loop.trips) (E : Set ℕ) (n : ℕ) (hn : n < 64) (K : Unit → sProp 𝕄) :
    iprop(res c arg3 arg4 arg5 arg6 arg7 arg9 arg10 arg11 x (upto n (x.mT (t.val + 1)) (x.mT t.val)) (upto n (x.aT (t.val + 1)) (x.aT t.val)) (upto n (x.pT (t.val + 1)) (x.pT t.val))
      ∗ (res c arg3 arg4 arg5 arg6 arg7 arg9 arg10 arg11 x (upto (n + 1) (x.mT (t.val + 1)) (x.mT t.val)) (upto (n + 1) (x.aT (t.val + 1)) (x.aT t.val)) (upto (n + 1) (x.pT (t.val + 1)) (x.pT t.val)) -∗ K ()))
      ⊢ wpc c E (smBlk arg3 arg6 arg7 arg9 arg10 arg11 harg11 t (hd n) (rw' n)) K := by
  unfold smBlk res owns wpc
  iintro ⟨⟨⟨%f0, %hf0, H0⟩, H1, H2, ⟨%f3, %hf3, H3⟩, ⟨%f4, %hf4, H4⟩, ⟨%f9, %hf9, H9⟩, ⟨%f10, %hf10, H10⟩, ⟨%f11, %hf11, H11⟩⟩, Hk⟩
  obtain rfl := harg3.eq_unread hf0; obtain rfl := harg6.eq_unread hf3; obtain rfl := harg7.eq_unread hf4; obtain rfl := harg9.eq_unread hf9; obtain rfl := harg10.eq_unread hf10; obtain rfl := harg11.eq_unread hf11
  sl_exec
  sl_step
  iapply Hk
  isplitl [H0]
  · iexists _; isplitr; · ipureintro; exact harg3.read_unread _
    iexact H0
  isplitl [H1]; · iexact H1
  isplitl [H2]; · iexact H2
  isplitl [H3]
  · iexists _; isplitr; · ipureintro; exact harg6.read_unread _
    iexact H3
  isplitl [H4]
  · iexists _; isplitr; · ipureintro; exact harg7.read_unread _
    iexact H4
  have hm := part_glue (upto n (x.mT (t.val + 1)) (x.mT t.val)) n hn (inb_m (hd n) (rw' n))
  have ha := part_glue (upto n (x.aT (t.val + 1)) (x.aT t.val)) n hn (inb_a (hd n) (rw' n))
  have hp := part_glue (upto n (x.pT (t.val + 1)) (x.pT t.val)) n hn (inb_p (hd n) (rw' n))
  rw [upto_self] at hm ha hp
  have hm' : sm_blk.sl.mm c harg9 x t n = x.mT t.val n := (readAt_part harg9 _ _).trans hm
  have ha' : sm_blk.sl.aa c harg10 x t n = x.aT t.val n := (readAt_part harg10 _ _).trans ha
  have hp' : sm_blk.sl.pp c harg11 x t n = x.pT t.val n := (readAt_part harg11 _ _).trans hp
  isplitl [H9]
  · iexists _; isplitr; swap; · iexact H9
    ipureintro
    refine write_glue harg9 _ _ n hn (fun b hb => upto_succ_ne n _ _ b hb) _ _ ?_
    rw [upto_succ_self]; simp only [readAt_part]; rw [hm']; exact dif_pos t.isLt
  isplitl [H10]
  · iexists _; isplitr; swap; · iexact H10
    ipureintro
    refine write_glue harg10 _ _ n hn (fun b hb => upto_succ_ne n _ _ b hb) _ _ ?_
    rw [upto_succ_self]; simp only [readAt_part]; rw [hm', ha', hp']; exact dif_pos t.isLt
  iexists _; isplitr; swap; · iexact H11
  ipureintro
  refine write_glue harg11 _ _ n hn (fun b hb => upto_succ_ne n _ _ b hb) _ _ ?_
  rw [upto_succ_self]; simp only [readAt_part]; rw [hm']; exact dif_pos t.isLt

/-- The last chunk's values: block `n`. -/
theorem last_blk (E : Set ℕ) (n : ℕ) (hn : n < 64) (K : Unit → sProp 𝕄) :
    iprop(res c arg3 arg4 arg5 arg6 arg7 arg9 arg10 arg11 x M (upto n x.aF (x.aT k0_t1_loop.trips)) (x.pT k0_t1_loop.trips)
      ∗ (res c arg3 arg4 arg5 arg6 arg7 arg9 arg10 arg11 x M (upto (n + 1) x.aF (x.aT k0_t1_loop.trips)) (x.pT k0_t1_loop.trips) -∗ K ()))
      ⊢ wpc c E (lastBlk arg7 arg10 arg11 (hd n) (rw' n)) K := by
  unfold lastBlk res owns wpc
  iintro ⟨⟨H0, H1, H2, H3, ⟨%f4, %hf4, H4⟩, H9, ⟨%f10, %hf10, H10⟩, ⟨%f11, %hf11, H11⟩⟩, Hk⟩
  obtain rfl := harg7.eq_unread hf4; obtain rfl := harg10.eq_unread hf10; obtain rfl := harg11.eq_unread hf11
  sl_exec
  sl_step
  iapply Hk
  isplitl [H0]; · iexact H0
  isplitl [H1]; · iexact H1
  isplitl [H2]; · iexact H2
  isplitl [H3]; · iexact H3
  isplitl [H4]
  · iexists _; isplitr; · ipureintro; exact harg7.read_unread _
    iexact H4
  isplitl [H9]; · iexact H9
  have ha := part_glue (upto n x.aF (x.aT k0_t1_loop.trips)) n hn (inb_a (hd n) (rw' n))
  have hp := part_glue (x.pT k0_t1_loop.trips) n hn (inb_p (hd n) (rw' n))
  rw [upto_self] at ha
  have ha' : last_blk.sl.aa c harg10 x n = x.aT k0_t1_loop.trips n := (readAt_part harg10 _ _).trans ha
  have hp' : last_blk.sl.pp c harg11 x n = x.pT k0_t1_loop.trips n := (readAt_part harg11 _ _).trans hp
  isplitl [H10]
  · iexists _; isplitr; swap; · iexact H10
    ipureintro
    refine write_glue harg10 _ _ n hn (fun b hb => upto_succ_ne n _ _ b hb) _ _ ?_
    rw [upto_succ_self]; simp only [readAt_part]; rw [ha', hp']; rfl
  iexists _; isplitr; · ipureintro; exact harg11.read_unread _
  iexact H11

end Stages

end Cert.KernelIdeal.Blocks

end
-- ==== Proof.Body.lean ====
/- The whole body: the stages one after another, from scratch at any contents to the output of the staged arrays. -/
module

public import proofs.«01_k».proof.Proof.Triples

@[expose] public section

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

section Stages

variable (c : Dev nD) {arg3 : Memref sig .tc .vmem S1x4096x256 .bf16} (harg3 : arg3.IsWhole) {arg4 : Memref sig .tc .vmem S1x256x256 .bf16} (harg4 : arg4.IsWhole) {arg5 : Memref sig .tc .vmem S1x256x256 .bf16} (harg5 : arg5.IsWhole) {arg6 : Memref sig .tc .vmem S1x8192x256 .bf16} (harg6 : arg6.IsWhole) {arg7 : Memref sig .tc .vmem S1x8192x256 .bf16} (harg7 : arg7.IsWhole) {arg8 : Memref sig .tc .vmem S1x4096x128 .bf16} (harg8 : arg8.IsWhole) {arg9 : Memref sig .tc .vmem S2x4096x128 .f32} (harg9 : arg9.IsWhole) {arg10 : Memref sig .tc .vmem S2x4096x256 .f32} (harg10 : arg10.IsWhole) {arg11 : Memref sig .tc .vmem S2x4096x512 .bf16} (harg11 : arg11.IsWhole)
  (x : Staged F)
  (M : ℕ → Vec F S1x128x128 .f32) (A : ℕ → Vec F S1x128x256 .f32) (P : ℕ → Vec F S1x128x512 .bf16)

/-- The resources depend on the glued arrays only. -/
theorem res_congr {M M' : ℕ → Vec F S1x128x128 .f32} {A A' : ℕ → Vec F S1x128x256 .f32} {P P' : ℕ → Vec F S1x128x512 .bf16}
    (hM : glue M = glue M') (hA : glue A = glue A') (hP : glue P = glue P') :
    res c arg3 arg4 arg5 arg6 arg7 arg9 arg10 arg11 x M A P = res c arg3 arg4 arg5 arg6 arg7 arg9 arg10 arg11 x M' A' P' := by
  unfold res; rw [hM, hA, hP]

include harg3 harg4 harg5 harg6 harg7 harg9 harg10 harg11

/-- The pass over the context. -/
theorem ctx_all (E : Set ℕ) (K : Unit → sProp 𝕄) :
    iprop(res c arg3 arg4 arg5 arg6 arg7 arg9 arg10 arg11 x M A P
      ∗ (res c arg3 arg4 arg5 arg6 arg7 arg9 arg10 arg11 x x.mC A (fun b => setL (P b) (x.pC b)) -∗ K ()))
      ⊢ wpc c E (seq (ctxBlk arg3 arg4 arg9 arg11 harg11) 0 64) K := by
  have h := wp_seq c E (ctxBlk arg3 arg4 arg9 arg11 harg11)
    (fun n => res c arg3 arg4 arg5 arg6 arg7 arg9 arg10 arg11 x (upto n x.mC M) A (upto n (fun b => setL (P b) (x.pC b)) P))
    (fun n hn K => ctx_blk c harg3 harg4 harg5 harg6 harg7 harg9 harg10 harg11 x M A P E n hn K) 64 0 (by omega) K
  simp only [upto_zero] at h
  rw [res_congr c x (glue_upto x.mC M) rfl (glue_upto (fun b => setL (P b) (x.pC b)) P)] at h
  exact h

/-- The first chunk of keys. -/
theorem sm0_all (E : Set ℕ) (K : Unit → sProp 𝕄) :
    iprop(res c arg3 arg4 arg5 arg6 arg7 arg9 arg10 arg11 x x.mC A (fun b => setL (P b) (x.pC b))
      ∗ (res c arg3 arg4 arg5 arg6 arg7 arg9 arg10 arg11 x (x.mT 0) (x.aT 0) (x.pT 0) -∗ K ()))
      ⊢ wpc c E (seq (sm0Blk arg3 arg5 arg6 arg9 arg10 arg11 harg11) 0 64) K := by
  have h := wp_seq c E (sm0Blk arg3 arg5 arg6 arg9 arg10 arg11 harg11)
    (fun n => res c arg3 arg4 arg5 arg6 arg7 arg9 arg10 arg11 x (upto n (x.mT 0) x.mC) (upto n (x.aT 0) A) (upto n (x.pT 0) (fun b => setL (P b) (x.pC b))))
    (fun n hn K => sm0_blk c harg3 harg4 harg5 harg6 harg7 harg9 harg10 harg11 x A P E n hn K) 64 0 (by omega) K
  simp only [upto_zero] at h
  rw [res_congr c x (glue_upto (x.mT 0) x.mC) (glue_upto (x.aT 0) A) (glue_upto (x.pT 0) _)] at h
  exact h

/-- Trip `t` of the loop. -/
theorem sm_all (t : Fin k0_t1_loop.trips) (E : Set ℕ) (K : Unit → sProp 𝕄) :
    iprop(res c arg3 arg4 arg5 arg6 arg7 arg9 arg10 arg11 x (x.mT t.val) (x.aT t.val) (x.pT t.val)
      ∗ (res c arg3 arg4 arg5 arg6 arg7 arg9 arg10 arg11 x (x.mT (t.val + 1)) (x.aT (t.val + 1)) (x.pT (t.val + 1)) -∗ K ()))
      ⊢ wpc c E (seq (smBlk arg3 arg6 arg7 arg9 arg10 arg11 harg11 t) 0 64) K := by
  have h := wp_seq c E (smBlk arg3 arg6 arg7 arg9 arg10 arg11 harg11 t)
    (fun n => res c arg3 arg4 arg5 arg6 arg7 arg9 arg10 arg11 x (upto n (x.mT (t.val + 1)) (x.mT t.val)) (upto n (x.aT (t.val + 1)) (x.aT t.val)) (upto n (x.pT (t.val + 1)) (x.pT t.val)))
    (fun n hn K => sm_blk c harg3 harg4 harg5 harg6 harg7 harg9 harg10 harg11 x t E n hn K) 64 0 (by omega) K
  simp only [upto_zero] at h
  rw [res_congr c x (glue_upto (x.mT (t.val + 1)) _) (glue_upto (x.aT (t.val + 1)) _) (glue_upto (x.pT (t.val + 1)) _)] at h
  exact h

/-- The last chunk's values. -/
theorem last_all (E : Set ℕ) (K : Unit → sProp 𝕄) :
    iprop(res c arg3 arg4 arg5 arg6 arg7 arg9 arg10 arg11 x M (x.aT k0_t1_loop.trips) (x.pT k0_t1_loop.trips)
      ∗ (res c arg3 arg4 arg5 arg6 arg7 arg9 arg10 arg11 x M x.aF (x.pT k0_t1_loop.trips) -∗ K ()))
      ⊢ wpc c E (seq (lastBlk arg7 arg10 arg11) 0 64) K := by
  have h := wp_seq c E (lastBlk arg7 arg10 arg11)
    (fun n => res c arg3 arg4 arg5 arg6 arg7 arg9 arg10 arg11 x M (upto n x.aF (x.aT k0_t1_loop.trips)) (x.pT k0_t1_loop.trips))
    (fun n hn K => last_blk c harg3 harg4 harg5 harg6 harg7 harg9 harg10 harg11 x M E n hn K) 64 0 (by omega) K
  simp only [upto_zero] at h
  rw [res_congr c x (A' := x.aF) rfl (glue_upto x.aF _) rfl] at h
  exact h

/-- The loop: after it the state of all its trips. -/
theorem loop_all (E : Set ℕ) (K : Unit → sProp 𝕄) :
    iprop(res c arg3 arg4 arg5 arg6 arg7 arg9 arg10 arg11 x (x.mT 0) (x.aT 0) (x.pT 0)
      ∗ (res c arg3 arg4 arg5 arg6 arg7 arg9 arg10 arg11 x (x.mT k0_t1_loop.trips) (x.aT k0_t1_loop.trips) (x.pT k0_t1_loop.trips) -∗ K ()))
      ⊢ wpc c E (loop arg3 arg6 arg7 arg9 arg10 arg11 harg11) K := by
  have hbody : ∀ (k : Fin k0_t1_loop.trips) (acc : PUnit),
      res c arg3 arg4 arg5 arg6 arg7 arg9 arg10 arg11 x (x.mT k.val) (x.aT k.val) (x.pT k.val)
        ⊢ wp frame (wpE (defs₀ (F := F)) Variants.none (c : Thread nD τ) none) E (seq (smBlk arg3 arg6 arg7 arg9 arg10 arg11 harg11 k) 0 64)
          (fun _ => res c arg3 arg4 arg5 arg6 arg7 arg9 arg10 arg11 x (x.mT (k.val + 1)) (x.aT (k.val + 1)) (x.pT (k.val + 1))) := by
    intro k acc
    have h := sm_all c harg3 harg4 harg5 harg6 harg7 harg9 harg10 harg11 x k E
      (fun _ => res c arg3 arg4 arg5 arg6 arg7 arg9 arg10 arg11 x (x.mT (k.val + 1)) (x.aT (k.val + 1)) (x.pT (k.val + 1)))
    refine BIBase.Entails.trans ?_ h
    iintro HR
    isplitl [HR]; · iexact HR
    iintro HR; iexact HR
  refine BIBase.Entails.trans ?_ (Scf.wp_for frame (wpE (defs₀ (F := F)) Variants.none (c : Thread nD τ) none) E k0_t1_loop.lb k0_t1_loop.ub k0_t1_loop.st k0_t1_ok ⟨⟩
    (fun k _ => seq (smBlk arg3 arg6 arg7 arg9 arg10 arg11 harg11 k) 0 64)
    (fun k _ => res c arg3 arg4 arg5 arg6 arg7 arg9 arg10 arg11 x (x.mT k) (x.aT k) (x.pT k)) hbody)
  iintro ⟨HR, HK⟩
  isplitl [HR]; · iexact HR
  iintro %_ HR
  iapply HK; iexact HR

include harg8

/-- The end of the body: the output is `x.out`. -/
theorem finish_all (E : Set ℕ) (K : Unit → sProp 𝕄) :
    iprop(owns (c : Thread nD τ) arg10 fullShare (glue x.aF) ∗ (∃ d, owns (c : Thread nD τ) arg8 fullShare d)
      ∗ (owns (c : Thread nD τ) arg10 fullShare (glue x.aF) ∗ owns (c : Thread nD τ) arg8 fullShare x.out -∗ K ()))
      ⊢ wpc c E (finish arg8 harg8 arg10) K := by
  unfold finish owns wpc
  iintro ⟨⟨%f10, %hf10, H10⟩, ⟨%d, %f8, %hf8, H8⟩, Hk⟩
  obtain rfl := harg10.eq_unread hf10; obtain rfl := harg8.eq_unread hf8
  sl_exec
  sl_step
  iapply Hk
  isplitl [H10]
  · iexists _; isplitr; · ipureintro; exact harg10.read_unread _
    iexact H10
  iexists _; isplitr; swap; · iexact H8
  ipureintro
  funext y
  rw [View.read_writes_cons_unit_of_mem arg8.view _ inb_S1x4096x128_S1x4096x128_0_0_0 _ [] y y rfl ?_]
  · simp only [readAt_part]; rfl
  · intro a
    match a with
    | ⟨0, _⟩ => exact (Nat.zero_add _).symm
    | ⟨1, _⟩ => exact (Nat.zero_add _).symm
    | ⟨2, _⟩ => exact (Nat.zero_add _).symm

/-- The body: from the staged arrays and scratch at any contents to the same arrays and the output `x.out`. -/
theorem body_all (i : grid0.Coords) (E : Set ℕ) (K : PUnit → sProp 𝕄) :
    iprop(owns (c : Thread nD τ) arg3 fullShare x.q ∗ owns (c : Thread nD τ) arg4 fullShare x.kc ∗ owns (c : Thread nD τ) arg5 fullShare x.vc
    ∗ owns (c : Thread nD τ) arg6 fullShare x.k ∗ owns (c : Thread nD τ) arg7 fullShare x.v
    ∗ (∃ d, owns (c : Thread nD τ) arg8 fullShare d)
    ∗ (∃ d, owns (c : Thread nD τ) arg9 fullShare d) ∗ (∃ d, owns (c : Thread nD τ) arg10 fullShare d) ∗ (∃ d, owns (c : Thread nD τ) arg11 fullShare d)
    ∗ (owns (c : Thread nD τ) arg3 fullShare x.q ∗ owns (c : Thread nD τ) arg4 fullShare x.kc ∗ owns (c : Thread nD τ) arg5 fullShare x.vc
      ∗ owns (c : Thread nD τ) arg6 fullShare x.k ∗ owns (c : Thread nD τ) arg7 fullShare x.v
      ∗ owns (c : Thread nD τ) arg8 fullShare x.out
      ∗ (∃ d, owns (c : Thread nD τ) arg9 fullShare d) ∗ (∃ d, owns (c : Thread nD τ) arg10 fullShare d) ∗ (∃ d, owns (c : Thread nD τ) arg11 fullShare d) -∗ K ⟨⟩))
      ⊢ wpc c E (cc0_mla_attn (F := F) i arg3 harg3 arg4 harg4 arg5 harg5 arg6 harg6 arg7 harg7 arg8 harg8 arg9 harg9 arg10 harg10 arg11 harg11) K := by
  rw [main_eq]
  unfold wpc
  iintro ⟨H3, H4, H5, H6, H7, H8, ⟨%d9, H9⟩, ⟨%d10, H10⟩, ⟨%d11, H11⟩, Hk⟩
  rw [← glue_blockOf d9, ← glue_blockOf d10, ← glue_blockOf d11]
  rw [wp_bind]
  iapply (ctx_all c harg3 harg4 harg5 harg6 harg7 harg9 harg10 harg11 x (blockOf d9) (blockOf d10) (blockOf d11) E _)
  isplitl [H3 H4 H5 H6 H7 H9 H10 H11]
  · unfold res
    isplitl [H3]; · iexact H3
    isplitl [H4]; · iexact H4
    isplitl [H5]; · iexact H5
    isplitl [H6]; · iexact H6
    isplitl [H7]; · iexact H7
    isplitl [H9]; · iexact H9
    isplitl [H10]; · iexact H10
    iexact H11
  iintro HR
  rw [wp_bind]
  iapply (sm0_all c harg3 harg4 harg5 harg6 harg7 harg9 harg10 harg11 x (blockOf d10) (blockOf d11) E _)
  isplitl [HR]; · iexact HR
  iintro HR
  rw [wp_bind]
  iapply (loop_all c harg3 harg4 harg5 harg6 harg7 harg9 harg10 harg11 x E _)
  isplitl [HR]; · iexact HR
  iintro HR
  rw [wp_bind]
  iapply (last_all c harg3 harg4 harg5 harg6 harg7 harg9 harg10 harg11 x (x.mT k0_t1_loop.trips) E _)
  isplitl [HR]; · iexact HR
  unfold res
  iintro ⟨H3, H4, H5, H6, H7, H9, H10, H11⟩
  iapply (finish_all c harg3 harg4 harg5 harg6 harg7 harg8 harg9 harg10 harg11 x E _)
  isplitl [H10]; · iexact H10
  isplitl [H8]; · iexact H8
  iintro ⟨H10, H8⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Stages

end Cert.KernelIdeal.Blocks

end
-- ==== Proof.Run.lean ====
/- The kernel's run: at every grid point the output block is `Staged.out` of the point's input blocks. -/
module

public import proofs.«01_k».proof.Proof.Body
public import Idealize.ShloMosaic.Lib.Claim

@[expose] public section

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staged arrays at point `t`: the point's input blocks. -/
def stagedAt (c : Dev nD) (t : Fin cfg0.N) : Staged F :=
  ⟨iblk m c 0 t, iblk m c 1 t, iblk m c 2 t, iblk m c 3 t, iblk m c 4 t⟩

/-- The pipeline's proof data: after the body each input's buffer at its block, the output's at the block's `out`. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stagedAt m c t).out
  Φ _ := Pipeline.ΦA spec0 c
  q _ := fullShare
  owed _ := 0

/-- The arrays as the region finds them. -/
theorem dat_A (c : Dev nD) (w : Fin cfg0.W) : (dat m 0 c).A w = V m c (Pipeline.arrRef spec0 w) := by dsimp only [dat]

/-- What the body leaves in each buffer. -/
theorem dat_after0 (c : Dev nD) (t : Fin cfg0.N) : (dat m 0 c).after 0 t = iblk m c 0 t := by dsimp only [dat]
theorem dat_after1 (c : Dev nD) (t : Fin cfg0.N) : (dat m 0 c).after 1 t = iblk m c 1 t := by dsimp only [dat]
theorem dat_after2 (c : Dev nD) (t : Fin cfg0.N) : (dat m 0 c).after 2 t = iblk m c 2 t := by dsimp only [dat]
theorem dat_after3 (c : Dev nD) (t : Fin cfg0.N) : (dat m 0 c).after 3 t = iblk m c 3 t := by dsimp only [dat]
theorem dat_after4 (c : Dev nD) (t : Fin cfg0.N) : (dat m 0 c).after 4 t = iblk m c 4 t := by dsimp only [dat]
theorem dat_after5 (c : Dev nD) (t : Fin cfg0.N) : (dat m 0 c).after 5 t = (stagedAt m c t).out := by dsimp only [dat]

/-- Each input's buffer holds its block when the body starts. -/
theorem dat_before0 (c : Dev nD) (t : Fin cfg0.N) (d) : (dat m 0 c).before 0 t d = iblk m c 0 t :=
  before0_0_of m (dat m 0 c) (dat_A m c 0) (dat_after0 m c) t d
theorem dat_before1 (c : Dev nD) (t : Fin cfg0.N) (d) : (dat m 0 c).before 1 t d = iblk m c 1 t :=
  before0_1_of m (dat m 0 c) (dat_A m c 1) (dat_after1 m c) t d
theorem dat_before2 (c : Dev nD) (t : Fin cfg0.N) (d) : (dat m 0 c).before 2 t d = iblk m c 2 t :=
  before0_2_of m (dat m 0 c) (dat_A m c 2) (dat_after2 m c) t d
theorem dat_before3 (c : Dev nD) (t : Fin cfg0.N) (d) : (dat m 0 c).before 3 t d = iblk m c 3 t :=
  before0_3_of m (dat m 0 c) (dat_A m c 3) (dat_after3 m c) t d
theorem dat_before4 (c : Dev nD) (t : Fin cfg0.N) (d) : (dat m 0 c).before 4 t d = iblk m c 4 t :=
  before0_4_of m (dat m 0 c) (dat_A m c 4) (dat_after4 m c) t d

/-- What the body is called with at point `t`, -/
def pre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d)))

/-- and what it returns. -/
def post (c : Dev nD) (t : Fin cfg0.N) : sProp 𝕄 :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t)
    ∗ owns (c : Thread nD τ) (ms0_5 t) fullShare ((dat m 0 c).after 5 t))

/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [dat_before0, dat_before1, dat_before2, dat_before3, dat_before4]
  rw [show (dat m 0 c).Φ t.succ = (dat m 0 c).Φ t.castSucc from rfl,
    show (dat m 0 c).owesAt () t.succ = (dat m 0 c).owesAt () t.castSucc from rfl,
    dat_after0, dat_after1, dat_after2, dat_after3, dat_after4, dat_after5]
  rw [show (dat m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (body_all c (hs0_0 t) (hs0_1 t) (hs0_2 t) (hs0_3 t) (hs0_4 t) (hs0_5 t) (Memref.isWhole_whole _) (Memref.isWhole_whole _) (Memref.isWhole_whole _)
    (stagedAt m c t) (grid0.coords t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at a point's slots is the body at the point. -/
theorem row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dat (F := F) m 0 c) (defs₀ (F := F)) Variants.none () Set.univ := fun t => by
  rw [bigSep_W0, bigSep_W0, row]
  exact triple_restated (body_at m c t) rfl .rfl fun _ => .rfl

set_option backward.isDefEq.respectTransparency.types false in
/-- The run: every array of the pipeline ends at what the proof data say, every semaphore at zero. -/
theorem run_quiescent : θ_run defs (onTc (τ := τ) (main (F := F))) (s₀ m ρ) (fun r => (Pipeline.FramePost cfgs (dat m) 0 (V m)) r ∧ r.2.sem = fun _ => 0) :=
  Pipeline.θ_run_frame (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := dat_A m) (hΦ := fun _ _ => rfl)

end Cert.KernelIdeal.Blocks

end
-- ==== Proof.Payloads.lean ====
/- The kernel's block computations read at one row, in the reals: scores, running maximum, weights, accumulator. -/
module

public import proofs.«01_k».proof.Proof.State
public import Idealize.ShloMosaic.Lib.Pointwise

@[expose] public section

set_option maxRecDepth 16384

noncomputable section

namespace Cert.KernelIdeal.Blocks

open Idealize.ShloMosaic Idealize.SL.Sem
open Cert.KernelIdeal Cert.KernelIdeal.Gen

theorem negInf : (Ideal.ofBits .f32 0xFF800000#32 : EReal) = ⊥ := by
  simp [Ideal.ofBits, Ideal.ieee]

/-- The maximum of finitely many reals (at least one) is a real. -/
theorem fold_max_real {n : ℕ} (hn : 0 < n) (s : Fin n → ℝ) :
    ∃ μ : ℝ, Finset.univ.fold max (⊥ : EReal) (fun j => (s j : EReal)) = (μ : EReal) := by
  have key : ∀ t : Finset (Fin n), t.fold max (⊥ : EReal) (fun j => (s j : EReal)) = ⊥ ∧ t = ∅ ∨
      ∃ μ : ℝ, t.fold max (⊥ : EReal) (fun j => (s j : EReal)) = (μ : EReal) := by
    intro t
    induction t using Finset.induction_on with
    | empty => exact .inl ⟨by simp, rfl⟩
    | insert a t ha ih =>
      right
      rw [Finset.fold_insert ha]
      rcases ih with ⟨h, _⟩ | ⟨μ, h⟩
      · exact ⟨s a, by rw [h]; simp⟩
      · exact ⟨max (s a) μ, by rw [h]; exact (EReal.coe_strictMono.monotone.map_max).symm⟩
  rcases key Finset.univ with ⟨_, h⟩ | h
  · exact absurd h (Finset.univ_nonempty_iff.mpr ⟨⟨0, hn⟩⟩).ne_empty
  · exact h

/-- The scores of a chunk of keys at row `i`. -/
theorem pay2_at (q : Vec Ideal S1x128x128 .bf16) (k : Vec Ideal S1x512x128 .bf16) (i : Fin 128) (j : Fin 512) :
    k0_pay2 (F := Ideal) q k (ix2 i j) = ∑ d : Fin 128, q (ix3 0 i d) * k (ix3 0 j d) := by
  pointwise [k0_pay2]

theorem pay464_at (q : Vec Ideal S1x128x128 .bf16) (k : Vec Ideal S1x256x128 .bf16) (i : Fin 128) (j : Fin 256) :
    k0_pay464 (F := Ideal) q k (ix2 i j) = ∑ d : Fin 128, q (ix3 0 i d) * k (ix3 0 j d) := by
  pointwise [k0_pay464]

theorem pay4_at (q : Vec Ideal S1x128x128 .bf16) (k : Vec Ideal S1x512x128 .bf16) (m : Vec Ideal S1x128x128 .f32) (i l : Fin 128) :
    k0_pay4 (F := Ideal) q k m (ix2 i l) = max (m (ix3 0 i l)) (Finset.univ.fold max ⊥ fun j : Fin 512 => k0_pay2 (F := Ideal) q k (ix2 i j)) := by
  pointwise [k0_pay4, k0_pay3, negInf]

theorem pay465_at (q : Vec Ideal S1x128x128 .bf16) (k : Vec Ideal S1x256x128 .bf16) (i l : Fin 128) :
    k0_pay465 (F := Ideal) q k (ix2 i l) = (Finset.univ.fold max ⊥ fun j : Fin 256 => k0_pay464 (F := Ideal) q k (ix2 i j)) := by
  have key : ∀ x : Vec Ideal S128x1 .f32, ∀ h, concatenate S128x128 1 (List.replicate 128 (⟨S128x1, x⟩ : (s : Shape) × (s.Idx → Ideal .f32))) h (ix2 i l)
      = x (ix2 i 0) := fun x h =>
    concatenate_replicate_apply 1 128 x h rfl _ _ (by show 0 = l.val % 1; omega) (fun b hb => by
      match b with
      | ⟨0, _⟩ => rfl
      | ⟨1, _⟩ => exact absurd rfl hb)
  have hc : ∀ x : Vec Ideal S128x1 .f32, Shape.Concatenates ((List.replicate 128 (⟨S128x1, x⟩ : (s : Shape) × (s.Idx → Ideal .f32))).map (·.1)) S128x128 1 := by
    intro x; rw [List.map_replicate]
    exact (by decide : Shape.Concatenates (List.replicate 128 S128x1) S128x128 1)
  have h := key (shapeCast S128x1 (multiReduction (F := Ideal) .maximumf [1] S128 (k0_pay464 q k) 0xFF800000#32 reduces_S128x256_S128 (.inl rfl) rfl)
    shapeCasts_S128_S128x1) (hc _)
  refine Eq.trans (show k0_pay465 (F := Ideal) q k (ix2 i l) = _ from rfl) (h.trans ?_)
  pointwise [negInf]

theorem pay466_at (q : Vec Ideal S1x128x128 .bf16) (k : Vec Ideal S1x256x128 .bf16) (i : Fin 128) (j : Fin 256)
    (s μ : ℝ) (hs : k0_pay464 (F := Ideal) q k (ix2 i j) = (s : EReal)) (hM : ∀ l, k0_pay465 (F := Ideal) q k (ix2 i l) = (μ : EReal)) :
    k0_pay466 (F := Ideal) q k (ix3 0 i j) = (Real.rpow 2 (s - μ) : ℝ) := by
  pointwise [k0_pay466, hs, hM]
  simp only [dite_eq_ite, ite_self]
  rfl

theorem pay467_at (q : Vec Ideal S1x128x128 .bf16) (k : Vec Ideal S1x256x128 .bf16) (i l : Fin 128) :
    k0_pay467 (F := Ideal) q k (ix3 0 i l) = k0_pay465 (F := Ideal) q k (ix2 i l) := by
  pointwise [k0_pay467]

theorem pay5_at (q : Vec Ideal S1x128x128 .bf16) (k : Vec Ideal S1x512x128 .bf16) (m : Vec Ideal S1x128x128 .f32)
    (a : Vec Ideal S1x128x256 .f32) (p : Vec Ideal S1x128x512 .bf16) (v : Vec Ideal S1x512x256 .bf16) (i : Fin 128) (l : Fin 256)
    (μ μ' : ℝ) (hm : ∀ l, m (ix3 0 i l) = (μ : EReal)) (hM : ∀ l, k0_pay4 (F := Ideal) q k m (ix2 i l) = (μ' : EReal)) :
    k0_pay5 (F := Ideal) q k m a p v (ix3 0 i l) = (Real.rpow 2 (μ - μ') : ℝ) * (a (ix3 0 i l) + ∑ j : Fin 512, p (ix3 0 i j) * v (ix3 0 j l)) := by
  pointwise [k0_pay5, k0_pay3, hm, hM]
  simp only [dite_eq_ite, ite_self]
  rfl

theorem pay749_at (S : Vec Ideal S128x512 .f32) (M : Vec Ideal S128x128 .f32) (i : Fin 128) (j : Fin 512)
    (s μ' : ℝ) (hs : S (ix2 i j) = (s : EReal)) (hM : ∀ l, M (ix2 i l) = (μ' : EReal)) :
    k0_pay749 (F := Ideal) S M (ix3 0 i j) = (Real.rpow 2 (s - μ') : ℝ) := by
  pointwise [k0_pay749, hs, hM]
  simp only [dite_eq_ite, ite_self]
  rfl

theorem pay8_at (M : Vec Ideal S128x128 .f32) (i l : Fin 128) : k0_pay8 (F := Ideal) M (ix3 0 i l) = M (ix2 i l) := by
  pointwise [k0_pay8]

theorem pay747_at (q : Vec Ideal S1x128x128 .bf16) (k : Vec Ideal S1x512x128 .bf16) (m : Vec Ideal S1x128x128 .f32)
    (p : Vec Ideal S1x128x256 .bf16) (v : Vec Ideal S1x256x256 .bf16) (i : Fin 128) (l : Fin 256)
    (μ μ' : ℝ) (hm : ∀ l, m (ix3 0 i l) = (μ : EReal)) (hM : ∀ l, k0_pay746 (F := Ideal) q k m (ix2 i l) = (μ' : EReal)) :
    k0_pay748 (F := Ideal) (k0_pay747 q k m p v) (ix3 0 i l) = (Real.rpow 2 (μ - μ') : ℝ) * (∑ j : Fin 256, p (ix3 0 i j) * v (ix3 0 j l)) := by
  pointwise [k0_pay748, k0_pay747, k0_pay745, hm, hM]
  simp only [dite_eq_ite, ite_self]
  rfl

theorem pay1280_at (a : Vec Ideal S1x128x256 .f32) (p : Vec Ideal S1x128x512 .bf16) (v : Vec Ideal S1x512x256 .bf16) (i : Fin 128) (l : Fin 256) :
    k0_pay1280 (F := Ideal) a p v (ix3 0 i l) = a (ix3 0 i l) + ∑ j : Fin 512, p (ix3 0 i j) * v (ix3 0 j l) := by
  pointwise [k0_pay1280]

theorem out_at (a b c d : Vec Ideal S1x4096x128 .f32) (i : Fin 4096) (l : Fin 128) :
    k0_pay1 (F := Ideal) (k0_pay1283 a b c d) (ix3 0 i l) = if l.val < 64 then Ideal.div (a (ix3 0 i l)) (b (ix3 0 i l)) else Ideal.div (c (ix3 0 i l)) (d (ix3 0 i l)) := by
  pointwise [k0_pay1, k0_pay1283]
  have hl := l.isLt
  have h : (IntOp.cmpi CmpIPredicate.slt (BitVec.ofNat 32 l.val) 64#32) = if l.val < 64 then 1#1 else 0#1 := by
    revert l; decide +kernel
  rw [h]
  split <;> rfl

end Cert.KernelIdeal.Blocks

end
-- ==== Proof.Row.lean ====
/- One row of one block: the running maximum is a real, the weights are powers of two of the scores above it, and the
   accumulator is the weighted sum of the values read so far. -/
module

public import proofs.«01_k».proof.Proof.Payloads

@[expose] public section

set_option maxRecDepth 16384

noncomputable section

namespace Cert.KernelIdeal.Blocks

open Idealize.ShloMosaic Idealize.SL.Sem
open Cert.KernelIdeal Cert.KernelIdeal.Gen

/-- A nonnegative real times a finite sum is the sum of the products. -/
theorem coe_mul_sum {ι : Type*} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- The weight of a score `s` over a maximum `μ`. -/
def wt (s μ : ℝ) : EReal := ((Real.rpow 2 (s - μ) : ℝ) : EReal)

theorem rpow_nonneg (a : ℝ) : 0 ≤ Real.rpow 2 a := Real.rpow_nonneg (by norm_num) a

/-- Moving the maximum from `μ` to `μ'` scales every weight alike. -/
theorem wt_move (s μ μ' : ℝ) (v : EReal) : ((Real.rpow 2 (μ - μ') : ℝ) : EReal) * (wt s μ * v) = wt s μ' * v := by
  rw [← mul_assoc]
  unfold wt
  rw [← EReal.coe_mul]
  congr 2
  show (2 : ℝ) ^ (μ - μ') * (2 : ℝ) ^ (s - μ) = (2 : ℝ) ^ (s - μ')
  rw [← Real.rpow_add (by norm_num)]
  congr 1; ring

theorem wt_sum {ι : Type*} (s : Finset ι) (S : ι → ℝ) (v : ι → EReal) (μ μ' : ℝ) :
    ((Real.rpow 2 (μ - μ') : ℝ) : EReal) * ∑ k ∈ s, wt (S k) μ * v k = ∑ k ∈ s, wt (S k) μ' * v k := by
  rw [coe_mul_sum _ (rpow_nonneg _)]
  exact Finset.sum_congr rfl fun k _ => wt_move _ _ _ _

theorem rpow_add_distrib (a : ℝ) (x y : EReal) :
    ((Real.rpow 2 a : ℝ) : EReal) * (x + y) = ((Real.rpow 2 a : ℝ) : EReal) * x + ((Real.rpow 2 a : ℝ) : EReal) * y :=
  EReal.left_distrib_of_nonneg_of_ne_top (by exact_mod_cast rpow_nonneg a) (EReal.coe_ne_top _) _ _

/-- A sum up to `N` and the next `L` terms. -/
theorem sum_chunk (N L : ℕ) (f : ℕ → EReal) : ∑ k ∈ Finset.range N, f k + ∑ j : Fin L, f (N + j.val) = ∑ k ∈ Finset.range (N + L), f k := by
  rw [Finset.sum_range_add, Finset.sum_range (fun x => f (N + x))]

theorem trips_eq : k0_t1_loop.trips = 15 := by decide +kernel

/-- What is known of row `i` of block `n`: its scores `C` against the context keys and `S` against the keys are reals, and
    lane by lane the values are `Wc` and `W`. -/
structure RowData (x : Staged Ideal) (n : ℕ) (i : Fin 128) (C : Fin 256 → ℝ) (S : ℕ → ℝ) (Wc : Fin 256 → Fin 256 → EReal) (W : ℕ → Fin 256 → EReal) : Prop where
  hC : ∀ j, k0_pay464 (F := Ideal) (x.qB n) (x.kcB n) (ix2 i j) = (C j : EReal)
  hS0 : ∀ j : Fin 512, k0_pay2 (F := Ideal) (x.qB n) (x.k0B n) (ix2 i j) = (S j.val : EReal)
  hS : ∀ (t : Fin k0_t1_loop.trips) (j : Fin 512), k0_pay2 (F := Ideal) (x.qB n) (x.kB n t) (ix2 i j) = (S (512 * (t.val + 1) + j.val) : EReal)
  hvc : ∀ j l, x.vcB (ix3 0 j l) = Wc j l
  hv : ∀ (t : Fin k0_t1_loop.trips) (j : Fin 512) (l : Fin 256), x.vB t (ix3 0 j l) = W (512 * t.val + j.val) l
  hvl : ∀ (j : Fin 512) (l : Fin 256), x.vLast (ix3 0 j l) = W (7680 + j.val) l

variable {x : Staged Ideal} {n : ℕ} {i : Fin 128} {C : Fin 256 → ℝ} {S : ℕ → ℝ} {Wc : Fin 256 → Fin 256 → EReal} {W : ℕ → Fin 256 → EReal}

/-- The new maximum of a chunk with real scores over a real old maximum is a real, the same in every lane. -/
theorem pay4_real (q : Vec Ideal S1x128x128 .bf16) (k : Vec Ideal S1x512x128 .bf16) (m : Vec Ideal S1x128x128 .f32) (s : Fin 512 → ℝ)
    (μ : ℝ) (hs : ∀ j, k0_pay2 (F := Ideal) q k (ix2 i j) = (s j : EReal)) (hm : ∀ l, m (ix3 0 i l) = (μ : EReal)) :
    ∃ μ' : ℝ, ∀ l, k0_pay4 (F := Ideal) q k m (ix2 i l) = (μ' : EReal) := by
  obtain ⟨ν, hν⟩ := fold_max_real (by norm_num) s
  refine ⟨max μ ν, fun l => ?_⟩
  rw [pay4_at, hm, EReal.coe_strictMono.monotone.map_max, ← hν]
  simp only [hs]

/-- The state of a row after the first chunk and `t` trips. -/
theorem row_state (h : RowData x n i C S Wc W) (t : ℕ) (ht : t ≤ 15) : ∃ μ : ℝ,
    (∀ l, x.mT t n (ix3 0 i l) = (μ : EReal)) ∧ (∀ j : Fin 512, x.pT t n (ix3 0 i j) = wt (S (512 * t + j.val)) μ) ∧
    ∀ l, x.aT t n (ix3 0 i l) = ∑ j, wt (C j) μ * Wc j l + ∑ k ∈ Finset.range (512 * t), wt (S k) μ * W k l := by
  induction t with
  | zero =>
    obtain ⟨ν, hν⟩ := fold_max_real (by norm_num) C
    have hM : ∀ l, k0_pay465 (F := Ideal) (x.qB n) (x.kcB n) (ix2 i l) = (ν : EReal) := fun l => by
      rw [pay465_at, ← hν]; simp only [h.hC]
    have hm : ∀ l, x.mC n (ix3 0 i l) = (ν : EReal) := fun l => (pay467_at _ _ _ _).trans (hM l)
    obtain ⟨μ, hμ⟩ := pay4_real (x.qB n) (x.k0B n) (x.mC n) _ ν h.hS0 hm
    refine ⟨μ, fun l => (pay8_at _ _ _).trans (hμ l), fun j => ?_, fun l => ?_⟩
    · rw [show 512 * 0 + j.val = j.val by omega]
      exact pay749_at _ _ i j _ μ (h.hS0 j) hμ
    · have ha := pay747_at (x.qB n) (x.k0B n) (x.mC n) (x.pC n) x.vcB i l ν μ hm hμ
      refine Eq.trans ha ?_
      have hp : ∀ j, x.pC n (ix3 0 i j) = wt (C j) ν := fun j => pay466_at _ _ i j _ ν (h.hC j) hM
      simp only [hp, h.hvc, wt_sum, Nat.mul_zero, Finset.range_zero, Finset.sum_empty, add_zero]
  | succ t ih =>
    obtain ⟨μ, hm, hp, ha⟩ := ih (by omega)
    have hlt : t < k0_t1_loop.trips := by rw [trips_eq]; omega
    obtain ⟨μ', hμ⟩ := pay4_real (x.qB n) (x.kB n ⟨t, hlt⟩) (x.mT t n) _ μ (h.hS ⟨t, hlt⟩) hm
    refine ⟨μ', fun l => ?_, fun j => ?_, fun l => ?_⟩
    · rw [Staged.mT, dif_pos hlt]
      exact (pay8_at _ _ _).trans (hμ l)
    · rw [Staged.pT, dif_pos hlt]
      exact pay749_at _ _ i j _ μ' (h.hS ⟨t, hlt⟩ j) hμ
    · rw [Staged.aT, dif_pos hlt, pay5_at _ _ _ _ _ _ i l μ μ' hm hμ, ha]
      simp only [hp, h.hv]
      rw [add_assoc, sum_chunk (512 * t) 512 (fun k => wt (S k) μ * W k l), rpow_add_distrib, wt_sum, wt_sum, show 512 * (t + 1) = 512 * t + 512 from rfl]

/-- The accumulator of a row at the end: the weighted sum of all values. -/
theorem row_final (h : RowData x n i C S Wc W) : ∃ μ : ℝ, ∀ l,
    x.aF n (ix3 0 i l) = ∑ j, wt (C j) μ * Wc j l + ∑ k ∈ Finset.range 8192, wt (S k) μ * W k l := by
  obtain ⟨μ, -, hp, ha⟩ := row_state h 15 (le_refl _)
  refine ⟨μ, fun l => ?_⟩
  unfold Staged.aF
  rw [trips_eq, pay1280_at, ha]
  simp only [hp, h.hvl]
  rw [add_assoc, sum_chunk (512 * 15) 512 (fun k => wt (S k) μ * W k l)]

end Cert.KernelIdeal.Blocks

end
-- ==== Proof.Softmax.lean ====
/- Softmax attention of one row in the extended reals: the quotient of the two accumulated sums is the sum of the values
   over their normalised weights, whatever reals are subtracted in the exponents. -/
module

public import proofs.«01_k».proof.Proof.Row

@[expose] public section

noncomputable section

namespace Cert.KernelIdeal.Blocks

open Idealize.ShloMosaic

theorem coe_finsum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A power of two of a score in units of `log 2` is, up to a factor that is the same for all scores, an exponential. -/
theorem wt_eq (u M μ : ℝ) : wt (u / Real.log 2) μ = ((Real.exp (M - μ * Real.log 2) * Real.exp (u - M) : ℝ) : EReal) := by
  unfold wt
  congr 1
  have hl : Real.log 2 ≠ 0 := (Real.log_pos (by norm_num)).ne'
  show (2 : ℝ) ^ (u / Real.log 2 - μ) = _
  rw [Real.rpow_def_of_pos (by norm_num), ← Real.exp_add]
  congr 1
  field_simp
  ring

/-- The two ways of attention over two groups of keys, with scores `u`, values `W` and reals `M`, `μ` subtracted. -/
theorem softmax_eq {ι κ : Type*} [Fintype ι] [Fintype κ] [Nonempty ι] (u : ι → ℝ) (u' : κ → ℝ) (W : ι → EReal) (W' : κ → EReal) (M μ : ℝ) :
    Ideal.div (∑ j, wt (u j / Real.log 2) μ * W j + ∑ k, wt (u' k / Real.log 2) μ * W' k)
        (∑ j, wt (u j / Real.log 2) μ * 1 + ∑ k, wt (u' k / Real.log 2) μ * 1)
      = ∑ j, W j * Ideal.div (Ideal.exp ((u j : EReal) - (M : EReal))) (∑ j, Ideal.exp ((u j : EReal) - (M : EReal)) + ∑ k, Ideal.exp ((u' k : EReal) - (M : EReal)))
        + ∑ k, W' k * Ideal.div (Ideal.exp ((u' k : EReal) - (M : EReal))) (∑ j, Ideal.exp ((u j : EReal) - (M : EReal)) + ∑ k, Ideal.exp ((u' k : EReal) - (M : EReal))) := by
  have hexp : ∀ a : ℝ, Ideal.exp ((a : EReal) - (M : EReal)) = ((Real.exp (a - M) : ℝ) : EReal) := fun a => rfl
  have hc : 0 < Real.exp (M - μ * Real.log 2) := Real.exp_pos _
  set cc := Real.exp (M - μ * Real.log 2) with hcc
  set D : ℝ := ∑ j, Real.exp (u j - M) + ∑ k, Real.exp (u' k - M) with hD
  have hDpos : 0 < D := add_pos_of_pos_of_nonneg (Finset.sum_pos (fun _ _ => Real.exp_pos _) Finset.univ_nonempty)
    (Finset.sum_nonneg fun _ _ => (Real.exp_pos _).le)
  simp only [wt_eq _ M μ, ← hcc, hexp, mul_one]
  have h1 : (∑ j, ((Real.exp (u j - M) : ℝ) : EReal) + ∑ k, ((Real.exp (u' k - M) : ℝ) : EReal)) = (D : EReal) := by
    rw [hD, EReal.coe_add, coe_finsum, coe_finsum]
  have h2 : (∑ j, ((cc * Real.exp (u j - M) : ℝ) : EReal) + ∑ k, ((cc * Real.exp (u' k - M) : ℝ) : EReal)) = ((cc * D : ℝ) : EReal) := by
    rw [hD, mul_add, Finset.mul_sum, Finset.mul_sum, EReal.coe_add, coe_finsum, coe_finsum]
  rw [h1, h2, Ideal.div_coe (mul_pos hc hDpos).ne', EReal.mul_comm, EReal.left_distrib_of_nonneg_of_ne_top
    (by exact_mod_cast (one_div_pos.mpr (mul_pos hc hDpos)).le) (EReal.coe_ne_top _),
    coe_mul_sum _ (one_div_pos.mpr (mul_pos hc hDpos)).le, coe_mul_sum _ (one_div_pos.mpr (mul_pos hc hDpos)).le]
  have key : ∀ (a : ℝ) (w : EReal), ((1 / (cc * D) : ℝ) : EReal) * (((cc * a : ℝ) : EReal) * w) = w * Ideal.div ((a : ℝ) : EReal) (D : EReal) := by
    intro a w
    rw [Ideal.div_coe hDpos.ne', ← mul_assoc, ← EReal.coe_mul, ← EReal.coe_mul, EReal.mul_comm]
    congr 2
    field_simp
  simp only [key]

end Cert.KernelIdeal.Blocks

end
-- ==== Proof.RefAt.lean ====
/- The reference's result read at an index: the values over the softmax weights of real scores. -/
module

public import proofs.«01_k».proof.Proof.Gen.ReferenceIdeal.Run
public import proofs.«01_k».proof.Proof.Softmax

@[expose] public section

set_option maxRecDepth 16384

noncomputable section

namespace Cert.ReferenceIdeal.At

open Idealize.ShloMosaic Idealize.SL.Sem Idealize.ShloMosaic.TcCoe
open Cert.ReferenceIdeal Cert.ReferenceIdeal.Gen
open Cert.KernelIdeal.Blocks (coe_finsum fold_max_real negInf)

/-- The scores of all queries against all keys, context first. -/
def scores (q : FVec Ideal S4x8192x8x64 .f32) (qr : FVec Ideal S4x8192x8x32 .f32) (kc : FVec Ideal S4x256x8x64 .f32) (kcr : FVec Ideal S4x256x32 .f32)
    (k : FVec Ideal S4x8192x8x64 .f32) (kr : FVec Ideal S4x8192x32 .f32) : FVec Ideal S4x8x8192x8448 .f32 :=
  Host.divf (F := Ideal) (addf (Host.dotGeneral (F := Ideal) dot_S4x8192x8x64_S4x8448x8x64_S4x8x8192x8448_3_3_1_1_02_02 none q
      (concatenate S4x8448x8x64 1 [⟨S4x256x8x64, kc⟩, ⟨S4x8192x8x64, k⟩] concatenates_S4x256x8x64_S4x8192x8x64_S4x8448x8x64_d1))
    (transpose S4x8x8192x8448 [0, 3, 2, 1] (Host.dotGeneral (F := Ideal) dot_S4x8448x32_S4x8192x8x32_S4x8448x8192x8_2_3_1_12_0_0 none
      (concatenate S4x8448x32 1 [⟨S4x256x32, kcr⟩, ⟨S4x8192x32, kr⟩] concatenates_S4x256x32_S4x8192x32_S4x8448x32_d1) qr)
      transposes_S4x8448x8192x8_S4x8x8192x8448_0_3_2_1))
    (broadcastInDim S4x8x8192x8448 ![] bcast_S_S4x8x8192x8448 (Host.sqrt (constant S_ .f32 0x42C00000#32)))

/-- The rows' maxima. -/
def maxima (T : FVec Ideal S4x8x8192x8448 .f32) : FVec Ideal S4x8x8192 .f32 :=
  Host.reduce FloatOps.maximumf T (constant (F := Ideal) S_ .f32 0xFF800000#32) reducesTo_S4x8x8192x8448_S4x8x8192_d3 h_S_

/-- The exponentials of the scores less their row's maximum `X`. -/
def expo (T : FVec Ideal S4x8x8192x8448 .f32) (X : FVec Ideal S4x8x8192 .f32) : FVec Ideal S4x8x8192x8448 .f32 :=
  Host.exp (F := Ideal) (subf T (broadcastInDim S4x8x8192x8448 ![0, 1, 2, 3] bcast_S4x8x8192x1_S4x8x8192x8448_0_1_2_3
    (broadcastInDim S4x8x8192x1 ![0, 1, 2] bcast_S4x8x8192_S4x8x8192x1_0_1_2
      (maximumf (broadcastInDim S4x8x8192 ![] bcast_S_S4x8x8192 (constant S_ .f32 0xFF800000#32)) X))))

/-- The values over the normalised exponentials. -/
def attend (vals : FVec Ideal S4x8448x8x64 .f32) (E : FVec Ideal S4x8x8192x8448 .f32) : FVec Ideal S4x8192x512 .bf16 :=
  truncf .bf16 (shapeCast _ (transpose S4x8192x8x64 [0, 3, 1, 2] (Host.dotGeneral (F := Ideal) dot_S4x8448x8x64_S4x8x8192x8448_S4x8x64x8192_1_3_3_2_02_01 none vals
    (Host.divf E (broadcastInDim S4x8x8192x8448 ![0, 1, 2, 3] bcast_S4x8x8192x1_S4x8x8192x8448_0_1_2_3
      (broadcastInDim S4x8x8192x1 ![0, 1, 2] bcast_S4x8x8192_S4x8x8192x1_0_1_2
        (Host.reduceAdd E (constant S_ .f32 0x00000000#32) reducesTo_S4x8x8192x8448_S4x8x8192_d3 h_S_)))))
    transposes_S4x8x64x8192_S4x8192x8x64_0_3_1_2) shapeCasts_S4x8192x8x64_S4x8192x512) bitsLt_bf16_f32

/-- The scores of the reference's arguments. -/
def scoresOf (m : (ℓ : Loc nD τ sig) → Buf (Elt Ideal) ℓ) (c : Dev nD) : FVec Ideal S4x8x8192x8448 .f32 :=
  scores (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg6))

/-- The reference's result is made of these. -/
theorem res_eq (m : (ℓ : Loc nD τ sig) → Buf (Elt Ideal) ℓ) (c : Dev nD) :
    Value.res_main_v24 m c = attend
      (concatenate S4x8448x8x64 1 [⟨S4x256x8x64, (m ((c.tc : Thread nD τ).loc main_arg4))⟩, ⟨S4x8192x8x64, (m ((c.tc : Thread nD τ).loc main_arg7))⟩] concatenates_S4x256x8x64_S4x8192x8x64_S4x8448x8x64_d1)
      (expo (scoresOf m c) (maxima (scoresOf m c))) := rfl

theorem ninetySix : (Ideal.ofBits .f32 0x42C00000#32 : EReal) = ((96 : ℝ) : EReal) := by
  simp [Ideal.ofBits, Ideal.ieee, -EReal.coe_mul]; norm_num

theorem sqrt_ninetySix : Ideal.sqrt ((96 : ℝ) : EReal) = ((Real.sqrt 96 : ℝ) : EReal) := by
  rw [Ideal.sqrt_coe, if_neg (by norm_num)]

theorem div_real (a b : ℝ) (hb : b ≠ 0) : Ideal.div (a : EReal) (b : EReal) = ((a / b : ℝ) : EReal) := by
  rw [Ideal.div_coe hb, ← EReal.coe_mul, mul_one_div]

theorem sqrt96_ne : Real.sqrt 96 ≠ 0 := by positivity

/-- The score of a query against a key, in the reals: plain and rotary parts, over the root of 96. -/
def score (q : Fin 64 → ℝ) (qr : Fin 32 → ℝ) (k : Fin 64 → ℝ) (kr : Fin 32 → ℝ) : ℝ := (∑ d, q d * k d + ∑ r, kr r * qr r) / Real.sqrt 96

section

variable (q : FVec Ideal S4x8192x8x64 .f32) (qr : FVec Ideal S4x8192x8x32 .f32) (kc : FVec Ideal S4x256x8x64 .f32) (kcr : FVec Ideal S4x256x32 .f32)
    (k : FVec Ideal S4x8192x8x64 .f32) (kr : FVec Ideal S4x8192x32 .f32)
    (rq : Fin 64 → ℝ) (rqr : Fin 32 → ℝ) (rkc : Fin 256 → Fin 64 → ℝ) (rkcr : Fin 256 → Fin 32 → ℝ) (rk : Fin 8192 → Fin 64 → ℝ) (rkr : Fin 8192 → Fin 32 → ℝ)

/-- The scores of one query and head are reals. -/
theorem scores_at (b : Fin 4) (h : Fin 8) (i : Fin 8192) (hq : ∀ d, q (ix4 b i h d) = (rq d : EReal)) (hqr : ∀ r, qr (ix4 b i h r) = (rqr r : EReal))
    (hkc : ∀ j d, kc (ix4 b j h d) = (rkc j d : EReal)) (hkcr : ∀ j r, kcr (ix3 b j r) = (rkcr j r : EReal))
    (hk : ∀ j d, k (ix4 b j h d) = (rk j d : EReal)) (hkr : ∀ j r, kr (ix3 b j r) = (rkr j r : EReal)) (x : Fin 8448) :
    scores q qr kc kcr k kr (ix4 b h i x) = ((if hx : x.val < 256 then score rq rqr (rkc ⟨x.val, hx⟩) (rkcr ⟨x.val, hx⟩)
      else score rq rqr (rk ⟨x.val - 256, by omega⟩) (rkr ⟨x.val - 256, by omega⟩) : ℝ) : EReal) := by
  pointwise [scores]
  rw [ninetySix, sqrt_ninetySix]
  split <;>
  · simp only [hq, hqr, hkc, hkcr, hk, hkr, ← EReal.coe_mul, ← coe_finsum, ← EReal.coe_add]
    exact div_real _ _ sqrt96_ne

/-- A row's maximum. -/
theorem maxima_at (T : FVec Ideal S4x8x8192x8448 .f32) (b : Fin 4) (h : Fin 8) (i : Fin 8192) :
    maxima T (ix3 b h i) = Finset.univ.fold max ⊥ fun x => T (ix4 b h i x) := by
  pointwise [maxima, negInf]

theorem rowMax_real {n : ℕ} (hn : 0 < n) (f : Fin n → EReal) (u : Fin n → ℝ) (h : ∀ x, f x = (u x : EReal)) :
    ∃ M : ℝ, Finset.univ.fold max ⊥ f = (M : EReal) := by
  obtain ⟨M, hM⟩ := fold_max_real hn u
  exact ⟨M, by rw [← hM, show f = fun x => (u x : EReal) from funext h]⟩

/-- The exponentials of a row. -/
theorem expo_read (T : FVec Ideal S4x8x8192x8448 .f32) (X : FVec Ideal S4x8x8192 .f32) (b : Fin 4) (h : Fin 8) (i : Fin 8192) (x : Fin 8448) :
    expo T X (ix4 b h i x) = Ideal.exp (T (ix4 b h i x) - max ⊥ (X (ix3 b h i))) := by
  pointwise [expo, negInf]

/-- The exponentials of a row of real scores. -/
theorem expo_at (T : FVec Ideal S4x8x8192x8448 .f32) (b : Fin 4) (h : Fin 8) (i : Fin 8192) (u : Fin 8448 → ℝ) (hT : ∀ x, T (ix4 b h i x) = (u x : EReal)) :
    ∃ M : ℝ, ∀ x, expo T (maxima T) (ix4 b h i x) = Ideal.exp ((u x : EReal) - (M : EReal)) := by
  obtain ⟨M, hM⟩ := rowMax_real (n := 8448) (by decide) (fun x => T (ix4 b h i x)) u hT
  refine ⟨M, fun x => (expo_read T (maxima T) b h i x).trans ?_⟩
  rw [maxima_at, hM, hT, max_eq_right bot_le]

/-- The result at a query, head and lane. -/
theorem attend_at (vals : FVec Ideal S4x8448x8x64 .f32) (E : FVec Ideal S4x8x8192x8448 .f32) (b : Fin 4) (i : Fin 8192) (l : Fin 512) :
    attend vals E (ix3 b i l) = ∑ x : Fin 8448, vals (ix4 b x (⟨l.val / 64, by omega⟩ : Fin 8) (⟨l.val % 64, by omega⟩ : Fin 64))
      * Ideal.div (E (ix4 b (⟨l.val / 64, by omega⟩ : Fin 8) i x)) (∑ y : Fin 8448, E (ix4 b (⟨l.val / 64, by omega⟩ : Fin 8) i y)) := by
  pointwise [attend]

/-- The keys' axis, context first. -/
theorem sum_cut (f : Fin 8448 → EReal) : ∑ x, f x = ∑ j : Fin 256, f ⟨j.val, by omega⟩ + ∑ k : Fin 8192, f ⟨256 + k.val, by omega⟩ :=
  Fin.sum_univ_add (a := 256) (b := 8192) f

/-- The context's and the sequence's values joined. -/
theorem vals_at (vc : FVec Ideal S4x256x8x64 .f32) (v : FVec Ideal S4x8192x8x64 .f32) (b : Fin 4) (x : Fin 8448) (h : Fin 8) (d : Fin 64) :
    concatenate S4x8448x8x64 1 [⟨S4x256x8x64, vc⟩, ⟨S4x8192x8x64, v⟩] concatenates_S4x256x8x64_S4x8192x8x64_S4x8448x8x64_d1 (ix4 b x h d)
      = if hx : x.val < 256 then vc (ix4 b ⟨x.val, hx⟩ h d) else v (ix4 b ⟨x.val - 256, by omega⟩ h d) := by
  pointwise []

end

/-- The reference's result at a query, head and lane, from real queries and keys. -/
theorem res_at (m : (ℓ : Loc nD τ sig) → Buf (Elt Ideal) ℓ) (c : Dev nD) (b : Fin 4) (i : Fin 8192) (l : Fin 512)
    (rq : Fin 64 → ℝ) (rqr : Fin 32 → ℝ) (rkc : Fin 256 → Fin 64 → ℝ) (rkcr : Fin 256 → Fin 32 → ℝ) (rk : Fin 8192 → Fin 64 → ℝ) (rkr : Fin 8192 → Fin 32 → ℝ)
    (hq : ∀ d, (m ((c.tc : Thread nD τ).loc main_arg0) : FVec Ideal S4x8192x8x64 .f32) (ix4 b i (⟨l.val / 64, by omega⟩ : Fin 8) d) = (rq d : EReal))
    (hqr : ∀ r, (m ((c.tc : Thread nD τ).loc main_arg1) : FVec Ideal S4x8192x8x32 .f32) (ix4 b i (⟨l.val / 64, by omega⟩ : Fin 8) r) = (rqr r : EReal))
    (hkc : ∀ j d, (m ((c.tc : Thread nD τ).loc main_arg2) : FVec Ideal S4x256x8x64 .f32) (ix4 b j (⟨l.val / 64, by omega⟩ : Fin 8) d) = (rkc j d : EReal))
    (hkcr : ∀ j r, (m ((c.tc : Thread nD τ).loc main_arg3) : FVec Ideal S4x256x32 .f32) (ix3 b j r) = (rkcr j r : EReal))
    (hk : ∀ j d, (m ((c.tc : Thread nD τ).loc main_arg5) : FVec Ideal S4x8192x8x64 .f32) (ix4 b j (⟨l.val / 64, by omega⟩ : Fin 8) d) = (rk j d : EReal))
    (hkr : ∀ j r, (m ((c.tc : Thread nD τ).loc main_arg6) : FVec Ideal S4x8192x32 .f32) (ix3 b j r) = (rkr j r : EReal))
    (W : Fin 256 → EReal) (W' : Fin 8192 → EReal)
    (hvc : ∀ j, (m ((c.tc : Thread nD τ).loc main_arg4) : FVec Ideal S4x256x8x64 .f32) (ix4 b j (⟨l.val / 64, by omega⟩ : Fin 8) (⟨l.val % 64, by omega⟩ : Fin 64)) = W j)
    (hv : ∀ k, (m ((c.tc : Thread nD τ).loc main_arg7) : FVec Ideal S4x8192x8x64 .f32) (ix4 b k (⟨l.val / 64, by omega⟩ : Fin 8) (⟨l.val % 64, by omega⟩ : Fin 64)) = W' k) :
    ∃ M : ℝ, (Value.res_main_v24 m c : FVec Ideal S4x8192x512 .bf16) (ix3 b i l)
      = ∑ j, W j * Ideal.div (Ideal.exp ((score rq rqr (rkc j) (rkcr j) : EReal) - (M : EReal)))
            (∑ j, Ideal.exp ((score rq rqr (rkc j) (rkcr j) : EReal) - (M : EReal)) + ∑ k, Ideal.exp ((score rq rqr (rk k) (rkr k) : EReal) - (M : EReal)))
        + ∑ k, W' k * Ideal.div (Ideal.exp ((score rq rqr (rk k) (rkr k) : EReal) - (M : EReal)))
            (∑ j, Ideal.exp ((score rq rqr (rkc j) (rkcr j) : EReal) - (M : EReal)) + ∑ k, Ideal.exp ((score rq rqr (rk k) (rkr k) : EReal) - (M : EReal))) := by
  have hT := scores_at _ _ _ _ _ _ rq rqr rkc rkcr rk rkr b (⟨l.val / 64, by omega⟩ : Fin 8) i hq hqr hkc hkcr hk hkr
  obtain ⟨M, hM⟩ := expo_at _ b (⟨l.val / 64, by omega⟩ : Fin 8) i _ hT
  refine ⟨M, ?_⟩
  rw [res_eq]
  refine (attend_at _ _ b i l).trans ?_
  unfold scoresOf
  simp only [hM, vals_at]
  simp only [sum_cut, Fin.is_lt, dite_true, show ∀ k : Fin 8192, ¬ (256 + k.val < 256) from fun k => by omega, dite_false, Nat.add_sub_cancel_left, Fin.eta, hvc, hv]

end Cert.ReferenceIdeal.At

end
-- ==== Proof.Pack.lean ====
/- The kernel's operands, laid out from the arguments, read at an index. -/
module

public import proofs.«01_k».proof.Proof.Run
public import proofs.«01_k».proof.Proof.RefAt

@[expose] public section

set_option maxRecDepth 16384

noncomputable section

namespace Cert.KernelIdeal.Blocks

open Idealize.ShloMosaic Idealize.SL.Sem Idealize.ShloMosaic.TcCoe
open Cert.KernelIdeal Cert.KernelIdeal.Gen
open Cert.ReferenceIdeal.At (score ninetySix sqrt_ninetySix div_real sqrt96_ne)

/-- A head's lanes: 64 plain, 32 rotary, 32 zeros. -/
def lanes {α : Type} (z : α) (x : Fin 64 → α) (y : Fin 32 → α) (d : ℕ) : α :=
  if h : d < 96 then if h' : d < 64 then x ⟨d, h'⟩ else y ⟨d - 64, by omega⟩ else z

theorem lanes_coe (x : Fin 64 → ℝ) (y : Fin 32 → ℝ) (d : ℕ) :
    lanes (0 : EReal) (fun d => (x d : EReal)) (fun r => (y r : EReal)) d = ((lanes 0 x y d : ℝ) : EReal) := by
  unfold lanes; split_ifs <;> rfl

/-- The sum over a head's lanes of a query over the scale times a key is the score in units of `log 2`. -/
theorem lanes_sum (q k : Fin 64 → ℝ) (qr kr : Fin 32 → ℝ) :
    ∑ d : Fin 128, Ideal.div ((lanes 0 q qr d.val : ℝ) : EReal) ((Real.sqrt 96 * Real.log 2 : ℝ) : EReal) * ((lanes 0 k kr d.val : ℝ) : EReal)
      = ((score q qr k kr / Real.log 2 : ℝ) : EReal) := by
  have hl : Real.log 2 ≠ 0 := (Real.log_pos (by norm_num)).ne'
  have h0 : ∀ d : Fin 128, Ideal.div ((lanes 0 q qr d.val : ℝ) : EReal) ((Real.sqrt 96 * Real.log 2 : ℝ) : EReal) * ((lanes 0 k kr d.val : ℝ) : EReal)
      = ((lanes 0 q qr d.val * lanes 0 k kr d.val / (Real.sqrt 96 * Real.log 2) : ℝ) : EReal) := fun d => by
    rw [div_real _ _ (mul_ne_zero sqrt96_ne hl), ← EReal.coe_mul]; congr 1; ring
  simp only [h0, ← coe_finsum]
  congr 1
  rw [← Finset.sum_div]
  have h1 : ∑ d : Fin 128, lanes 0 q qr d.val * lanes 0 k kr d.val = ∑ d, q d * k d + ∑ r, kr r * qr r := by
    have e1 : ∀ f : Fin 128 → ℝ, ∑ d, f d = ∑ d : Fin 64, f ⟨d.val, by omega⟩ + ∑ r : Fin 32, f ⟨64 + r.val, by omega⟩ + ∑ r : Fin 32, f ⟨96 + r.val, by omega⟩ := fun f =>
      (Fin.sum_univ_add (a := 96) (b := 32) f).trans (congrArg (· + ∑ r : Fin 32, f ⟨96 + r.val, by omega⟩)
        (Fin.sum_univ_add (a := 64) (b := 32) fun x => f (Fin.castAdd 32 x)))
    rw [e1]
    have a1 : ∀ (x : Fin 64 → ℝ) (y : Fin 32 → ℝ) (d : Fin 64), lanes 0 x y d.val = x d := fun x y d => by
      unfold lanes; rw [dif_pos (by omega), dif_pos d.isLt]
    have a2 : ∀ (x : Fin 64 → ℝ) (y : Fin 32 → ℝ) (d : Fin 32), lanes 0 x y (64 + d.val) = y d := fun x y d => by
      unfold lanes; rw [dif_pos (by omega), dif_neg (by omega)]; exact congrArg y (Fin.ext (by simp))
    have a3 : ∀ (x : Fin 64 → ℝ) (y : Fin 32 → ℝ) (d : Fin 32), lanes 0 x y (96 + d.val) = 0 := fun x y d => by
      unfold lanes; rw [dif_neg (by omega)]
    simp only [a1, a2, a3, mul_zero, Finset.sum_const_zero, add_zero]
    exact congrArg _ (Finset.sum_congr rfl fun r _ => mul_comm _ _)
  rw [h1]
  unfold score
  rw [div_div]

theorem two_word : (Ideal.ofBits .f32 0x40000000#32 : EReal) = ((2 : ℝ) : EReal) := by
  simp [Ideal.ofBits, Ideal.ieee, -EReal.coe_mul]; norm_num

theorem one_word : (Ideal.ofBits .f32 0x3F800000#32 : EReal) = 1 := by
  simp [Ideal.ofBits, Ideal.ieee, -EReal.coe_mul]; norm_num

theorem log_two : Ideal.log ((2 : ℝ) : EReal) = ((Real.log 2 : ℝ) : EReal) := by
  rw [Ideal.log_coe, if_neg (by norm_num)]

variable (m : (ℓ : Loc nD τ sig) → Buf (Elt Ideal) ℓ) (c : Dev nD)

set_option maxHeartbeats 2000000 in
theorem packQ_at (b : Fin 4) (i : Fin 8192) (x : Fin 1024) :
    (V m c main_v9 : FVec Ideal S4x8192x1024 .bf16) (ix3 b i x) = Ideal.div (lanes (0 : EReal)
      (fun d => (m ((c.tc : Thread nD τ).loc main_arg0) : FVec Ideal S4x8192x8x64 .f32) (ix4 b i (⟨x.val / 128, by omega⟩ : Fin 8) d))
      (fun r => (m ((c.tc : Thread nD τ).loc main_arg1) : FVec Ideal S4x8192x8x32 .f32) (ix4 b i (⟨x.val / 128, by omega⟩ : Fin 8) r)) (x.val % 128))
      ((Real.sqrt 96 * Real.log 2 : ℝ) : EReal) := by
  entry_read
  pointwise [ninetySix, sqrt_ninetySix, two_word, log_two, lanes]
  rfl

set_option maxHeartbeats 2000000 in
theorem packK_at (b : Fin 4) (i : Fin 8192) (x : Fin 1024) :
    (V m c main_v28 : FVec Ideal S4x8192x1024 .bf16) (ix3 b i x) = lanes (0 : EReal)
      (fun d => (m ((c.tc : Thread nD τ).loc main_arg5) : FVec Ideal S4x8192x8x64 .f32) (ix4 b i (⟨x.val / 128, by omega⟩ : Fin 8) d))
      (fun r => (m ((c.tc : Thread nD τ).loc main_arg6) : FVec Ideal S4x8192x32 .f32) (ix3 b i r)) (x.val % 128) := by
  entry_read
  pointwise [lanes]
  all_goals rfl

set_option maxHeartbeats 2000000 in
theorem packKC_at (b : Fin 4) (i : Fin 256) (x : Fin 1024) :
    (V m c main_v16 : FVec Ideal S4x256x1024 .bf16) (ix3 b i x) = lanes (0 : EReal)
      (fun d => (m ((c.tc : Thread nD τ).loc main_arg2) : FVec Ideal S4x256x8x64 .f32) (ix4 b i (⟨x.val / 128, by omega⟩ : Fin 8) d))
      (fun r => (m ((c.tc : Thread nD τ).loc main_arg3) : FVec Ideal S4x256x32 .f32) (ix3 b i r)) (x.val % 128) := by
  entry_read
  pointwise [lanes]
  all_goals rfl

/-- A head pair's lanes of values: two heads' 64, then ones. -/
def vlanes (w : Fin 8 → Fin 64 → EReal) (x : Fin 1024) : EReal :=
  if h : x.val % 256 < 128 then w ⟨x.val / 256 * 2 + x.val % 256 / 64, by omega⟩ ⟨x.val % 256 % 64, by omega⟩ else 1

set_option maxHeartbeats 2000000 in
theorem packV_at (b : Fin 4) (i : Fin 8192) (x : Fin 1024) :
    (V m c main_v33 : FVec Ideal S4x8192x1024 .bf16) (ix3 b i x)
      = vlanes (fun h d => (m ((c.tc : Thread nD τ).loc main_arg7) : FVec Ideal S4x8192x8x64 .f32) (ix4 b i h d)) x := by
  entry_read
  pointwise [vlanes, one_word]
  all_goals rfl

set_option maxHeartbeats 2000000 in
theorem packVC_at (b : Fin 4) (i : Fin 256) (x : Fin 1024) :
    (V m c main_v21 : FVec Ideal S4x256x1024 .bf16) (ix3 b i x)
      = vlanes (fun h d => (m ((c.tc : Thread nD τ).loc main_arg4) : FVec Ideal S4x256x8x64 .f32) (ix4 b i h d)) x := by
  entry_read
  pointwise [vlanes, one_word]
  all_goals rfl

end Cert.KernelIdeal.Blocks

end
-- ==== Proof.Point.lean ====
/- What the body writes at one row and lane, from real queries and keys: the softmax-weighted values. -/
module

public import proofs.«01_k».proof.Proof.Pack
public import proofs.«01_k».proof.Proof.Softmax

@[expose] public section

set_option maxRecDepth 16384

noncomputable section

namespace Cert.KernelIdeal.Blocks

open Idealize.ShloMosaic Idealize.SL.Sem
open Cert.KernelIdeal Cert.KernelIdeal.Gen
open Cert.ReferenceIdeal.At (score)

/-- An array's part under a rectangle of unit steps, read at an index. -/
theorem part_unit {α : Type} {s : Shape} (X : s.Idx → α) (o sz : Fin s.rank → ℕ) (inb : ∀ a, o a + sz a ≤ s.size a)
    (y : (Rect.unit (s := s) o sz inb).shape.Idx) (i : s.Idx) (h : ∀ a, (i a).val = o a + (y a).val) :
    part X (Rect.unit (s := s) o sz inb) y = X i :=
  congrArg X (funext fun a => Fin.ext (by
    show o a + 1 * (y a).val = (i a).val
    rw [h a, one_mul]))

/-- Trip `t`'s keys start at row `512 * (t + 1)`, its values at row `512 * t`. -/
theorem offs : ∀ t : Fin k0_t1_loop.trips, k0_off1 t 1 = 512 * (t.val + 1) ∧ k0_off2 t 0 = 0 ∧ k0_off2 t 1 = 512 * t.val ∧ k0_off2 t 2 = 0 := by
  decide +kernel

/-- The queries and keys of one row and one head of a pair: a row of queries over the scale, rows of keys. -/
structure HeadData (x : Staged Ideal) (e : Fin 2) (i : Fin 4096) (q : Fin 64 → ℝ) (qr : Fin 32 → ℝ)
    (kc : Fin 256 → Fin 64 → ℝ) (kcr : Fin 256 → Fin 32 → ℝ) (k : Fin 8192 → Fin 64 → ℝ) (kr : Fin 8192 → Fin 32 → ℝ) : Prop where
  hq : ∀ d : Fin 128, x.q (ix3 0 i ⟨128 * e.val + d.val, by omega⟩)
    = Ideal.div ((lanes 0 q qr d.val : ℝ) : EReal) ((Real.sqrt 96 * Real.log 2 : ℝ) : EReal)
  hkc : ∀ (j : Fin 256) (d : Fin 128), x.kc (ix3 0 j ⟨128 * e.val + d.val, by omega⟩) = ((lanes 0 (kc j) (kcr j) d.val : ℝ) : EReal)
  hk : ∀ (j : Fin 8192) (d : Fin 128), x.k (ix3 0 j ⟨128 * e.val + d.val, by omega⟩) = ((lanes 0 (k j) (kr j) d.val : ℝ) : EReal)

variable {x : Staged Ideal} {e : Fin 2} {i : Fin 4096} {q : Fin 64 → ℝ} {qr : Fin 32 → ℝ}
  {kc : Fin 256 → Fin 64 → ℝ} {kcr : Fin 256 → Fin 32 → ℝ} {k : Fin 8192 → Fin 64 → ℝ} {kr : Fin 8192 → Fin 32 → ℝ}

/-- The block of head `e` and row `i`. -/
def blk (e : Fin 2) (i : Fin 4096) : ℕ := 32 * e.val + i.val / 128

theorem hd_blk (e : Fin 2) (i : Fin 4096) : (hd (blk e i)).val = e.val := by
  have := hd_val (blk e i); unfold blk at *; omega
theorem rw'_blk (e : Fin 2) (i : Fin 4096) : (rw' (blk e i)).val = i.val / 128 := by
  have := rw'_val (blk e i); unfold blk at *; omega

/-- The block's scores, keys and values, row by row. -/
theorem HeadData.row (h : HeadData x e i q qr kc kcr k kr) :
    RowData x (blk e i) (⟨i.val % 128, Nat.mod_lt _ (by decide)⟩ : Fin 128) (fun j => score q qr (kc j) (kcr j) / Real.log 2)
      (fun n => if hn : n < 8192 then score q qr (k ⟨n, hn⟩) (kr ⟨n, hn⟩) / Real.log 2 else 0)
      (fun j l => x.vc (ix3 0 j l)) (fun n l => if hn : n < 8192 then x.v (ix3 0 ⟨n, hn⟩ l) else 0) := by
  have e1 := hd_blk e i
  have e2 := rw'_blk e i
  have hq : ∀ d : Fin 128, x.qB (blk e i) (ix3 0 (⟨i.val % 128, Nat.mod_lt _ (by decide)⟩ : Fin 128) d)
      = Ideal.div ((lanes 0 q qr d.val : ℝ) : EReal) ((Real.sqrt 96 * Real.log 2 : ℝ) : EReal) := fun d => by
    refine (part_unit _ _ _ _ _ (ix3 0 i ⟨128 * e.val + d.val, by omega⟩) fun a => ?_).trans (h.hq d)
    match a with
    | ⟨0, _⟩ => rfl
    | ⟨1, _⟩ => show i.val = 128 * (rw' (blk e i)).val + i.val % 128; omega
    | ⟨2, _⟩ => show 128 * e.val + d.val = 128 * (hd (blk e i)).val + d.val; omega
  refine ⟨fun j => ?_, fun j => ?_, fun t j => ?_, fun j l => ?_, fun t j l => ?_, fun j l => ?_⟩
  · rw [pay464_at, ← lanes_sum]
    refine Finset.sum_congr rfl fun d _ => ?_
    rw [hq, ← h.hkc]
    refine congrArg _ (part_unit _ _ _ _ _ _ fun a => ?_)
    match a with
    | ⟨0, _⟩ => rfl
    | ⟨1, _⟩ => show j.val = 0 + j.val; omega
    | ⟨2, _⟩ => show 128 * e.val + d.val = 128 * (hd (blk e i)).val + d.val; omega
  · rw [pay2_at, dif_pos (show j.val < 8192 by omega), ← lanes_sum]
    refine Finset.sum_congr rfl fun d _ => ?_
    rw [hq, ← h.hk]
    refine congrArg _ (part_unit _ _ _ _ _ _ fun a => ?_)
    match a with
    | ⟨0, _⟩ => rfl
    | ⟨1, _⟩ => show j.val = 0 + j.val; omega
    | ⟨2, _⟩ => show 128 * e.val + d.val = 128 * (hd (blk e i)).val + d.val; omega
  · have ht : t.val < 15 := lt_of_lt_of_eq t.isLt trips_eq
    have ho := offs t
    rw [pay2_at, dif_pos (show 512 * (t.val + 1) + j.val < 8192 by omega), ← lanes_sum]
    refine Finset.sum_congr rfl fun d _ => ?_
    rw [hq, ← h.hk]
    refine congrArg _ (part_unit _ _ _ _ _ _ fun a => ?_)
    match a with
    | ⟨0, _⟩ => rfl
    | ⟨1, _⟩ => show 512 * (t.val + 1) + j.val = k0_off1 t 1 + j.val; omega
    | ⟨2, _⟩ => show 128 * e.val + d.val = 128 * (hd (blk e i)).val + d.val; omega
  · refine part_unit _ _ _ _ _ _ fun a => ?_
    match a with
    | ⟨0, _⟩ => rfl
    | ⟨1, _⟩ => show j.val = 0 + j.val; omega
    | ⟨2, _⟩ => show l.val = 0 + l.val; omega
  · have ht : t.val < 15 := lt_of_lt_of_eq t.isLt trips_eq
    have ho := offs t
    rw [dif_pos (show 512 * t.val + j.val < 8192 by omega)]
    refine part_unit _ _ _ _ _ _ fun a => ?_
    match a with
    | ⟨0, _⟩ => show 0 = k0_off2 t 0 + 0; omega
    | ⟨1, _⟩ => show 512 * t.val + j.val = k0_off2 t 1 + j.val; omega
    | ⟨2, _⟩ => show l.val = k0_off2 t 2 + l.val; omega
  · rw [dif_pos (show 7680 + j.val < 8192 by omega)]
    refine part_unit _ _ _ _ _ _ fun a => ?_
    match a with
    | ⟨0, _⟩ => rfl
    | ⟨1, _⟩ => rfl
    | ⟨2, _⟩ => show l.val = 0 + l.val; omega

/-- The accumulator of the block at the end, over the indices of the context and of the sequence. -/
theorem HeadData.final (h : HeadData x e i q qr kc kcr k kr) : ∃ μ : ℝ, ∀ l,
    x.aF (blk e i) (ix3 0 (⟨i.val % 128, Nat.mod_lt _ (by decide)⟩ : Fin 128) l)
      = ∑ j, wt (score q qr (kc j) (kcr j) / Real.log 2) μ * x.vc (ix3 0 j l) + ∑ n, wt (score q qr (k n) (kr n) / Real.log 2) μ * x.v (ix3 0 n l) := by
  obtain ⟨μ, hμ⟩ := row_final h.row
  refine ⟨μ, fun l => (hμ l).trans (congrArg _ ?_)⟩
  rw [Finset.sum_range]
  refine Finset.sum_congr rfl fun n _ => ?_
  rw [dif_pos n.isLt, dif_pos n.isLt]

/-- A glued accumulator's part of one head and half, at a row and lane. -/
theorem glue_part (A : ℕ → (⟨3, ![1, 128, 256]⟩ : Shape).Idx → EReal) (e : Fin 2) (o : ℕ) (i : Fin 4096) (l : Fin 128) (ho : o + 128 ≤ 256)
    (inb : ∀ a, (![e.val, 0, o] : Fin 3 → ℕ) a + S1x4096x128.size a ≤ S2x4096x256.size a) :
    part (glue A) (Rect.unit (s := S2x4096x256) ![e.val, 0, o] S1x4096x128.size inb) (ix3 0 i l)
      = A (blk e i) (ix3 0 (⟨i.val % 128, Nat.mod_lt _ (by decide)⟩ : Fin 128) (⟨o + l.val, by omega⟩ : Fin 256)) := by
  refine (part_unit _ _ _ _ _ (ix3 e i (⟨o + l.val, by omega⟩ : Fin 256)) fun a => ?_).trans ?_
  · match a with
    | ⟨0, _⟩ => rfl
    | ⟨1, _⟩ => show i.val = 0 + i.val; omega
    | ⟨2, _⟩ => rfl
  · unfold glue blk
    refine congrArg (A _) (funext fun a => ?_)
    match a with
    | ⟨0, _⟩ => rfl
    | ⟨1, _⟩ => rfl
    | ⟨2, _⟩ => rfl

/-- What is written at row `i`, lane `l`: the softmax of the head's scores against the lane's values. -/
theorem out_eq (l : Fin 128) (h : HeadData x (⟨l.val / 64, by omega⟩ : Fin 2) i q qr kc kcr k kr) (W : Fin 256 → EReal) (W' : Fin 8192 → EReal)
    (hvc : ∀ j, x.vc (ix3 0 j (⟨l.val, by omega⟩ : Fin 256)) = W j) (hv : ∀ n, x.v (ix3 0 n (⟨l.val, by omega⟩ : Fin 256)) = W' n)
    (hvc1 : ∀ j, x.vc (ix3 0 j (⟨128 + l.val, by omega⟩ : Fin 256)) = 1) (hv1 : ∀ n, x.v (ix3 0 n (⟨128 + l.val, by omega⟩ : Fin 256)) = 1) (M : ℝ) :
    x.out (ix3 0 i l)
      = ∑ j, W j * Ideal.div (Ideal.exp ((score q qr (kc j) (kcr j) : EReal) - (M : EReal)))
            (∑ j, Ideal.exp ((score q qr (kc j) (kcr j) : EReal) - (M : EReal)) + ∑ n, Ideal.exp ((score q qr (k n) (kr n) : EReal) - (M : EReal)))
        + ∑ n, W' n * Ideal.div (Ideal.exp ((score q qr (k n) (kr n) : EReal) - (M : EReal)))
            (∑ j, Ideal.exp ((score q qr (kc j) (kcr j) : EReal) - (M : EReal)) + ∑ n, Ideal.exp ((score q qr (k n) (kr n) : EReal) - (M : EReal))) := by
  obtain ⟨μ, hμ⟩ := h.final
  have hn := hμ (⟨l.val, by omega⟩ : Fin 256)
  have hd := hμ (⟨128 + l.val, by omega⟩ : Fin 256)
  simp only [hvc, hv] at hn
  simp only [hvc1, hv1] at hd
  rw [← softmax_eq (fun j => score q qr (kc j) (kcr j)) (fun n => score q qr (k n) (kr n)) W W' M μ, ← hn, ← hd]
  unfold Staged.out
  rw [out_at]
  have g0 : ∀ e : Fin 2, ∀ he : l.val / 64 = e.val, (⟨l.val / 64, by omega⟩ : Fin 2) = e := fun e he => Fin.ext he
  by_cases hl : l.val < 64
  · rw [if_pos hl, g0 0 (by show l.val / 64 = 0; omega)]
    refine congrArg₂ Ideal.div ?_ (glue_part x.aF 0 128 i l (by omega) _)
    exact (glue_part x.aF 0 0 i l (by omega) _).trans (congrArg (fun a => x.aF _ (ix3 0 _ a)) (Fin.ext (Nat.zero_add _)))
  · rw [if_neg hl, g0 1 (by show l.val / 64 = 1; omega)]
    refine congrArg₂ Ideal.div ?_ (glue_part x.aF 1 128 i l (by omega) _)
    exact (glue_part x.aF 1 0 i l (by omega) _).trans (congrArg (fun a => x.aF _ (ix3 0 _ a)) (Fin.ext (Nat.zero_add _)))

end Cert.KernelIdeal.Blocks

end
-- ==== Proof.Value.lean ====
/- The kernel's result array is the reference's, where the queries and keys are reals. -/
module

public import proofs.«01_k».proof.Proof.Point
public import Idealize.ShloMosaic.Lib.Pipeline.ValueKit

@[expose] public section

set_option maxRecDepth 16384

noncomputable section

namespace Cert.KernelIdeal.Blocks

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The windows' block indices: batch, run of rows, pair of heads. -/
theorem idx : ∀ t : Fin cfg0.N, t.val < 32 ∧ win0_0.index t = ![t.val / 8, t.val % 2, t.val / 2 % 4] ∧ win0_1.index t = ![t.val / 8, 0, t.val / 2 % 4]
    ∧ win0_2.index t = ![t.val / 8, 0, t.val / 2 % 4] ∧ win0_3.index t = ![t.val / 8, 0, t.val / 2 % 4] ∧ win0_4.index t = ![t.val / 8, 0, t.val / 2 % 4]
    ∧ win0_5.index t = ![t.val / 8, t.val % 2, t.val / 2 % 4] :=
  (by decide +kernel : ∀ t : Fin grid0.N, _)

/-- Where an index of a point's block sits in its array: queries, context keys and values, keys and values, result. -/
theorem emb_q (t : Fin cfg0.N) (i : Fin 4096) (x : Fin 256) (b : Fin 4) (r : Fin 8192) (y : Fin 1024)
    (hb : b.val = t.val / 8) (hr : r.val = 4096 * (t.val % 2) + i.val) (hy : y.val = 256 * (t.val / 2 % 4) + x.val) :
    ((cfg0.win 0).blk t).view.emb (ix3 0 i x) = (ix3 b r y : S4x8192x1024.Idx) := by
  blk_ext [idx t]
theorem emb_kc (t : Fin cfg0.N) (i : Fin 256) (x : Fin 256) (b : Fin 4) (y : Fin 1024)
    (hb : b.val = t.val / 8) (hy : y.val = 256 * (t.val / 2 % 4) + x.val) :
    ((cfg0.win 1).blk t).view.emb (ix3 0 i x) = (ix3 b i y : S4x256x1024.Idx) := by
  blk_ext [idx t]
theorem emb_vc (t : Fin cfg0.N) (i : Fin 256) (x : Fin 256) (b : Fin 4) (y : Fin 1024)
    (hb : b.val = t.val / 8) (hy : y.val = 256 * (t.val / 2 % 4) + x.val) :
    ((cfg0.win 2).blk t).view.emb (ix3 0 i x) = (ix3 b i y : S4x256x1024.Idx) := by
  blk_ext [idx t]
theorem emb_k (t : Fin cfg0.N) (i : Fin 8192) (x : Fin 256) (b : Fin 4) (y : Fin 1024)
    (hb : b.val = t.val / 8) (hy : y.val = 256 * (t.val / 2 % 4) + x.val) :
    ((cfg0.win 3).blk t).view.emb (ix3 0 i x) = (ix3 b i y : S4x8192x1024.Idx) := by
  blk_ext [idx t]
theorem emb_v (t : Fin cfg0.N) (i : Fin 8192) (x : Fin 256) (b : Fin 4) (y : Fin 1024)
    (hb : b.val = t.val / 8) (hy : y.val = 256 * (t.val / 2 % 4) + x.val) :
    ((cfg0.win 4).blk t).view.emb (ix3 0 i x) = (ix3 b i y : S4x8192x1024.Idx) := by
  blk_ext [idx t]
theorem emb_out (t : Fin cfg0.N) (i : Fin 4096) (x : Fin 128) (b : Fin 4) (r : Fin 8192) (y : Fin 512)
    (hb : b.val = t.val / 8) (hr : r.val = 4096 * (t.val % 2) + i.val) (hy : y.val = 128 * (t.val / 2 % 4) + x.val) :
    ((cfg0.win 5).blk t).view.emb (ix3 0 i x) = (ix3 b r y : S4x8192x512.Idx) := by
  blk_ext [idx t]

/-- A block read from an array, and the staged block read from its operand. -/
theorem read_q (X : FVec Ideal S4x8192x1024 .bf16) (t : Fin cfg0.N) (i : Fin 4096) (x : Fin 256) (b : Fin 4) (r : Fin 8192) (y : Fin 1024)
    (hb : b.val = t.val / 8) (hr : r.val = 4096 * (t.val % 2) + i.val) (hy : y.val = 256 * (t.val / 2 % 4) + x.val) :
    ((cfg0.win 0).blk t).view.read (Elt Ideal) X (ix3 0 i x) = X (ix3 b r y) :=
  congrArg X (emb_q t i x b r y hb hr hy)
theorem staged_q (t : Fin cfg0.N) (i : Fin 4096) (x : Fin 256) (b : Fin 4) (r : Fin 8192) (y : Fin 1024)
    (hb : b.val = t.val / 8) (hr : r.val = 4096 * (t.val % 2) + i.val) (hy : y.val = 256 * (t.val / 2 % 4) + x.val) :
    (stagedAt m c t).q (ix3 0 i x) = (V m c main_v9 : FVec Ideal S4x8192x1024 .bf16) (ix3 b r y) := by
  unfold stagedAt
  dsimp only
  unfold iblk
  exact read_q (V m c (Pipeline.arrRef spec0 0)) t i x b r y hb hr hy
theorem read_kc (X : FVec Ideal S4x256x1024 .bf16) (t : Fin cfg0.N) (i : Fin 256) (x : Fin 256) (b : Fin 4) (y : Fin 1024)
    (hb : b.val = t.val / 8) (hy : y.val = 256 * (t.val / 2 % 4) + x.val) :
    ((cfg0.win 1).blk t).view.read (Elt Ideal) X (ix3 0 i x) = X (ix3 b i y) :=
  congrArg X (emb_kc t i x b y hb hy)
theorem staged_kc (t : Fin cfg0.N) (i : Fin 256) (x : Fin 256) (b : Fin 4) (y : Fin 1024)
    (hb : b.val = t.val / 8) (hy : y.val = 256 * (t.val / 2 % 4) + x.val) :
    (stagedAt m c t).kc (ix3 0 i x) = (V m c main_v16 : FVec Ideal S4x256x1024 .bf16) (ix3 b i y) := by
  unfold stagedAt
  dsimp only
  unfold iblk
  exact read_kc (V m c (Pipeline.arrRef spec0 1)) t i x b y hb hy
theorem read_vc (X : FVec Ideal S4x256x1024 .bf16) (t : Fin cfg0.N) (i : Fin 256) (x : Fin 256) (b : Fin 4) (y : Fin 1024)
    (hb : b.val = t.val / 8) (hy : y.val = 256 * (t.val / 2 % 4) + x.val) :
    ((cfg0.win 2).blk t).view.read (Elt Ideal) X (ix3 0 i x) = X (ix3 b i y) :=
  congrArg X (emb_vc t i x b y hb hy)
theorem staged_vc (t : Fin cfg0.N) (i : Fin 256) (x : Fin 256) (b : Fin 4) (y : Fin 1024)
    (hb : b.val = t.val / 8) (hy : y.val = 256 * (t.val / 2 % 4) + x.val) :
    (stagedAt m c t).vc (ix3 0 i x) = (V m c main_v21 : FVec Ideal S4x256x1024 .bf16) (ix3 b i y) := by
  unfold stagedAt
  dsimp only
  unfold iblk
  exact read_vc (V m c (Pipeline.arrRef spec0 2)) t i x b y hb hy
theorem read_k (X : FVec Ideal S4x8192x1024 .bf16) (t : Fin cfg0.N) (i : Fin 8192) (x : Fin 256) (b : Fin 4) (y : Fin 1024)
    (hb : b.val = t.val / 8) (hy : y.val = 256 * (t.val / 2 % 4) + x.val) :
    ((cfg0.win 3).blk t).view.read (Elt Ideal) X (ix3 0 i x) = X (ix3 b i y) :=
  congrArg X (emb_k t i x b y hb hy)
theorem staged_k (t : Fin cfg0.N) (i : Fin 8192) (x : Fin 256) (b : Fin 4) (y : Fin 1024)
    (hb : b.val = t.val / 8) (hy : y.val = 256 * (t.val / 2 % 4) + x.val) :
    (stagedAt m c t).k (ix3 0 i x) = (V m c main_v28 : FVec Ideal S4x8192x1024 .bf16) (ix3 b i y) := by
  unfold stagedAt
  dsimp only
  unfold iblk
  exact read_k (V m c (Pipeline.arrRef spec0 3)) t i x b y hb hy
theorem read_v (X : FVec Ideal S4x8192x1024 .bf16) (t : Fin cfg0.N) (i : Fin 8192) (x : Fin 256) (b : Fin 4) (y : Fin 1024)
    (hb : b.val = t.val / 8) (hy : y.val = 256 * (t.val / 2 % 4) + x.val) :
    ((cfg0.win 4).blk t).view.read (Elt Ideal) X (ix3 0 i x) = X (ix3 b i y) :=
  congrArg X (emb_v t i x b y hb hy)
theorem staged_v (t : Fin cfg0.N) (i : Fin 8192) (x : Fin 256) (b : Fin 4) (y : Fin 1024)
    (hb : b.val = t.val / 8) (hy : y.val = 256 * (t.val / 2 % 4) + x.val) :
    (stagedAt m c t).v (ix3 0 i x) = (V m c main_v33 : FVec Ideal S4x8192x1024 .bf16) (ix3 b i y) := by
  unfold stagedAt
  dsimp only
  unfold iblk
  exact read_v (V m c (Pipeline.arrRef spec0 4)) t i x b y hb hy

/-- A query of head `h` over the scale, from real arguments, -/
theorem packQ_real (b : Fin 4) (i : Fin 8192) (x : Fin 1024) (h : Fin 8) (d : Fin 128) (hx : x.val = 128 * h.val + d.val) (q : Fin 64 → ℝ) (qr : Fin 32 → ℝ)
    (hq : ∀ d, (m ((c.tc : Thread nD τ).loc main_arg0) : FVec Ideal S4x8192x8x64 .f32) (ix4 b i h d) = (q d : EReal))
    (hqr : ∀ r, (m ((c.tc : Thread nD τ).loc main_arg1) : FVec Ideal S4x8192x8x32 .f32) (ix4 b i h r) = (qr r : EReal)) :
    (V m c main_v9 : FVec Ideal S4x8192x1024 .bf16) (ix3 b i x)
      = Ideal.div ((lanes 0 q qr d.val : ℝ) : EReal) ((Real.sqrt 96 * Real.log 2 : ℝ) : EReal) := by
  have e1 : (⟨x.val / 128, by omega⟩ : Fin 8) = h := Fin.ext (by show x.val / 128 = h.val; omega)
  have e2 : x.val % 128 = d.val := by omega
  rw [packQ_at, ← lanes_coe]
  simp only [e1, e2, hq, hqr]
/-- a context key of head `h`, -/
theorem packKC_real (b : Fin 4) (i : Fin 256) (x : Fin 1024) (h : Fin 8) (d : Fin 128) (hx : x.val = 128 * h.val + d.val) (k : Fin 64 → ℝ) (kr : Fin 32 → ℝ)
    (hk : ∀ d, (m ((c.tc : Thread nD τ).loc main_arg2) : FVec Ideal S4x256x8x64 .f32) (ix4 b i h d) = (k d : EReal))
    (hkr : ∀ r, (m ((c.tc : Thread nD τ).loc main_arg3) : FVec Ideal S4x256x32 .f32) (ix3 b i r) = (kr r : EReal)) :
    (V m c main_v16 : FVec Ideal S4x256x1024 .bf16) (ix3 b i x) = ((lanes 0 k kr d.val : ℝ) : EReal) := by
  have e1 : (⟨x.val / 128, by omega⟩ : Fin 8) = h := Fin.ext (by show x.val / 128 = h.val; omega)
  have e2 : x.val % 128 = d.val := by omega
  rw [packKC_at, ← lanes_coe]
  simp only [e1, e2, hk, hkr]
/-- a key of head `h`. -/
theorem packK_real (b : Fin 4) (i : Fin 8192) (x : Fin 1024) (h : Fin 8) (d : Fin 128) (hx : x.val = 128 * h.val + d.val) (k : Fin 64 → ℝ) (kr : Fin 32 → ℝ)
    (hk : ∀ d, (m ((c.tc : Thread nD τ).loc main_arg5) : FVec Ideal S4x8192x8x64 .f32) (ix4 b i h d) = (k d : EReal))
    (hkr : ∀ r, (m ((c.tc : Thread nD τ).loc main_arg6) : FVec Ideal S4x8192x32 .f32) (ix3 b i r) = (kr r : EReal)) :
    (V m c main_v28 : FVec Ideal S4x8192x1024 .bf16) (ix3 b i x) = ((lanes 0 k kr d.val : ℝ) : EReal) := by
  have e1 : (⟨x.val / 128, by omega⟩ : Fin 8) = h := Fin.ext (by show x.val / 128 = h.val; omega)
  have e2 : x.val % 128 = d.val := by omega
  rw [packK_at, ← lanes_coe]
  simp only [e1, e2, hk, hkr]

/-- A pair's first 128 lanes are its two heads' values, -/
theorem vlanes_low (w : Fin 8 → Fin 64 → EReal) (x : Fin 1024) (h : Fin 8) (d : Fin 64) (hx : x.val % 256 < 128)
    (hh : h.val = x.val / 256 * 2 + x.val % 256 / 64) (hd : d.val = x.val % 256 % 64) : vlanes w x = w h d := by
  unfold vlanes
  rw [dif_pos hx]
  exact congrArg₂ w (Fin.ext hh.symm) (Fin.ext hd.symm)
/-- its others are ones. -/
theorem vlanes_high (w : Fin 8 → Fin 64 → EReal) (x : Fin 1024) (hx : 128 ≤ x.val % 256) : vlanes w x = 1 := by
  unfold vlanes
  rw [dif_neg (by omega)]

variable (m' : (ℓ : Loc Cert.ReferenceIdeal.nD Cert.ReferenceIdeal.τ Cert.ReferenceIdeal.sig) → Buf (Elt Ideal) ℓ)

/-- The reference's arguments are the kernel's, and its queries and keys are reals. -/
structure Agree : Prop where
  h0 : (m' ((c.tc : Thread Cert.ReferenceIdeal.nD Cert.ReferenceIdeal.τ).loc Cert.ReferenceIdeal.main_arg0) : FVec Ideal S4x8192x8x64 .f32) = m ((c.tc : Thread nD τ).loc main_arg0)
  h1 : (m' ((c.tc : Thread Cert.ReferenceIdeal.nD Cert.ReferenceIdeal.τ).loc Cert.ReferenceIdeal.main_arg1) : FVec Ideal S4x8192x8x32 .f32) = m ((c.tc : Thread nD τ).loc main_arg1)
  h2 : (m' ((c.tc : Thread Cert.ReferenceIdeal.nD Cert.ReferenceIdeal.τ).loc Cert.ReferenceIdeal.main_arg2) : FVec Ideal S4x256x8x64 .f32) = m ((c.tc : Thread nD τ).loc main_arg2)
  h3 : (m' ((c.tc : Thread Cert.ReferenceIdeal.nD Cert.ReferenceIdeal.τ).loc Cert.ReferenceIdeal.main_arg3) : FVec Ideal S4x256x32 .f32) = m ((c.tc : Thread nD τ).loc main_arg3)
  h4 : (m' ((c.tc : Thread Cert.ReferenceIdeal.nD Cert.ReferenceIdeal.τ).loc Cert.ReferenceIdeal.main_arg4) : FVec Ideal S4x256x8x64 .f32) = m ((c.tc : Thread nD τ).loc main_arg4)
  h5 : (m' ((c.tc : Thread Cert.ReferenceIdeal.nD Cert.ReferenceIdeal.τ).loc Cert.ReferenceIdeal.main_arg5) : FVec Ideal S4x8192x8x64 .f32) = m ((c.tc : Thread nD τ).loc main_arg5)
  h6 : (m' ((c.tc : Thread Cert.ReferenceIdeal.nD Cert.ReferenceIdeal.τ).loc Cert.ReferenceIdeal.main_arg6) : FVec Ideal S4x8192x32 .f32) = m ((c.tc : Thread nD τ).loc main_arg6)
  h7 : (m' ((c.tc : Thread Cert.ReferenceIdeal.nD Cert.ReferenceIdeal.τ).loc Cert.ReferenceIdeal.main_arg7) : FVec Ideal S4x8192x8x64 .f32) = m ((c.tc : Thread nD τ).loc main_arg7)
  r0 : ∀ i : S4x8192x8x64.Idx, ∃ r : ℝ, (m ((c.tc : Thread nD τ).loc main_arg0) : FVec Ideal S4x8192x8x64 .f32) i = (r : EReal)
  r1 : ∀ i : S4x8192x8x32.Idx, ∃ r : ℝ, (m ((c.tc : Thread nD τ).loc main_arg1) : FVec Ideal S4x8192x8x32 .f32) i = (r : EReal)
  r2 : ∀ i : S4x256x8x64.Idx, ∃ r : ℝ, (m ((c.tc : Thread nD τ).loc main_arg2) : FVec Ideal S4x256x8x64 .f32) i = (r : EReal)
  r3 : ∀ i : S4x256x32.Idx, ∃ r : ℝ, (m ((c.tc : Thread nD τ).loc main_arg3) : FVec Ideal S4x256x32 .f32) i = (r : EReal)
  r5 : ∀ i : S4x8192x8x64.Idx, ∃ r : ℝ, (m ((c.tc : Thread nD τ).loc main_arg5) : FVec Ideal S4x8192x8x64 .f32) i = (r : EReal)
  r6 : ∀ i : S4x8192x32.Idx, ∃ r : ℝ, (m ((c.tc : Thread nD τ).loc main_arg6) : FVec Ideal S4x8192x32 .f32) i = (r : EReal)

set_option maxHeartbeats 1000000 in
/-- At every point, what the body writes at a row and lane is the reference's result there. -/
theorem point (A : Agree m c m') (t : Fin cfg0.N) (i : Fin 4096) (l : Fin 128) (b : Fin 4) (r : Fin 8192) (y : Fin 512)
    (hb : b.val = t.val / 8) (hr : r.val = 4096 * (t.val % 2) + i.val) (hy : y.val = 128 * (t.val / 2 % 4) + l.val) :
    (stagedAt m c t).out (ix3 0 i l) = (Cert.ReferenceIdeal.Value.res_main_v24 m' c : FVec Ideal S4x8192x512 .bf16) (ix3 b r y) := by
  obtain ⟨h0, h1, h2, h3, h4, h5, h6, h7, r0, r1, r2, r3, r5, r6⟩ := A
  choose q hq using r0
  choose qr hqr using r1
  choose kc hkc using r2
  choose kcr hkcr using r3
  choose k hk using r5
  choose kr hkr using r6
  have ht := (idx t).1
  have hh : y.val / 64 = 2 * (t.val / 2 % 4) + l.val / 64 := by omega
  obtain ⟨h, hh'⟩ : ∃ h : Fin 8, h = ⟨y.val / 64, by omega⟩ := ⟨_, rfl⟩
  have hv : h.val = 2 * (t.val / 2 % 4) + l.val / 64 := by rw [hh']; exact hh
  obtain ⟨M, hM⟩ := Cert.ReferenceIdeal.At.res_at m' c b r y (fun d => q (ix4 b r h d)) (fun d => qr (ix4 b r h d)) (fun j d => kc (ix4 b j h d)) (fun j d => kcr (ix3 b j d))
    (fun j d => k (ix4 b j h d)) (fun j d => kr (ix3 b j d))
    (fun d => by rw [← hh']; exact (congrFun h0 _).trans (hq _)) (fun d => by rw [← hh']; exact (congrFun h1 _).trans (hqr _))
    (fun j d => by rw [← hh']; exact (congrFun h2 _).trans (hkc _)) (fun j d => (congrFun h3 _).trans (hkcr _))
    (fun j d => by rw [← hh']; exact (congrFun h5 _).trans (hk _)) (fun j d => (congrFun h6 _).trans (hkr _))
    (fun j => (m ((c.tc : Thread nD τ).loc main_arg4) : FVec Ideal S4x256x8x64 .f32) (ix4 b j h (⟨y.val % 64, by omega⟩ : Fin 64)))
    (fun j => (m ((c.tc : Thread nD τ).loc main_arg7) : FVec Ideal S4x8192x8x64 .f32) (ix4 b j h (⟨y.val % 64, by omega⟩ : Fin 64)))
    (fun j => by rw [← hh']; exact congrFun h4 _) (fun j => by rw [← hh']; exact congrFun h7 _)
  refine Eq.trans ?_ hM.symm
  refine out_eq l ⟨fun d => ?_, fun j d => ?_, fun j d => ?_⟩ _ _ (fun j => ?_) (fun j => ?_) (fun j => ?_) (fun j => ?_) M
  · refine (staged_q m c t i _ b r ⟨256 * (t.val / 2 % 4) + (128 * (l.val / 64) + d.val), by omega⟩ hb hr rfl).trans ?_
    exact packQ_real m c b r _ h d (by show 256 * (t.val / 2 % 4) + (128 * (l.val / 64) + d.val) = 128 * h.val + d.val; omega) _ _ (fun _ => hq _) (fun _ => hqr _)
  · refine (staged_kc m c t j _ b ⟨256 * (t.val / 2 % 4) + (128 * (l.val / 64) + d.val), by omega⟩ hb rfl).trans ?_
    exact packKC_real m c b j _ h d (by show 256 * (t.val / 2 % 4) + (128 * (l.val / 64) + d.val) = 128 * h.val + d.val; omega) _ _ (fun _ => hkc _) (fun _ => hkcr _)
  · refine (staged_k m c t j _ b ⟨256 * (t.val / 2 % 4) + (128 * (l.val / 64) + d.val), by omega⟩ hb rfl).trans ?_
    exact packK_real m c b j _ h d (by show 256 * (t.val / 2 % 4) + (128 * (l.val / 64) + d.val) = 128 * h.val + d.val; omega) _ _ (fun _ => hk _) (fun _ => hkr _)
  · refine (staged_vc m c t j _ b ⟨256 * (t.val / 2 % 4) + l.val, by omega⟩ hb rfl).trans ?_
    exact (packVC_at m c b j _).trans (vlanes_low _ _ h ⟨y.val % 64, by omega⟩ (by show (256 * (t.val / 2 % 4) + l.val) % 256 < 128; omega)
      (by show h.val = (256 * (t.val / 2 % 4) + l.val) / 256 * 2 + (256 * (t.val / 2 % 4) + l.val) % 256 / 64; omega)
      (by show y.val % 64 = (256 * (t.val / 2 % 4) + l.val) % 256 % 64; omega))
  · refine (staged_v m c t j _ b ⟨256 * (t.val / 2 % 4) + l.val, by omega⟩ hb rfl).trans ?_
    exact (packV_at m c b j _).trans (vlanes_low _ _ h ⟨y.val % 64, by omega⟩ (by show (256 * (t.val / 2 % 4) + l.val) % 256 < 128; omega)
      (by show h.val = (256 * (t.val / 2 % 4) + l.val) / 256 * 2 + (256 * (t.val / 2 % 4) + l.val) % 256 / 64; omega)
      (by show y.val % 64 = (256 * (t.val / 2 % 4) + l.val) % 256 % 64; omega))
  · refine (staged_vc m c t j _ b ⟨256 * (t.val / 2 % 4) + (128 + l.val), by omega⟩ hb rfl).trans ?_
    exact (packVC_at m c b j _).trans (vlanes_high _ _ (by show 128 ≤ (256 * (t.val / 2 % 4) + (128 + l.val)) % 256; omega))
  · refine (staged_v m c t j _ b ⟨256 * (t.val / 2 % 4) + (128 + l.val), by omega⟩ hb rfl).trans ?_
    exact (packV_at m c b j _).trans (vlanes_high _ _ (by show 128 ≤ (256 * (t.val / 2 % 4) + (128 + l.val)) % 256; omega))

/-- The kernel's result array is the reference's. -/
theorem final (A : Agree m c m') : (dat m 0 c).arrAt 5 (cfgs 0).N = (Cert.ReferenceIdeal.Value.res_main_v24 m' c : FVec Ideal S4x8192x512 .bf16) := by
  refine (dat m 0 c).arrAt_eq_of_covers 5 _ (by decide +kernel) fun t _ y => ?_
  have ht := (idx t).1
  blk_simp
  rw [dat_after5]
  have h0 : (y 0).val < 1 := (y 0).isLt
  have h1 : (y 1).val < 4096 := (y 1).isLt
  have h2 : (y 2).val < 128 := (y 2).isLt
  have e : y = (ix3 0 (⟨(y 1).val, h1⟩ : Fin 4096) (⟨(y 2).val, h2⟩ : Fin 128) : S1x4096x128.Idx) := funext fun a => Fin.ext (by
    match a with
    | ⟨0, _⟩ => show (y 0).val = 0; omega
    | ⟨1, _⟩ => rfl
    | ⟨2, _⟩ => rfl)
  rw [e]
  exact (point m c m' A t _ _ ⟨t.val / 8, by omega⟩ ⟨4096 * (t.val % 2) + (y 1).val, by omega⟩ ⟨128 * (t.val / 2 % 4) + (y 2).val, by omega⟩ rfl rfl rfl).trans
    (congrArg (Cert.ReferenceIdeal.Value.res_main_v24 m' c : FVec Ideal S4x8192x512 .bf16) (emb_out t _ _ _ _ _ rfl rfl rfl).symm)

end Cert.KernelIdeal.Blocks

end
-- ==== Proof.FfnRow.lean ====
/- The feed-forward part of one row in the extended reals: the norm, the modulation, the convolution of three rows, the gate. -/
module

public import Idealize.ShloMosaic.Lib.Pointwise

@[expose] public section

noncomputable section

namespace Cert.Ffn

open Idealize.ShloMosaic

/-- A row over the root of its mean square (1024 lanes), times a weight. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The normed row, modulated. -/
def modulated (x g scale shift : Fin 1024 → EReal) (k : Fin 1024) : EReal :=
  rms x g k * (Ideal.ofBits .f32 0x3F800000#32 + scale k) + shift k

/-- The modulated row's product with a column. -/
def project (x g scale shift : Fin 1024 → EReal) (w : Fin 1024 → EReal) : EReal := ∑ k, modulated x g scale shift k * w k

/-- Three neighbouring rows convolved. -/
def conv (before here after w0 w1 w2 bias : EReal) : EReal := before * w0 + here * w1 + after * w2 + bias

/-- The gated product. -/
def gated (a b : EReal) : EReal := a * Ideal.logistic a * b

/-- The row plus the gated norm of what the feed-forward part gives. -/
def plusGated (x f g gate : Fin 1024 → EReal) (k : Fin 1024) : EReal := x k + gate k * rms f g k

/-- A column of the convolved projections at a row, with zeros before the first row and after the last. -/
def column (X : Fin 8192 → Fin 1024 → EReal) (g scale shift w : Fin 1024 → EReal) (w0 w1 w2 bias : EReal) (t : Fin 8192) : EReal :=
  conv (if 0 < t.val then project (X ⟨t.val - 1, by omega⟩) g scale shift w else 0) (project (X t) g scale shift w)
    (if h : t.val + 1 < 8192 then project (X ⟨t.val + 1, h⟩) g scale shift w else 0) w0 w1 w2 bias

/-- A batch's rows after the feed-forward part, at a row and lane. -/
def feedForward (X : Fin 8192 → Fin 1024 → EReal) (shift scale gate gIn gOut : Fin 1024 → EReal) (wUp : Fin 1024 → Fin 5632 → EReal)
    (cw : Fin 3 → Fin 5632 → EReal) (cb : Fin 5632 → EReal) (wDown : Fin 2816 → Fin 1024 → EReal) (t : Fin 8192) (o : Fin 1024) : EReal :=
  plusGated (X t) (fun o => ∑ n : Fin 2816,
      gated (column X gIn scale shift (fun k => wUp k ⟨n.val, by omega⟩) (cw 0 ⟨n.val, by omega⟩) (cw 1 ⟨n.val, by omega⟩) (cw 2 ⟨n.val, by omega⟩) (cb ⟨n.val, by omega⟩) t)
        (column X gIn scale shift (fun k => wUp k ⟨2816 + n.val, by omega⟩) (cw 0 ⟨2816 + n.val, by omega⟩) (cw 1 ⟨2816 + n.val, by omega⟩) (cw 2 ⟨2816 + n.val, by omega⟩)
          (cb ⟨2816 + n.val, by omega⟩) t) * wDown n o) gOut gate o

end Cert.Ffn

end
-- ==== Proof.FfnBlock.lean ====
/- The feed-forward call's block computations read at an index. -/
module

public import proofs.«01_k».proof.Proof.Gen.Kernel2Ideal.Skeleton
public import proofs.«01_k».proof.Proof.FfnRow

@[expose] public section

set_option maxRecDepth 16384

noncomputable section

namespace Cert.Kernel2Ideal.Block

open Idealize.ShloMosaic
open Cert.Kernel2Ideal Cert.Kernel2Ideal.Gen Cert.Ffn

/-- The block's rows, then the halo's rows before and after it. -/
def rows (x : Vec Ideal S1x512x1024 .f32) (xp xn : Vec Ideal S1x8x1024 .f32) : FVec Ideal S528x1024 .f32 :=
  concatenate S528x1024 0 [⟨S512x1024, k0_pay2 (F := Ideal) x⟩, ⟨S8x1024, shapeCast S8x1024 xp shapeCasts_S1x8x1024_S8x1024⟩,
    ⟨S8x1024, shapeCast S8x1024 xn shapeCasts_S1x8x1024_S8x1024⟩] concatenates_S512x1024_S8x1024_S8x1024_S528x1024_d0

theorem rows_here (x : Vec Ideal S1x512x1024 .f32) (xp xn : Vec Ideal S1x8x1024 .f32) (p : Fin 528) (i : Fin 512) (hp : p.val = i.val) (k : Fin 1024) :
    rows x xp xn (ix2 p k) = x (ix3 0 i k) := by
  obtain ⟨p, hp'⟩ := p
  obtain rfl : p = i.val := hp
  pointwise [rows, k0_pay2]
theorem rows_before (x : Vec Ideal S1x512x1024 .f32) (xp xn : Vec Ideal S1x8x1024 .f32) (k : Fin 1024) :
    rows x xp xn (ix2 (519 : Fin 528) k) = xp (ix3 0 (7 : Fin 8) k) := by
  pointwise [rows, k0_pay2]
theorem rows_after (x : Vec Ideal S1x512x1024 .f32) (xp xn : Vec Ideal S1x8x1024 .f32) (k : Fin 1024) :
    rows x xp xn (ix2 (520 : Fin 528) k) = xn (ix3 0 (0 : Fin 8) k) := by
  pointwise [rows, k0_pay2]

/-- The rows normed and modulated. -/
def modulatedRows (X : FVec Ideal S528x1024 .f32) (v0 : Vec Ideal S1x1024 .f32) (v2 v4 : Vec Ideal S1x1x1024 .f32) : FVec Ideal S528x1024 .bf16 :=
  truncf .bf16 (addf (mulf (mulf (mulf X (broadcastTo S528x1024 (rsqrt (addf (divf
        (shapeCast S528x1 (multiReduction .add [1] S528 (mulf X X) 0x00000000#32 reduces_S528x1024_S528 (.inl rfl) rfl) shapeCasts_S528_S528x1)
        (broadcast S528x1 (Scalar.ofBits .f32 0x44800000#32))) (broadcast S528x1 (Scalar.ofBits .f32 0x358637BD#32)))) broadcasts_S528x1_S528x1024))
      (broadcastTo S528x1024 (shapeCast S1x1024 v0 shapeCasts_S1x1024_S1x1024) broadcasts_S1x1024_S528x1024))
      (broadcastTo S528x1024 (addf (broadcast S1x1024 (Scalar.ofBits .f32 0x3F800000#32)) (shapeCast S1x1024 v4 shapeCasts_S1x1x1024_S1x1024)) broadcasts_S1x1024_S528x1024))
    (broadcastTo S528x1024 (shapeCast S1x1024 v2 shapeCasts_S1x1x1024_S1x1024) broadcasts_S1x1024_S528x1024)) bitsLt_bf16_f32

theorem modulatedRows_at (X : FVec Ideal S528x1024 .f32) (g : Vec Ideal S1x1024 .f32) (sh sc : Vec Ideal S1x1x1024 .f32) (p : Fin 528) (k : Fin 1024) :
    modulatedRows X g sh sc (ix2 p k)
      = modulated (fun j => X (ix2 p j)) (fun j => g (ix2 0 j)) (fun j => sc (ix3 0 0 j)) (fun j => sh (ix3 0 0 j)) k := by
  pointwise [modulatedRows, modulated, rms]

theorem pay3_eq (g : Vec Ideal S1x1024 .f32) (sh sc : Vec Ideal S1x1x1024 .f32) (x : Vec Ideal S1x512x1024 .f32) (xp xn : Vec Ideal S1x8x1024 .f32) :
    k0_pay3 (F := Ideal) g sh sc x xp xn = modulatedRows (rows x xp xn) g sh sc := rfl

/-- The rows' product with half of the projection's columns. -/
theorem pay5_at (H : FVec Ideal S528x1024 .bf16) (w : Vec Ideal S1024x2816 .bf16) (p : Fin 528) (n : Fin 2816) :
    k0_pay5 (F := Ideal) H (k0_pay4 (F := Ideal) w) (constant S528x2816 .f32 0x00000000#32) (ix2 p n) = ∑ k, H (ix2 p k) * w (ix2 k n) := by
  pointwise [k0_pay5, k0_pay4]

theorem pay10_eq (H : FVec Ideal S528x1024 .bf16) (w : Vec Ideal S1024x2816 .bf16) :
    k0_pay10 (F := Ideal) H w = k0_pay5 (F := Ideal) H (k0_pay4 (F := Ideal) w) (constant S528x2816 .f32 0x00000000#32) := rfl

/-- The rows before the block's, the first from the halo where there is one. -/
def before (a : BitVec 32) (P : FVec Ideal S528x2816 .f32) : FVec Ideal S512x2816 .f32 :=
  select (broadcastTo S512x2816 (shapeCast S512x1 (cmpi .eq (iota .tc S512x1 32 [0] iota_S512x1_d0_w32) (broadcast S512x1 0#32)) shapeCasts_S512x1_S512x1) broadcasts_S512x1_S512x2816)
    (broadcastTo S512x2816 (shapeCast S1x2816 (Scalar.select (Scalar.cmpi .sgt a 0#32) (extractStridedSlice S1x2816 ![519, 0] P slices_S528x2816_o519_0_S1x2816)
      (broadcast S1x2816 (Scalar.ofBits .f32 0x00000000#32))) shapeCasts_S1x2816_S1x2816) broadcasts_S1x2816_S512x2816)
    (dynamicRotate 0 1#32 none (extractStridedSlice S512x2816 ![0, 0] P slices_S528x2816_o0_0_S512x2816) rotates_S512x2816_d0)

/-- The rows after the block's, the last from the halo where there is one. -/
def after (a : BitVec 32) (P : FVec Ideal S528x2816 .f32) : FVec Ideal S512x2816 .f32 :=
  select (broadcastTo S512x2816 (shapeCast S512x1 (cmpi .eq (iota .tc S512x1 32 [0] iota_S512x1_d0_w32) (broadcast S512x1 511#32)) shapeCasts_S512x1_S512x1) broadcasts_S512x1_S512x2816)
    (broadcastTo S512x2816 (shapeCast S1x2816 (Scalar.select (Scalar.cmpi .slt a 15#32) (extractStridedSlice S1x2816 ![520, 0] P slices_S528x2816_o520_0_S1x2816)
      (broadcast S1x2816 (Scalar.ofBits .f32 0x00000000#32))) shapeCasts_S1x2816_S1x2816) broadcasts_S1x2816_S512x2816)
    (dynamicRotate 0 511#32 none (extractStridedSlice S512x2816 ![0, 0] P slices_S528x2816_o0_0_S512x2816) rotates_S512x2816_d0)

theorem first_row : ∀ i : Fin 512, IntOp.cmpi CmpIPredicate.eq (BitVec.ofNat 32 i.val) 0#32 = if i.val = 0 then 1#1 else 0#1 := by decide +kernel
theorem last_row : ∀ i : Fin 512, IntOp.cmpi CmpIPredicate.eq (BitVec.ofNat 32 i.val) 511#32 = if i.val = 511 then 1#1 else 0#1 := by decide +kernel
theorem first_block : ∀ q : Fin 16, Scalar.cmpi CmpIPredicate.sgt (BitVec.ofNat 32 q.val) 0#32 = if q.val = 0 then 0#1 else 1#1 := by decide +kernel
theorem last_block : ∀ q : Fin 16, Scalar.cmpi CmpIPredicate.slt (BitVec.ofNat 32 q.val) 15#32 = if q.val = 15 then 0#1 else 1#1 := by decide +kernel

theorem before_at (q : Fin 16) (P : FVec Ideal S528x2816 .f32) (i : Fin 512) (n : Fin 2816) :
    before (BitVec.ofNat 32 q.val) P (ix2 i n)
      = if i.val = 0 then (if q.val = 0 then 0 else P (ix2 519 n)) else P (ix2 ⟨i.val - 1, by omega⟩ n) := by
  pointwise [before]
  rw [first_row, first_block]
  by_cases hi : i.val = 0
  · by_cases hq : q.val = 0 <;> simp [hi, hq, Scalar.select]
  · simp only [hi, if_false, Scalar.select]
    exact congrArg (fun p : Fin 528 => P (ix2 p n)) (Fin.ext (by show (i.val + 512 - 1) % 512 = i.val - 1; omega))

theorem after_at (q : Fin 16) (P : FVec Ideal S528x2816 .f32) (i : Fin 512) (n : Fin 2816) :
    after (BitVec.ofNat 32 q.val) P (ix2 i n)
      = if i.val = 511 then (if q.val = 15 then 0 else P (ix2 520 n)) else P (ix2 ⟨i.val + 1, by omega⟩ n) := by
  pointwise [after]
  rw [last_row, last_block]
  by_cases hi : i.val = 511
  · by_cases hq : q.val = 15 <;> simp [hi, hq, Scalar.select]
  · simp only [hi, if_false, Scalar.select]
    exact congrArg (fun p : Fin 528 => P (ix2 p n)) (Fin.ext (by show (i.val + 512 - 511) % 512 = i.val + 1; omega))

/-- The convolved rows. -/
def convolved (a : BitVec 32) (P : FVec Ideal S528x2816 .f32) (w0 w1 w2 cb : Vec Ideal S1x2816 .f32) : FVec Ideal S512x2816 .f32 :=
  addf (addf (addf (mulf (before a P) (broadcastTo S512x2816 w0 broadcasts_S1x2816_S512x2816))
      (mulf (extractStridedSlice S512x2816 ![0, 0] P slices_S528x2816_o0_0_S512x2816) (broadcastTo S512x2816 w1 broadcasts_S1x2816_S512x2816)))
      (mulf (after a P) (broadcastTo S512x2816 w2 broadcasts_S1x2816_S512x2816)))
    (broadcastTo S512x2816 (shapeCast S1x2816 cb shapeCasts_S1x2816_S1x2816) broadcasts_S1x2816_S512x2816)

theorem convolved_at (a : BitVec 32) (P : FVec Ideal S528x2816 .f32) (w0 w1 w2 cb : Vec Ideal S1x2816 .f32) (i : Fin 512) (n : Fin 2816) :
    convolved a P w0 w1 w2 cb (ix2 i n)
      = conv (before a P (ix2 i n)) (P (ix2 ⟨i.val, by omega⟩ n)) (after a P (ix2 i n)) (w0 (ix2 0 n)) (w1 (ix2 0 n)) (w2 (ix2 0 n)) (cb (ix2 0 n)) := by
  pointwise [convolved, conv]

theorem left_eq (a : BitVec 32) (H : FVec Ideal S528x1024 .bf16) (w : FVec Ideal S1024x2816 .bf16) (z : FVec Ideal S528x2816 .f32) (w0 w1 w2 cb : Vec Ideal S1x2816 .f32) :
    k0_pay9 (F := Ideal) (k0_pay7 (F := Ideal) a H w z w0 w1) (k0_pay8 (F := Ideal) a H w z w2) cb
      = convolved a (k0_pay5 (F := Ideal) H w z) w0 w1 w2 cb := rfl

/-- The gated product's projection. -/
def down (A B : FVec Ideal S512x2816 .f32) (w : Vec Ideal S2816x1024 .bf16) : FVec Ideal S512x1024 .f32 :=
  matmul (φ₂ := .bf16) dot_S512x2816_S2816x1024_S512x1024_1_0_0_1_n_n none (truncf .bf16 (mulf (mulf A (logistic A)) B) bitsLt_bf16_f32)
    (shapeCast S2816x1024 w shapeCasts_S2816x1024_S2816x1024) (constant S512x1024 .f32 0x00000000#32)

theorem down_at (A B : FVec Ideal S512x2816 .f32) (w : Vec Ideal S2816x1024 .bf16) (i : Fin 512) (o : Fin 1024) :
    down A B w (ix2 i o) = ∑ n, gated (A (ix2 i n)) (B (ix2 i n)) * w (ix2 n o) := by
  pointwise [down, gated]

/-- The block with the gated norm of the projection added. -/
def outBlock (v7 F : FVec Ideal S512x1024 .f32) (gate : Vec Ideal S1x1x1024 .f32) (g : Vec Ideal S1x1024 .f32) : FVec Ideal S512x1024 .f32 :=
  addf v7 (mulf (broadcastTo S512x1024 (shapeCast S1x1024 gate shapeCasts_S1x1x1024_S1x1024) broadcasts_S1x1024_S512x1024)
    (mulf (mulf F (broadcastTo S512x1024 (rsqrt (addf (divf
        (shapeCast S512x1 (multiReduction .add [1] S512 (mulf F F) 0x00000000#32 reduces_S512x1024_S512 (.inl rfl) rfl) shapeCasts_S512_S512x1)
        (broadcast S512x1 (Scalar.ofBits .f32 0x44800000#32))) (broadcast S512x1 (Scalar.ofBits .f32 0x358637BD#32)))) broadcasts_S512x1_S512x1024))
      (broadcastTo S512x1024 (shapeCast S1x1024 g shapeCasts_S1x1024_S1x1024) broadcasts_S1x1024_S512x1024)))

theorem outBlock_at (v7 F : FVec Ideal S512x1024 .f32) (gate : Vec Ideal S1x1x1024 .f32) (g : Vec Ideal S1x1024 .f32) (i : Fin 512) (o : Fin 1024) :
    outBlock v7 F gate g (ix2 i o) = plusGated (fun j => v7 (ix2 i j)) (fun j => F (ix2 i j)) (fun j => g (ix2 0 j)) (fun j => gate (ix3 0 0 j)) o := by
  pointwise [outBlock, plusGated, rms]

theorem pay14_eq (a : BitVec 32) (v7 : FVec Ideal S512x1024 .f32) (A : FVec Ideal S512x2816 .f32) (H : FVec Ideal S528x1024 .bf16) (w : Vec Ideal S1024x2816 .bf16)
    (w0 w1 w2 cb : Vec Ideal S1x2816 .f32) (wd : Vec Ideal S2816x1024 .bf16) (gate : Vec Ideal S1x1x1024 .f32) (g : Vec Ideal S1x1024 .f32) :
    k0_pay14 (F := Ideal) v7 A (k0_pay11 (F := Ideal) H w) (k0_pay12 (F := Ideal) a H w) (k0_pay13 (F := Ideal) a H w w0) w1 w2 cb wd gate g
      = outBlock v7 (down A (convolved a (k0_pay10 (F := Ideal) H w) w0 w1 w2 cb) wd) gate g := rfl

section

variable (X : Fin 8192 → Fin 1024 → EReal) (q : Fin 16) (g : Vec Ideal S1x1024 .f32) (sh sc : Vec Ideal S1x1x1024 .f32) (x : Vec Ideal S1x512x1024 .f32) (xp xn : Vec Ideal S1x8x1024 .f32)

/-- A row's product with a column. -/
theorem project_at (w : Vec Ideal S1024x2816 .bf16) (p : Fin 528) (n : Fin 2816) (R : Fin 1024 → EReal) (h : ∀ j, rows x xp xn (ix2 p j) = R j) :
    k0_pay5 (F := Ideal) (k0_pay3 (F := Ideal) g sh sc x xp xn) (k0_pay4 (F := Ideal) w) (constant S528x2816 .f32 0x00000000#32) (ix2 p n)
      = project R (fun j => g (ix2 0 j)) (fun j => sc (ix3 0 0 j)) (fun j => sh (ix3 0 0 j)) (fun k => w (ix2 k n)) := by
  rw [pay5_at, pay3_eq]
  simp only [modulatedRows_at, h]
  rfl

/-- A column of the convolved block, where the block's and the halo's rows are the array's. -/
theorem column_at (w : Vec Ideal S1024x2816 .bf16) (w0 w1 w2 cb : Vec Ideal S1x2816 .f32) (i : Fin 512) (n : Fin 2816) (t : Fin 8192) (ht : t.val = 512 * q.val + i.val)
    (hx : ∀ (i : Fin 512) (t : Fin 8192), t.val = 512 * q.val + i.val → ∀ j, x (ix3 0 i j) = X t j)
    (hp : ∀ t : Fin 8192, t.val + 1 = 512 * q.val → ∀ j, xp (ix3 0 (7 : Fin 8) j) = X t j)
    (hn : ∀ t : Fin 8192, t.val = 512 * q.val + 512 → ∀ j, xn (ix3 0 (0 : Fin 8) j) = X t j) :
    convolved (BitVec.ofNat 32 q.val) (k0_pay5 (F := Ideal) (k0_pay3 (F := Ideal) g sh sc x xp xn) (k0_pay4 (F := Ideal) w) (constant S528x2816 .f32 0x00000000#32)) w0 w1 w2 cb (ix2 i n)
      = column X (fun j => g (ix2 0 j)) (fun j => sc (ix3 0 0 j)) (fun j => sh (ix3 0 0 j)) (fun k => w (ix2 k n)) (w0 (ix2 0 n)) (w1 (ix2 0 n)) (w2 (ix2 0 n)) (cb (ix2 0 n)) t := by
  have hi := i.isLt
  have hq := q.isLt
  rw [convolved_at, before_at, after_at]
  unfold column
  congr 1
  · by_cases h0 : i.val = 0
    · rw [if_pos h0]
      by_cases h1 : q.val = 0
      · rw [if_pos h1, if_neg (by omega)]
      · rw [if_neg h1, if_pos (by omega)]
        exact project_at g sh sc x xp xn w _ n _ fun j => (rows_before x xp xn j).trans (hp _ (by show t.val - 1 + 1 = _; omega) j)
    · rw [if_neg h0, if_pos (by omega)]
      exact project_at g sh sc x xp xn w _ n _ fun j => (rows_here x xp xn _ ⟨i.val - 1, by omega⟩ rfl j).trans (hx _ _ (by show t.val - 1 = 512 * q.val + (i.val - 1); omega) j)
  · exact project_at g sh sc x xp xn w _ n _ fun j => (rows_here x xp xn _ i rfl j).trans (hx i t ht j)
  · by_cases h0 : i.val = 511
    · rw [if_pos h0]
      by_cases h1 : q.val = 15
      · rw [if_pos h1, dif_neg (by omega)]
      · rw [if_neg h1, dif_pos (by omega : t.val + 1 < 8192)]
        exact project_at g sh sc x xp xn w _ n _ fun j => (rows_after x xp xn j).trans (hn _ (by show t.val + 1 = _; omega) j)
    · rw [if_neg h0, dif_pos (by omega : t.val + 1 < 8192)]
      exact project_at g sh sc x xp xn w _ n _ fun j => (rows_here x xp xn _ ⟨i.val + 1, by omega⟩ rfl j).trans (hx _ _ (by show t.val + 1 = 512 * q.val + (i.val + 1); omega) j)

end

theorem pay1_at (v : FVec Ideal S512x1024 .f32) (i : Fin 512) (o : Fin 1024) : k0_pay1 (F := Ideal) v (ix3 0 i o) = v (ix2 i o) := by
  pointwise [k0_pay1]
theorem pay2_at (x : Vec Ideal S1x512x1024 .f32) (i : Fin 512) (o : Fin 1024) : k0_pay2 (F := Ideal) x (ix2 i o) = x (ix3 0 i o) := by
  pointwise [k0_pay2]

section

/-- The weights' halves, as loaded. -/
theorem up_left (wUp : Vec Ideal S1024x5632 .bf16) (k : Fin 1024) (n : Fin 2816) : (View.ld wUp (Rect.unit ![0, 0] ![1024, 2816] inb_S1024x5632_S1024x2816_0_0)) (ix2 k n) = wUp (ix2 k ⟨n.val, by omega⟩) := by
  pointwise
theorem up_right (wUp : Vec Ideal S1024x5632 .bf16) (k : Fin 1024) (n : Fin 2816) : (View.ld wUp (Rect.unit ![0, 2816] ![1024, 2816] inb_S1024x5632_S1024x2816_0_2816)) (ix2 k n) = wUp (ix2 k ⟨2816 + n.val, by omega⟩) := by
  pointwise
theorem bias_left (cb : Vec Ideal S1x5632 .f32) (n : Fin 2816) : (View.ld cb (Rect.unit ![0, 0] ![1, 2816] inb_S1x5632_S1x2816_0_0)) (ix2 0 n) = cb (ix2 0 ⟨n.val, by omega⟩) := by
  pointwise
theorem bias_right (cb : Vec Ideal S1x5632 .f32) (n : Fin 2816) : (View.ld cb (Rect.unit ![0, 2816] ![1, 2816] inb_S1x5632_S1x2816_0_2816)) (ix2 0 n) = cb (ix2 0 ⟨2816 + n.val, by omega⟩) := by
  pointwise

/-- What the body writes at a row and lane, from blocks of the arrays. -/
theorem block_out (a : BitVec 32) (q : Fin 16) (ha : a = BitVec.ofNat 32 q.val) (X : Fin 8192 → Fin 1024 → EReal)
    (gIn gOut : Vec Ideal S1x1024 .f32) (sh sc gate : Vec Ideal S1x1x1024 .f32) (x : Vec Ideal S1x512x1024 .f32) (xp xn : Vec Ideal S1x8x1024 .f32)
    (wl wr : Vec Ideal S1024x2816 .bf16) (wUp : Fin 1024 → Fin 5632 → EReal) (u0 u1 u2 v0 v1 v2 : Vec Ideal S1x2816 .f32) (cw : Fin 3 → Fin 5632 → EReal) (bl br : Vec Ideal S1x2816 .f32) (cb : Fin 5632 → EReal) (wDown : Vec Ideal S2816x1024 .bf16)
    (i : Fin 512) (o : Fin 1024) (t : Fin 8192) (ht : t.val = 512 * q.val + i.val)
    (hx : ∀ (i : Fin 512) (t : Fin 8192), t.val = 512 * q.val + i.val → ∀ j, x (ix3 0 i j) = X t j)
    (hp : ∀ t : Fin 8192, t.val + 1 = 512 * q.val → ∀ j, xp (ix3 0 (7 : Fin 8) j) = X t j)
    (hn : ∀ t : Fin 8192, t.val = 512 * q.val + 512 → ∀ j, xn (ix3 0 (0 : Fin 8) j) = X t j)
    (hwl : ∀ (k : Fin 1024) (n : Fin 2816), wl (ix2 k n) = wUp k ⟨n.val, by omega⟩) (hwr : ∀ (k : Fin 1024) (n : Fin 2816), wr (ix2 k n) = wUp k ⟨2816 + n.val, by omega⟩)
    (hbl : ∀ n : Fin 2816, bl (ix2 0 n) = cb ⟨n.val, by omega⟩) (hbr : ∀ n : Fin 2816, br (ix2 0 n) = cb ⟨2816 + n.val, by omega⟩)
    (hu0 : ∀ n : Fin 2816, u0 (ix2 0 n) = cw 0 ⟨n.val, by omega⟩)
    (hu1 : ∀ n : Fin 2816, u1 (ix2 0 n) = cw 1 ⟨n.val, by omega⟩)
    (hu2 : ∀ n : Fin 2816, u2 (ix2 0 n) = cw 2 ⟨n.val, by omega⟩)
    (hv0 : ∀ n : Fin 2816, v0 (ix2 0 n) = cw 0 ⟨2816 + n.val, by omega⟩)
    (hv1 : ∀ n : Fin 2816, v1 (ix2 0 n) = cw 1 ⟨2816 + n.val, by omega⟩)
    (hv2 : ∀ n : Fin 2816, v2 (ix2 0 n) = cw 2 ⟨2816 + n.val, by omega⟩) :
    k0_pay1 (F := Ideal) (k0_pay14 (F := Ideal) (k0_pay2 (F := Ideal) x)
        (k0_pay9 (F := Ideal) (k0_pay7 (F := Ideal) a (k0_pay3 (F := Ideal) gIn sh sc x xp xn) (k0_pay4 (F := Ideal) wl) (constant S528x2816 .f32 0x00000000#32)
            u0
            u1)
          (k0_pay8 (F := Ideal) a (k0_pay3 (F := Ideal) gIn sh sc x xp xn) (k0_pay4 (F := Ideal) wl) (constant S528x2816 .f32 0x00000000#32)
            u2)
          bl)
        (k0_pay11 (F := Ideal) (k0_pay3 (F := Ideal) gIn sh sc x xp xn) wr)
        (k0_pay12 (F := Ideal) a (k0_pay3 (F := Ideal) gIn sh sc x xp xn) wr)
        (k0_pay13 (F := Ideal) a (k0_pay3 (F := Ideal) gIn sh sc x xp xn) wr
          v0)
        v1
        v2
        br wDown gate gOut) (ix3 0 i o)
      = feedForward X (fun j => sh (ix3 0 0 j)) (fun j => sc (ix3 0 0 j)) (fun j => gate (ix3 0 0 j)) (fun j => gIn (ix2 0 j)) (fun j => gOut (ix2 0 j))
        wUp cw cb (fun n o => wDown (ix2 n o)) t o := by
  subst ha
  rw [left_eq, pay14_eq, pay10_eq, pay1_at, outBlock_at]
  have hcol := fun w w0 w1 w2 cb n => column_at X q gIn sh sc x xp xn w w0 w1 w2 cb i n t ht hx hp hn
  simp only [pay2_at, down_at, hcol, hx i t ht, hu0, hu1, hu2, hv0, hv1, hv2, hwl, hwr, hbl, hbr]
  rfl

end

end Cert.Kernel2Ideal.Block

end
-- ==== Proof.FfnRef.lean ====
/- The feed-forward reference's result read at an index. -/
module

public import proofs.«01_k».proof.Proof.Gen.Reference2Ideal.Run
public import proofs.«01_k».proof.Proof.FfnRow

@[expose] public section

set_option maxRecDepth 16384

noncomputable section

namespace Cert.Reference2Ideal.At

open Idealize.ShloMosaic Idealize.SL.Sem Idealize.ShloMosaic.TcCoe
open Cert.Reference2Ideal Cert.Reference2Ideal.Gen Cert.Ffn

/-- Rows over the root of their mean square, times a weight. -/
def normed (X : FVec Ideal S4x8192x1024 .f32) (g : FVec Ideal S1024 .f32) : FVec Ideal S4x8192x1024 .f32 :=
  mulf (mulf X (broadcastInDim S4x8192x1024 ![0, 1, 2] bcast_S4x8192x1_S4x8192x1024_0_1_2 (Host.rsqrt (addf (Host.divf
      (broadcastInDim S4x8192x1 ![0, 1] bcast_S4x8192_S4x8192x1_0_1 (Host.reduceAdd (mulf X X) (constant S_ .f32 0x00000000#32) reducesTo_S4x8192x1024_S4x8192_d2 h_S_))
      (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

theorem normed_at (X : FVec Ideal S4x8192x1024 .f32) (g : FVec Ideal S1024 .f32) (b : Fin 4) (t : Fin 8192) (k : Fin 1024) :
    normed X g (ix3 b t k) = rms (fun j => X (ix3 b t j)) (fun j => g (ix1 j)) k := by
  pointwise [normed, rms]

/-- The modulated rows' products with the projection's columns. -/
def projected (N : FVec Ideal S4x8192x1024 .f32) (scale shift : FVec Ideal S4x1x1024 .f32) (w : FVec Ideal S1024x5632 .f32) : FVec Ideal S4x8192x5632 .f32 :=
  Host.dotGeneral dot_S4x8192x1024_S1024x5632_S4x8192x5632_2_0_01_1_n_n none (addf (mulf N (broadcastInDim S4x8192x1024 ![0, 1, 2] bcast_S4x1x1024_S4x8192x1024_0_1_2
      (addf (broadcastInDim S4x1x1024 ![] bcast_S_S4x1x1024 (constant S_ .f32 0x3F800000#32)) scale)))
    (broadcastInDim S4x8192x1024 ![0, 1, 2] bcast_S4x1x1024_S4x8192x1024_0_1_2 shift)) w

theorem projected_at (X : FVec Ideal S4x8192x1024 .f32) (g : FVec Ideal S1024 .f32) (scale shift : FVec Ideal S4x1x1024 .f32) (w : FVec Ideal S1024x5632 .f32)
    (b : Fin 4) (t : Fin 8192) (n : Fin 5632) :
    projected (normed X g) scale shift w (ix3 b t n)
      = project (fun j => X (ix3 b t j)) (fun j => g (ix1 j)) (fun j => scale (ix3 b 0 j)) (fun j => shift (ix3 b 0 j)) (fun k => w (ix2 k n)) := by
  pointwise [projected, project, modulated, normed_at]

/-- A row of zeros before and after. -/
def padded (P : FVec Ideal S4x8192x5632 .f32) : FVec Ideal S4x8194x5632 .f32 :=
  pad S4x8194x5632 ![0, 1, 0] ![0, 1, 0] ![0, 0, 0] P (sitofp .f32 (constantI S_ 32 0#32)) pads_S4x8192x5632_S4x8194x5632_000_110_000 h_S_

theorem padded_at (P : FVec Ideal S4x8192x5632 .f32) (b : Fin 4) (u : Fin 8194) (n : Fin 5632) :
    padded P (ix3 b u n) = if h : 1 ≤ u.val ∧ u.val - 1 < 8192 then P (ix3 b ⟨u.val - 1, h.2⟩ n) else 0 := by
  have z : FloatOps.sitofp (F := Ideal) FTy.f32 0#32 = (0 : EReal) := by
    show (((0#32 : BitVec 32).toInt : ℝ) : EReal) = 0
    simp
  pointwise [padded]
  rw [z]

/-- A weight's row for every row. -/
def tap (w : FVec Ideal S5632 .f32) : FVec Ideal S4x8192x5632 .f32 :=
  broadcastInDim S4x8192x5632 ![0, 1, 2] bcast_S1x1x5632_S4x8192x5632_0_1_2 (broadcastInDim S1x1x5632 ![2] bcast_S5632_S1x1x5632_2 w)

/-- The three rows' convolution. -/
def convolved (Q : FVec Ideal S4x8194x5632 .f32) (w : FVec Ideal S3x5632 .f32) (cb : FVec Ideal S5632 .f32) : FVec Ideal S4x8192x5632 .f32 :=
  addf (addf (addf
      (mulf (extractStridedSlice S4x8192x5632 ![0, 0, 0] Q slices_S4x8194x5632_S4x8192x5632_0_0_0) (tap (shapeCast _ (extractStridedSlice S1x5632 ![0, 0] w slices_S3x5632_S1x5632_0_0) shapeCasts_S1x5632_S5632)))
      (mulf (extractStridedSlice S4x8192x5632 ![0, 1, 0] Q slices_S4x8194x5632_S4x8192x5632_0_1_0) (tap (shapeCast _ (extractStridedSlice S1x5632 ![1, 0] w slices_S3x5632_S1x5632_1_0) shapeCasts_S1x5632_S5632))))
      (mulf (extractStridedSlice S4x8192x5632 ![0, 2, 0] Q slices_S4x8194x5632_S4x8192x5632_0_2_0) (tap (shapeCast _ (extractStridedSlice S1x5632 ![2, 0] w slices_S3x5632_S1x5632_2_0) shapeCasts_S1x5632_S5632))))
    (tap cb)

theorem convolved_at (Q : FVec Ideal S4x8194x5632 .f32) (w : FVec Ideal S3x5632 .f32) (cb : FVec Ideal S5632 .f32) (b : Fin 4) (t : Fin 8192) (n : Fin 5632) :
    convolved Q w cb (ix3 b t n) = conv (Q (ix3 b ⟨t.val, by omega⟩ n)) (Q (ix3 b ⟨1 + t.val, by omega⟩ n)) (Q (ix3 b ⟨2 + t.val, by omega⟩ n))
      (w (ix2 0 n)) (w (ix2 1 n)) (w (ix2 2 n)) (cb (ix1 n)) := by
  pointwise [convolved, tap, conv]

/-- The gated product's projection. -/
def down (U : FVec Ideal S4x8192x5632 .f32) (w : FVec Ideal S2816x1024 .f32) : FVec Ideal S4x8192x1024 .f32 :=
  Host.dotGeneral dot_S4x8192x2816_S2816x1024_S4x8192x1024_2_0_01_1_n_n none (mulf (mulf (extractStridedSlice S4x8192x2816 ![0, 0, 0] U slices_S4x8192x5632_S4x8192x2816_0_0_0)
      (Host.divf (broadcastInDim S4x8192x2816 ![] bcast_S_S4x8192x2816 (constant S_ .f32 0x3F800000#32)) (addf (broadcastInDim S4x8192x2816 ![] bcast_S_S4x8192x2816 (constant S_ .f32 0x3F800000#32))
        (Host.exp (Host.negf (extractStridedSlice S4x8192x2816 ![0, 0, 0] U slices_S4x8192x5632_S4x8192x2816_0_0_0))))))
    (extractStridedSlice S4x8192x2816 ![0, 0, 2816] U slices_S4x8192x5632_S4x8192x2816_0_0_2816)) w

theorem down_at (U : FVec Ideal S4x8192x5632 .f32) (w : FVec Ideal S2816x1024 .f32) (b : Fin 4) (t : Fin 8192) (o : Fin 1024) :
    down U w (ix3 b t o) = ∑ n : Fin 2816, gated (U (ix3 b t ⟨n.val, by omega⟩)) (U (ix3 b t ⟨2816 + n.val, by omega⟩)) * w (ix2 n o) := by
  pointwise [down, gated, Ideal.logistic]

/-- The rows plus the gated normed rows. -/
def added (X N : FVec Ideal S4x8192x1024 .f32) (gate : FVec Ideal S4x1x1024 .f32) : FVec Ideal S4x8192x1024 .f32 :=
  addf X (mulf (broadcastInDim S4x8192x1024 ![0, 1, 2] bcast_S4x1x1024_S4x8192x1024_0_1_2 gate) N)

theorem added_at (X F : FVec Ideal S4x8192x1024 .f32) (g : FVec Ideal S1024 .f32) (gate : FVec Ideal S4x1x1024 .f32) (b : Fin 4) (t : Fin 8192) (o : Fin 1024) :
    added X (normed F g) gate (ix3 b t o)
      = plusGated (fun j => X (ix3 b t j)) (fun j => F (ix3 b t j)) (fun j => g (ix1 j)) (fun j => gate (ix3 b 0 j)) o := by
  pointwise [added, plusGated, normed_at]

/-- The reference's result is made of these. -/
theorem res_eq (m : (ℓ : Loc nD τ sig) → Buf (Elt Ideal) ℓ) (c : Dev nD) :
    Value.res_main_v64 m c = added (m ((c.tc : Thread nD τ).loc main_arg0))
      (normed (down (convolved (padded (projected (normed (m ((c.tc : Thread nD τ).loc main_arg0)) (m ((c.tc : Thread nD τ).loc main_arg4)))
          (m ((c.tc : Thread nD τ).loc main_arg2)) (m ((c.tc : Thread nD τ).loc main_arg1)) (m ((c.tc : Thread nD τ).loc main_arg6))))
        (m ((c.tc : Thread nD τ).loc main_arg7)) (m ((c.tc : Thread nD τ).loc main_arg8))) (m ((c.tc : Thread nD τ).loc main_arg9)))
        (m ((c.tc : Thread nD τ).loc main_arg5)))
      (m ((c.tc : Thread nD τ).loc main_arg3)) := rfl

/-- A column of the convolution at a row. -/
theorem column_at (X : FVec Ideal S4x8192x1024 .f32) (g : FVec Ideal S1024 .f32) (scale shift : FVec Ideal S4x1x1024 .f32) (w : FVec Ideal S1024x5632 .f32)
    (cw : FVec Ideal S3x5632 .f32) (cb : FVec Ideal S5632 .f32) (b : Fin 4) (t : Fin 8192) (n : Fin 5632) :
    convolved (padded (projected (normed X g) scale shift w)) cw cb (ix3 b t n)
      = column (fun u j => X (ix3 b u j)) (fun j => g (ix1 j)) (fun j => scale (ix3 b 0 j)) (fun j => shift (ix3 b 0 j)) (fun k => w (ix2 k n))
        (cw (ix2 0 n)) (cw (ix2 1 n)) (cw (ix2 2 n)) (cb (ix1 n)) t := by
  have ht := t.isLt
  rw [convolved_at, padded_at, padded_at, padded_at]
  unfold column
  congr 1
  · by_cases h : 0 < t.val
    · rw [dif_pos ⟨h, by show t.val - 1 < 8192; omega⟩, if_pos h, projected_at]
    · rw [dif_neg fun h' => h h'.1, if_neg h]
  · rw [dif_pos ⟨by show 1 ≤ 1 + t.val; omega, by show 1 + t.val - 1 < 8192; omega⟩, projected_at]
    have e : (⟨1 + t.val - 1, by omega⟩ : Fin 8192) = t := Fin.ext (by show 1 + t.val - 1 = t.val; omega)
    simp only [e]
  · by_cases h : t.val + 1 < 8192
    · rw [dif_pos ⟨by show 1 ≤ 2 + t.val; omega, by show 2 + t.val - 1 < 8192; omega⟩, dif_pos h, projected_at]
      have e : (⟨2 + t.val - 1, by omega⟩ : Fin 8192) = ⟨t.val + 1, h⟩ := Fin.ext (by show 2 + t.val - 1 = t.val + 1; omega)
      simp only [e]
    · rw [dif_neg fun h' => h (by have := h'.2; change 2 + t.val - 1 < 8192 at this; omega), dif_neg h]

/-- The reference's result at an index. -/
theorem res_at (m : (ℓ : Loc nD τ sig) → Buf (Elt Ideal) ℓ) (c : Dev nD) (b : Fin 4) (t : Fin 8192) (o : Fin 1024) :
    (Value.res_main_v64 m c : FVec Ideal S4x8192x1024 .f32) (ix3 b t o) = feedForward
      (fun u j => (m ((c.tc : Thread nD τ).loc main_arg0) : FVec Ideal S4x8192x1024 .f32) (ix3 b u j))
      (fun j => (m ((c.tc : Thread nD τ).loc main_arg1) : FVec Ideal S4x1x1024 .f32) (ix3 b 0 j))
      (fun j => (m ((c.tc : Thread nD τ).loc main_arg2) : FVec Ideal S4x1x1024 .f32) (ix3 b 0 j))
      (fun j => (m ((c.tc : Thread nD τ).loc main_arg3) : FVec Ideal S4x1x1024 .f32) (ix3 b 0 j))
      (fun j => (m ((c.tc : Thread nD τ).loc main_arg4) : FVec Ideal S1024 .f32) (ix1 j))
      (fun j => (m ((c.tc : Thread nD τ).loc main_arg5) : FVec Ideal S1024 .f32) (ix1 j))
      (fun k n => (m ((c.tc : Thread nD τ).loc main_arg6) : FVec Ideal S1024x5632 .f32) (ix2 k n))
      (fun r n => (m ((c.tc : Thread nD τ).loc main_arg7) : FVec Ideal S3x5632 .f32) (ix2 r n))
      (fun n => (m ((c.tc : Thread nD τ).loc main_arg8) : FVec Ideal S5632 .f32) (ix1 n))
      (fun n o => (m ((c.tc : Thread nD τ).loc main_arg9) : FVec Ideal S2816x1024 .f32) (ix2 n o)) t o := by
  rw [res_eq, added_at]
  simp only [down_at, column_at]
  rfl

end Cert.Reference2Ideal.At

end
-- ==== Proof.FfnValue.lean ====
/- The feed-forward kernel's result array is the reference's. -/
module

public import proofs.«01_k».proof.Proof.Gen.Kernel2Ideal.Value
public import proofs.«01_k».proof.Proof.FfnBlock
public import proofs.«01_k».proof.Proof.FfnRef
public import Idealize.ShloMosaic.Lib.Pipeline.ValueKit
public import Idealize.ShloMosaic.Lib.WholeRead

@[expose] public section

set_option maxRecDepth 16384

noncomputable section

namespace Cert.Kernel2Ideal.Block

open Idealize.ShloMosaic Idealize.ShloMosaic.TcCoe Idealize.SL.Sem
open Cert.Kernel2Ideal Cert.Kernel2Ideal.Gen Cert.Ffn

variable (m : (ℓ : Loc nD τ sig) → Buf (Elt Ideal) ℓ) (c : Dev nD)

/-- The windows' block indices: batch and run of rows; eight rows before and after. -/
theorem idx : ∀ t : Fin cfg0.N, t.val < 64 ∧ ((grid0.coords t) 1).val = t.val % 16 ∧ win0_0.index t = ![t.val / 16, t.val % 16, 0]
    ∧ win0_1.index t = ![t.val / 16, t.val % 16 * 64 - 1, 0] ∧ win0_2.index t = ![t.val / 16, min ((t.val % 16 + 1) * 64) 1023, 0]
    ∧ win0_3.index t = ![t.val / 16, 0, 0] ∧ win0_4.index t = ![t.val / 16, 0, 0] ∧ win0_5.index t = ![t.val / 16, 0, 0]
    ∧ win0_6.index t = ![0, 0] ∧ win0_7.index t = ![0, 0] ∧ win0_8.index t = ![0, 0] ∧ win0_9.index t = ![0, 0] ∧ win0_10.index t = ![0, 0] ∧ win0_11.index t = ![0, 0]
    ∧ win0_12.index t = ![t.val / 16, t.val % 16, 0] :=
  (by decide +kernel : ∀ t : Fin grid0.N, _)

/-- Where a loaded row of the convolution weights sits. -/
theorem at_0 (n : Fin 2816) :
    ((Rect.unit (s := S3x5632) ![0, 0] ![3, 2816] inb_S3x5632_S3x2816_0_0).withinL (Rect.unit (s := S3x2816) ![0, 0] ![1, 2816] inb_S3x2816_S1x2816_0_0).toLoadRect (fun _ => rfl)).idx
      (ix2 (0 : Fin 1) n) = (ix2 0 ⟨n.val, by omega⟩ : S3x5632.Idx) :=
  funext fun a => Fin.ext (by
    match a with
    | ⟨0, _⟩ => rfl
    | ⟨1, _⟩ => show 0 + 0 + 1 * n.val = n.val; omega)
theorem at_1 (n : Fin 2816) :
    ((Rect.unit (s := S3x5632) ![0, 0] ![3, 2816] inb_S3x5632_S3x2816_0_0).withinL (Rect.unit (s := S3x2816) ![1, 0] ![1, 2816] inb_S3x2816_S1x2816_1_0).toLoadRect (fun _ => rfl)).idx
      (ix2 (0 : Fin 1) n) = (ix2 1 ⟨n.val, by omega⟩ : S3x5632.Idx) :=
  funext fun a => Fin.ext (by
    match a with
    | ⟨0, _⟩ => rfl
    | ⟨1, _⟩ => show 0 + 0 + 1 * n.val = n.val; omega)
theorem at_2 (n : Fin 2816) :
    ((Rect.unit (s := S3x5632) ![0, 0] ![3, 2816] inb_S3x5632_S3x2816_0_0).withinL (Rect.unit (s := S3x2816) ![2, 0] ![1, 2816] inb_S3x2816_S1x2816_2_0).toLoadRect (fun _ => rfl)).idx
      (ix2 (0 : Fin 1) n) = (ix2 2 ⟨n.val, by omega⟩ : S3x5632.Idx) :=
  funext fun a => Fin.ext (by
    match a with
    | ⟨0, _⟩ => rfl
    | ⟨1, _⟩ => show 0 + 0 + 1 * n.val = n.val; omega)
theorem at_right_0 (n : Fin 2816) :
    ((Rect.unit (s := S3x5632) ![0, 2816] ![3, 2816] inb_S3x5632_S3x2816_0_2816).withinL (Rect.unit (s := S3x2816) ![0, 0] ![1, 2816] inb_S3x2816_S1x2816_0_0).toLoadRect (fun _ => rfl)).idx
      (ix2 (0 : Fin 1) n) = (ix2 0 ⟨2816 + n.val, by omega⟩ : S3x5632.Idx) :=
  funext fun a => Fin.ext (by
    match a with
    | ⟨0, _⟩ => rfl
    | ⟨1, _⟩ => show 2816 + 0 + 1 * n.val = 2816 + n.val; omega)
theorem at_right_1 (n : Fin 2816) :
    ((Rect.unit (s := S3x5632) ![0, 2816] ![3, 2816] inb_S3x5632_S3x2816_0_2816).withinL (Rect.unit (s := S3x2816) ![1, 0] ![1, 2816] inb_S3x2816_S1x2816_1_0).toLoadRect (fun _ => rfl)).idx
      (ix2 (0 : Fin 1) n) = (ix2 1 ⟨2816 + n.val, by omega⟩ : S3x5632.Idx) :=
  funext fun a => Fin.ext (by
    match a with
    | ⟨0, _⟩ => rfl
    | ⟨1, _⟩ => show 2816 + 0 + 1 * n.val = 2816 + n.val; omega)
theorem at_right_2 (n : Fin 2816) :
    ((Rect.unit (s := S3x5632) ![0, 2816] ![3, 2816] inb_S3x5632_S3x2816_0_2816).withinL (Rect.unit (s := S3x2816) ![2, 0] ![1, 2816] inb_S3x2816_S1x2816_2_0).toLoadRect (fun _ => rfl)).idx
      (ix2 (0 : Fin 1) n) = (ix2 2 ⟨2816 + n.val, by omega⟩ : S3x5632.Idx) :=
  funext fun a => Fin.ext (by
    match a with
    | ⟨0, _⟩ => rfl
    | ⟨1, _⟩ => show 2816 + 0 + 1 * n.val = 2816 + n.val; omega)

theorem load_at {M : Memref sig .tc .vmem S3x5632 .f32} (hM : M.IsWhole) (X : Vec Ideal S3x5632 .f32) (B : LoadRect S3x5632) (y : B.shape.Idx) (z : S3x5632.Idx) (h : B.idx y = z) :
    View.readAt (Elt Ideal) M.view B (hM.unread X) y = X z :=
  (Memref.IsWhole.readAt_unread hM X B y).trans (congrArg X h)

set_option maxHeartbeats 1000000 in
/-- What the body writes at a row and lane, from blocks of the arrays. -/
theorem body_out (g : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x512x1024 .f32) (harg14 : arg14.IsWhole)
    (x0 : Vec Ideal S1x512x1024 .f32) (x1 : Vec Ideal S1x8x1024 .f32) (x2 : Vec Ideal S1x8x1024 .f32) (x3 : Vec Ideal S1x1x1024 .f32) (x4 : Vec Ideal S1x1x1024 .f32) (x5 : Vec Ideal S1x1x1024 .f32) (x6 : Vec Ideal S1x1024 .f32) (x7 : Vec Ideal S1x1024 .f32) (x8 : Vec Ideal S1024x5632 .bf16) (x9 : Vec Ideal S3x5632 .f32) (x10 : Vec Ideal S1x5632 .f32) (x11 : Vec Ideal S2816x1024 .bf16)
    (q : Fin 16) (hg : (g 1).val = q.val) (X : Fin 8192 → Fin 1024 → EReal) (i : Fin 512) (o : Fin 1024) (t : Fin 8192) (ht : t.val = 512 * q.val + i.val)
    (hx : ∀ (i : Fin 512) (t : Fin 8192), t.val = 512 * q.val + i.val → ∀ j, x0 (ix3 0 i j) = X t j)
    (hp : ∀ t : Fin 8192, t.val + 1 = 512 * q.val → ∀ j, x1 (ix3 0 (7 : Fin 8) j) = X t j)
    (hn : ∀ t : Fin 8192, t.val = 512 * q.val + 512 → ∀ j, x2 (ix3 0 (0 : Fin 8) j) = X t j) :
    out0_A_12 (F := Ideal) c g arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 (ix3 0 i o)
      = feedForward X (fun j => x3 (ix3 0 0 j)) (fun j => x4 (ix3 0 0 j)) (fun j => x5 (ix3 0 0 j)) (fun j => x6 (ix2 0 j)) (fun j => x7 (ix2 0 j))
        (fun k n => x8 (ix2 k n)) (fun r n => x9 (ix2 r n)) (fun n => x10 (ix2 0 n)) (fun n o => x11 (ix2 n o)) t o := by
  frame_out
  exact block_out _ q (congrArg (BitVec.ofNat 32) hg) X x6 x7 x3 x4 x5 x0 x1 x2 _ _ (fun k n => x8 (ix2 k n)) _ _ _ _ _ _
    (fun r n => x9 (ix2 r n)) _ _ (fun n => x10 (ix2 0 n)) x11 i o t ht hx hp hn
    (fun k n => up_left x8 k n) (fun k n => up_right x8 k n) (fun n => bias_left x10 n) (fun n => bias_right x10 n)
    (fun n => load_at harg11 x9 _ _ _ (at_0 n))
    (fun n => load_at harg11 x9 _ _ _ (at_1 n))
    (fun n => load_at harg11 x9 _ _ _ (at_2 n))
    (fun n => load_at harg11 x9 _ _ _ (at_right_0 n))
    (fun n => load_at harg11 x9 _ _ _ (at_right_1 n))
    (fun n => load_at harg11 x9 _ _ _ (at_right_2 n))

/-- A block read from its array. -/
theorem read_here (X : Vec Ideal S4x8192x1024 .f32) (t : Fin cfg0.N) (i : Fin 512) (j : Fin 1024) (b : Fin 4) (r : Fin 8192) (hb : b.val = t.val / 16) (hr : r.val = 512 * (t.val % 16) + i.val) :
    ((cfg0.win 0).blk t).view.read (Elt Ideal) X (ix3 0 i j) = X (ix3 b r j) :=
  congrArg X (by blk_ext [idx t] : ((cfg0.win 0).blk t).view.emb (ix3 0 i j) = (ix3 b r j : S4x8192x1024.Idx))
theorem read_before (X : Vec Ideal S4x8192x1024 .f32) (t : Fin cfg0.N) (j : Fin 1024) (b : Fin 4) (r : Fin 8192) (hb : b.val = t.val / 16) (hr : r.val + 1 = 512 * (t.val % 16)) :
    ((cfg0.win 1).blk t).view.read (Elt Ideal) X (ix3 0 (7 : Fin 8) j) = X (ix3 b r j) :=
  congrArg X (by blk_ext [idx t] : ((cfg0.win 1).blk t).view.emb (ix3 0 (7 : Fin 8) j) = (ix3 b r j : S4x8192x1024.Idx))
theorem read_after (X : Vec Ideal S4x8192x1024 .f32) (t : Fin cfg0.N) (j : Fin 1024) (b : Fin 4) (r : Fin 8192) (hb : b.val = t.val / 16) (hr : r.val = 512 * (t.val % 16) + 512) :
    ((cfg0.win 2).blk t).view.read (Elt Ideal) X (ix3 0 (0 : Fin 8) j) = X (ix3 b r j) :=
  congrArg X (by blk_ext [idx t] : ((cfg0.win 2).blk t).view.emb (ix3 0 (0 : Fin 8) j) = (ix3 b r j : S4x8192x1024.Idx))
theorem read_shift (X : Vec Ideal S4x1x1024 .f32) (t : Fin cfg0.N) (j : Fin 1024) (b : Fin 4) (hb : b.val = t.val / 16) :
    ((cfg0.win 3).blk t).view.read (Elt Ideal) X (ix3 0 0 j) = X (ix3 b 0 j) :=
  congrArg X (by blk_ext [idx t] : ((cfg0.win 3).blk t).view.emb (ix3 0 0 j) = (ix3 b 0 j : S4x1x1024.Idx))
theorem read_scale (X : Vec Ideal S4x1x1024 .f32) (t : Fin cfg0.N) (j : Fin 1024) (b : Fin 4) (hb : b.val = t.val / 16) :
    ((cfg0.win 4).blk t).view.read (Elt Ideal) X (ix3 0 0 j) = X (ix3 b 0 j) :=
  congrArg X (by blk_ext [idx t] : ((cfg0.win 4).blk t).view.emb (ix3 0 0 j) = (ix3 b 0 j : S4x1x1024.Idx))
theorem read_gate (X : Vec Ideal S4x1x1024 .f32) (t : Fin cfg0.N) (j : Fin 1024) (b : Fin 4) (hb : b.val = t.val / 16) :
    ((cfg0.win 5).blk t).view.read (Elt Ideal) X (ix3 0 0 j) = X (ix3 b 0 j) :=
  congrArg X (by blk_ext [idx t] : ((cfg0.win 5).blk t).view.emb (ix3 0 0 j) = (ix3 b 0 j : S4x1x1024.Idx))
theorem read_normIn (X : Vec Ideal S1x1024 .f32) (t : Fin cfg0.N) (j : Fin 1024)  :
    ((cfg0.win 6).blk t).view.read (Elt Ideal) X (ix2 0 j) = X (ix2 0 j) :=
  congrArg X (by blk_ext [idx t] : ((cfg0.win 6).blk t).view.emb (ix2 0 j) = (ix2 0 j : S1x1024.Idx))
theorem read_normOut (X : Vec Ideal S1x1024 .f32) (t : Fin cfg0.N) (j : Fin 1024)  :
    ((cfg0.win 7).blk t).view.read (Elt Ideal) X (ix2 0 j) = X (ix2 0 j) :=
  congrArg X (by blk_ext [idx t] : ((cfg0.win 7).blk t).view.emb (ix2 0 j) = (ix2 0 j : S1x1024.Idx))
theorem read_wUp (X : Vec Ideal S1024x5632 .bf16) (t : Fin cfg0.N) (k : Fin 1024) (n : Fin 5632)  :
    ((cfg0.win 8).blk t).view.read (Elt Ideal) X (ix2 k n) = X (ix2 k n) :=
  congrArg X (by blk_ext [idx t] : ((cfg0.win 8).blk t).view.emb (ix2 k n) = (ix2 k n : S1024x5632.Idx))
theorem read_cw (X : Vec Ideal S3x5632 .f32) (t : Fin cfg0.N) (k : Fin 3) (n : Fin 5632)  :
    ((cfg0.win 9).blk t).view.read (Elt Ideal) X (ix2 k n) = X (ix2 k n) :=
  congrArg X (by blk_ext [idx t] : ((cfg0.win 9).blk t).view.emb (ix2 k n) = (ix2 k n : S3x5632.Idx))
theorem read_cb (X : Vec Ideal S1x5632 .f32) (t : Fin cfg0.N) (n : Fin 5632)  :
    ((cfg0.win 10).blk t).view.read (Elt Ideal) X (ix2 0 n) = X (ix2 0 n) :=
  congrArg X (by blk_ext [idx t] : ((cfg0.win 10).blk t).view.emb (ix2 0 n) = (ix2 0 n : S1x5632.Idx))
theorem read_wDown (X : Vec Ideal S2816x1024 .bf16) (t : Fin cfg0.N) (k : Fin 2816) (n : Fin 1024)  :
    ((cfg0.win 11).blk t).view.read (Elt Ideal) X (ix2 k n) = X (ix2 k n) :=
  congrArg X (by blk_ext [idx t] : ((cfg0.win 11).blk t).view.emb (ix2 k n) = (ix2 k n : S2816x1024.Idx))
theorem emb_out (t : Fin cfg0.N) (i : Fin 512) (j : Fin 1024) (b : Fin 4) (r : Fin 8192) (hb : b.val = t.val / 16) (hr : r.val = 512 * (t.val % 16) + i.val) :
    ((cfg0.win 12).blk t).view.emb (ix3 0 i j) = (ix3 b r j : S4x8192x1024.Idx) := by
  blk_ext [idx t]

/-- The operands, laid out from the arguments. -/
theorem normIn_at (j : Fin 1024) : (V m c main_v0 : Vec Ideal S1x1024 .f32) (ix2 0 j) = (m ((c.tc : Thread nD τ).loc main_arg4) : Vec Ideal S1024 .f32) (ix1 j) := by
  entry_read
  pointwise
theorem normOut_at (j : Fin 1024) : (V m c main_v1 : Vec Ideal S1x1024 .f32) (ix2 0 j) = (m ((c.tc : Thread nD τ).loc main_arg5) : Vec Ideal S1024 .f32) (ix1 j) := by
  entry_read
  pointwise
theorem wUp_at (k : Fin 1024) (n : Fin 5632) : (V m c main_v2 : Vec Ideal S1024x5632 .bf16) (ix2 k n) = (m ((c.tc : Thread nD τ).loc main_arg6) : Vec Ideal S1024x5632 .f32) (ix2 k n) := by
  entry_read
  pointwise
theorem cb_at (n : Fin 5632) : (V m c main_v3 : Vec Ideal S1x5632 .f32) (ix2 0 n) = (m ((c.tc : Thread nD τ).loc main_arg8) : Vec Ideal S5632 .f32) (ix1 n) := by
  entry_read
  pointwise
theorem wDown_at (k : Fin 2816) (n : Fin 1024) : (V m c main_v4 : Vec Ideal S2816x1024 .bf16) (ix2 k n) = (m ((c.tc : Thread nD τ).loc main_arg9) : Vec Ideal S2816x1024 .f32) (ix2 k n) := by
  entry_read
  pointwise

/-- The staged blocks read from the arguments. -/
theorem staged_here (t : Fin cfg0.N) (i : Fin 512) (j : Fin 1024) (b : Fin 4) (r : Fin 8192) (hb : b.val = t.val / 16) (hr : r.val = 512 * (t.val % 16) + i.val) :
    (iblk m c 0 t : Vec Ideal S1x512x1024 .f32) (ix3 0 i j) = (m ((c.tc : Thread nD τ).loc main_arg0) : Vec Ideal S4x8192x1024 .f32) (ix3 b r j) := by
  unfold iblk
  refine (read_here (V m c (Pipeline.arrRef spec0 0)) t i j b r hb hr).trans ?_
  exact congrFun (V_main_arg0 m c) _
theorem staged_before (t : Fin cfg0.N) (j : Fin 1024) (b : Fin 4) (r : Fin 8192) (hb : b.val = t.val / 16) (hr : r.val + 1 = 512 * (t.val % 16)) :
    (iblk m c 1 t : Vec Ideal S1x8x1024 .f32) (ix3 0 (7 : Fin 8) j) = (m ((c.tc : Thread nD τ).loc main_arg0) : Vec Ideal S4x8192x1024 .f32) (ix3 b r j) := by
  unfold iblk
  refine (read_before (V m c (Pipeline.arrRef spec0 1)) t j b r hb hr).trans ?_
  exact congrFun (V_main_arg0 m c) _
theorem staged_after (t : Fin cfg0.N) (j : Fin 1024) (b : Fin 4) (r : Fin 8192) (hb : b.val = t.val / 16) (hr : r.val = 512 * (t.val % 16) + 512) :
    (iblk m c 2 t : Vec Ideal S1x8x1024 .f32) (ix3 0 (0 : Fin 8) j) = (m ((c.tc : Thread nD τ).loc main_arg0) : Vec Ideal S4x8192x1024 .f32) (ix3 b r j) := by
  unfold iblk
  refine (read_after (V m c (Pipeline.arrRef spec0 2)) t j b r hb hr).trans ?_
  exact congrFun (V_main_arg0 m c) _
theorem staged_shift (t : Fin cfg0.N) (j : Fin 1024) (b : Fin 4) (hb : b.val = t.val / 16) :
    (iblk m c 3 t : Vec Ideal S1x1x1024 .f32) (ix3 0 0 j) = (m ((c.tc : Thread nD τ).loc main_arg1) : Vec Ideal S4x1x1024 .f32) (ix3 b 0 j) := by
  unfold iblk
  refine (read_shift (V m c (Pipeline.arrRef spec0 3)) t j b hb).trans ?_
  exact congrFun (V_main_arg1 m c) _
theorem staged_scale (t : Fin cfg0.N) (j : Fin 1024) (b : Fin 4) (hb : b.val = t.val / 16) :
    (iblk m c 4 t : Vec Ideal S1x1x1024 .f32) (ix3 0 0 j) = (m ((c.tc : Thread nD τ).loc main_arg2) : Vec Ideal S4x1x1024 .f32) (ix3 b 0 j) := by
  unfold iblk
  refine (read_scale (V m c (Pipeline.arrRef spec0 4)) t j b hb).trans ?_
  exact congrFun (V_main_arg2 m c) _
theorem staged_gate (t : Fin cfg0.N) (j : Fin 1024) (b : Fin 4) (hb : b.val = t.val / 16) :
    (iblk m c 5 t : Vec Ideal S1x1x1024 .f32) (ix3 0 0 j) = (m ((c.tc : Thread nD τ).loc main_arg3) : Vec Ideal S4x1x1024 .f32) (ix3 b 0 j) := by
  unfold iblk
  refine (read_gate (V m c (Pipeline.arrRef spec0 5)) t j b hb).trans ?_
  exact congrFun (V_main_arg3 m c) _
theorem staged_normIn (t : Fin cfg0.N) (j : Fin 1024)  :
    (iblk m c 6 t : Vec Ideal S1x1024 .f32) (ix2 0 j) = (m ((c.tc : Thread nD τ).loc main_arg4) : Vec Ideal S1024 .f32) (ix1 j) := by
  unfold iblk
  refine (read_normIn (V m c (Pipeline.arrRef spec0 6)) t j).trans ?_
  exact normIn_at m c j
theorem staged_normOut (t : Fin cfg0.N) (j : Fin 1024)  :
    (iblk m c 7 t : Vec Ideal S1x1024 .f32) (ix2 0 j) = (m ((c.tc : Thread nD τ).loc main_arg5) : Vec Ideal S1024 .f32) (ix1 j) := by
  unfold iblk
  refine (read_normOut (V m c (Pipeline.arrRef spec0 7)) t j).trans ?_
  exact normOut_at m c j
theorem staged_wUp (t : Fin cfg0.N) (k : Fin 1024) (n : Fin 5632)  :
    (iblk m c 8 t : Vec Ideal S1024x5632 .bf16) (ix2 k n) = (m ((c.tc : Thread nD τ).loc main_arg6) : Vec Ideal S1024x5632 .f32) (ix2 k n) := by
  unfold iblk
  refine (read_wUp (V m c (Pipeline.arrRef spec0 8)) t k n).trans ?_
  exact wUp_at m c k n
theorem staged_cw (t : Fin cfg0.N) (k : Fin 3) (n : Fin 5632)  :
    (iblk m c 9 t : Vec Ideal S3x5632 .f32) (ix2 k n) = (m ((c.tc : Thread nD τ).loc main_arg7) : Vec Ideal S3x5632 .f32) (ix2 k n) := by
  unfold iblk
  refine (read_cw (V m c (Pipeline.arrRef spec0 9)) t k n).trans ?_
  exact congrFun (V_main_arg7 m c) _
theorem staged_cb (t : Fin cfg0.N) (n : Fin 5632)  :
    (iblk m c 10 t : Vec Ideal S1x5632 .f32) (ix2 0 n) = (m ((c.tc : Thread nD τ).loc main_arg8) : Vec Ideal S5632 .f32) (ix1 n) := by
  unfold iblk
  refine (read_cb (V m c (Pipeline.arrRef spec0 10)) t n).trans ?_
  exact cb_at m c n
theorem staged_wDown (t : Fin cfg0.N) (k : Fin 2816) (n : Fin 1024)  :
    (iblk m c 11 t : Vec Ideal S2816x1024 .bf16) (ix2 k n) = (m ((c.tc : Thread nD τ).loc main_arg9) : Vec Ideal S2816x1024 .f32) (ix2 k n) := by
  unfold iblk
  refine (read_wDown (V m c (Pipeline.arrRef spec0 11)) t k n).trans ?_
  exact wDown_at m c k n

variable (m' : (ℓ : Loc Cert.Reference2Ideal.nD Cert.Reference2Ideal.τ Cert.Reference2Ideal.sig) → Buf (Elt Ideal) ℓ)

/-- The reference's arguments are the kernel's. -/
structure Agree : Prop where
  h0 : (m' ((c.tc : Thread Cert.Reference2Ideal.nD Cert.Reference2Ideal.τ).loc Cert.Reference2Ideal.main_arg0) : FVec Ideal S4x8192x1024 .f32) = m ((c.tc : Thread nD τ).loc main_arg0)
  h1 : (m' ((c.tc : Thread Cert.Reference2Ideal.nD Cert.Reference2Ideal.τ).loc Cert.Reference2Ideal.main_arg1) : FVec Ideal S4x1x1024 .f32) = m ((c.tc : Thread nD τ).loc main_arg1)
  h2 : (m' ((c.tc : Thread Cert.Reference2Ideal.nD Cert.Reference2Ideal.τ).loc Cert.Reference2Ideal.main_arg2) : FVec Ideal S4x1x1024 .f32) = m ((c.tc : Thread nD τ).loc main_arg2)
  h3 : (m' ((c.tc : Thread Cert.Reference2Ideal.nD Cert.Reference2Ideal.τ).loc Cert.Reference2Ideal.main_arg3) : FVec Ideal S4x1x1024 .f32) = m ((c.tc : Thread nD τ).loc main_arg3)
  h4 : (m' ((c.tc : Thread Cert.Reference2Ideal.nD Cert.Reference2Ideal.τ).loc Cert.Reference2Ideal.main_arg4) : FVec Ideal S1024 .f32) = m ((c.tc : Thread nD τ).loc main_arg4)
  h5 : (m' ((c.tc : Thread Cert.Reference2Ideal.nD Cert.Reference2Ideal.τ).loc Cert.Reference2Ideal.main_arg5) : FVec Ideal S1024 .f32) = m ((c.tc : Thread nD τ).loc main_arg5)
  h6 : (m' ((c.tc : Thread Cert.Reference2Ideal.nD Cert.Reference2Ideal.τ).loc Cert.Reference2Ideal.main_arg6) : FVec Ideal S1024x5632 .f32) = m ((c.tc : Thread nD τ).loc main_arg6)
  h7 : (m' ((c.tc : Thread Cert.Reference2Ideal.nD Cert.Reference2Ideal.τ).loc Cert.Reference2Ideal.main_arg7) : FVec Ideal S3x5632 .f32) = m ((c.tc : Thread nD τ).loc main_arg7)
  h8 : (m' ((c.tc : Thread Cert.Reference2Ideal.nD Cert.Reference2Ideal.τ).loc Cert.Reference2Ideal.main_arg8) : FVec Ideal S5632 .f32) = m ((c.tc : Thread nD τ).loc main_arg8)
  h9 : (m' ((c.tc : Thread Cert.Reference2Ideal.nD Cert.Reference2Ideal.τ).loc Cert.Reference2Ideal.main_arg9) : FVec Ideal S2816x1024 .f32) = m ((c.tc : Thread nD τ).loc main_arg9)

set_option maxHeartbeats 1000000 in
/-- At every point, what the body writes at a row and lane is the reference's result there. -/
theorem point (A : Agree m c m') (t : Fin cfg0.N) (i : Fin 512) (o : Fin 1024) (b : Fin 4) (r : Fin 8192) (hb : b.val = t.val / 16) (hr : r.val = 512 * (t.val % 16) + i.val) :
    outsAt0 m c t (ix3 0 i o) = (Cert.Reference2Ideal.Value.res_main_v64 m' c : FVec Ideal S4x8192x1024 .f32) (ix3 b r o) := by
  obtain ⟨h0, h1, h2, h3, h4, h5, h6, h7, h8, h9⟩ := A
  have hq : t.val % 16 < 16 := Nat.mod_lt _ (by decide)
  unfold outsAt0
  refine (body_out c (grid0.coords t) _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    ⟨t.val % 16, hq⟩ (idx t).2.1 (fun u j => (m ((c.tc : Thread nD τ).loc main_arg0) : Vec Ideal S4x8192x1024 .f32) (ix3 b u j)) i o r hr
    (fun i u hu j => staged_here m c t i j b u hb hu) (fun u hu j => staged_before m c t j b u hb hu) (fun u hu j => staged_after m c t j b u hb hu)).trans ?_
  rw [Cert.Reference2Ideal.At.res_at]
  have e1 := funext fun j => staged_shift m c t j b hb
  have e2 := funext fun j => staged_scale m c t j b hb
  have e3 := funext fun j => staged_gate m c t j b hb
  have e4 := funext fun j => staged_normIn m c t j
  have e5 := funext fun j => staged_normOut m c t j
  have e6 := funext fun k => funext fun n => staged_wUp m c t k n
  have e7 := funext fun k => funext fun n => staged_cw m c t k n
  have e8 := funext fun n => staged_cb m c t n
  have e9 := funext fun k => funext fun n => staged_wDown m c t k n
  rw [e1, e2, e3, e4, e5, e6, e7, e8, e9, h0, h1, h2, h3, h4, h5, h6, h7, h8, h9]

/-- The kernel's result array is the reference's. -/
theorem final (A : Agree m c m') : (dats m 0 c).arrAt 12 cfg0.N = (Cert.Reference2Ideal.Value.res_main_v64 m' c : FVec Ideal S4x8192x1024 .f32) := by
  refine (dats m 0 c).arrAt_eq_of_covers 12 _ (by decide +kernel) fun t _ y => ?_
  have ht := (idx t).1
  blk_simp
  rw [after0_12]
  have h0 : (y 0).val < 1 := (y 0).isLt
  have h1 : (y 1).val < 512 := (y 1).isLt
  have h2 : (y 2).val < 1024 := (y 2).isLt
  have e : y = (ix3 0 (⟨(y 1).val, h1⟩ : Fin 512) (⟨(y 2).val, h2⟩ : Fin 1024) : S1x512x1024.Idx) := funext fun a => Fin.ext (by
    match a with
    | ⟨0, _⟩ => show (y 0).val = 0; omega
    | ⟨1, _⟩ => rfl
    | ⟨2, _⟩ => rfl)
  rw [e]
  exact (point m c m' A t _ _ ⟨t.val / 16, by omega⟩ ⟨512 * (t.val % 16) + (y 1).val, by omega⟩ rfl rfl).trans
    (congrArg (Cert.Reference2Ideal.Value.res_main_v64 m' c : FVec Ideal S4x8192x1024 .f32) (emb_out t _ _ _ _ rfl rfl).symm)

end Cert.Kernel2Ideal.Block

end
-- ==== Proof.MergeRow.lean ====
/- The merge of the three branches, a row in the extended reals. -/
module

public import proofs.«01_k».proof.Proof.FfnRow

@[expose] public section

noncomputable section

namespace Cert.Merge

open Idealize.ShloMosaic

/-- A branch's row, projected to a lane and gated. -/
def branch (s : EReal) (y w : Fin 512 → EReal) : EReal := s * ∑ k, y k * w k

/-- The three gated branches at a lane. -/
def merged (s : Fin 3072 → EReal) (ya yb yc : Fin 512 → EReal) (wb : Fin 3 → Fin 512 → Fin 1024 → EReal) (j : Fin 1024) : EReal :=
  branch (s ⟨j.val, by omega⟩) ya (fun k => wb 0 k j) + branch (s ⟨1024 + j.val, by omega⟩) yb (fun k => wb 1 k j)
    + branch (s ⟨2048 + j.val, by omega⟩) yc (fun k => wb 2 k j)

/-- The row plus the gated norm of the merged branches' projection. -/
def added (x gate norm : Fin 1024 → EReal) (ya yb yc : Fin 512 → EReal) (s : Fin 3072 → EReal) (wb : Fin 3 → Fin 512 → Fin 1024 → EReal)
    (wo : Fin 1024 → Fin 1024 → EReal) (o : Fin 1024) : EReal :=
  Ffn.plusGated x (fun o => ∑ j, merged s ya yb yc wb j * wo j o) norm gate o

end Cert.Merge

end
-- ==== Proof.MergeRef.lean ====
/- The merge reference's result read at an index. -/
module

public import proofs.«01_k».proof.Proof.Gen.Reference3Ideal.Run
public import proofs.«01_k».proof.Proof.MergeRow

@[expose] public section

set_option maxRecDepth 16384

noncomputable section

namespace Cert.Reference3Ideal.At

open Idealize.ShloMosaic Idealize.SL.Sem Idealize.ShloMosaic.TcCoe
open Cert.Reference3Ideal Cert.Reference3Ideal.Gen Cert.Merge

/-- The gates. -/
def gates (G : FVec Ideal S4x8192x3072 .f32) : FVec Ideal S4x8192x3072 .f32 :=
  Host.divf (broadcastInDim S4x8192x3072 ![] bcast_S_S4x8192x3072 (constant S_ .f32 0x3F800000#32))
    (addf (broadcastInDim S4x8192x3072 ![] bcast_S_S4x8192x3072 (constant S_ .f32 0x3F800000#32)) (Host.exp (Host.negf G)))

theorem gates_at (G : FVec Ideal S4x8192x3072 .f32) (b : Fin 4) (t : Fin 8192) (n : Fin 3072) : gates G (ix3 b t n) = Ideal.logistic (G (ix3 b t n)) := by
  pointwise [gates, Ideal.logistic]

/-- The gated branches' sum. -/
def mergedRows (G : FVec Ideal S4x8192x3072 .f32) (ya yb yc : FVec Ideal S4x8192x512 .f32) (w : FVec Ideal S3x512x1024 .f32) : FVec Ideal S4x8192x1024 .f32 :=
  addf (addf
      (mulf (extractStridedSlice S4x8192x1024 ![0, 0, 0] G slices_S4x8192x3072_S4x8192x1024_0_0_0) (Host.dotGeneral dot_S4x8192x512_S512x1024_S4x8192x1024_2_0_01_1_n_n none ya
        (shapeCast _ (extractStridedSlice S1x512x1024 ![0, 0, 0] w slices_S3x512x1024_S1x512x1024_0_0_0) shapeCasts_S1x512x1024_S512x1024)))
      (mulf (extractStridedSlice S4x8192x1024 ![0, 0, 1024] G slices_S4x8192x3072_S4x8192x1024_0_0_1024) (Host.dotGeneral dot_S4x8192x512_S512x1024_S4x8192x1024_2_0_01_1_n_n none yb
        (shapeCast _ (extractStridedSlice S1x512x1024 ![1, 0, 0] w slices_S3x512x1024_S1x512x1024_1_0_0) shapeCasts_S1x512x1024_S512x1024))))
    (mulf (extractStridedSlice S4x8192x1024 ![0, 0, 2048] G slices_S4x8192x3072_S4x8192x1024_0_0_2048) (Host.dotGeneral dot_S4x8192x512_S512x1024_S4x8192x1024_2_0_01_1_n_n none yc
      (shapeCast _ (extractStridedSlice S1x512x1024 ![2, 0, 0] w slices_S3x512x1024_S1x512x1024_2_0_0) shapeCasts_S1x512x1024_S512x1024)))

theorem mergedRows_at (G : FVec Ideal S4x8192x3072 .f32) (ya yb yc : FVec Ideal S4x8192x512 .f32) (w : FVec Ideal S3x512x1024 .f32) (b : Fin 4) (t : Fin 8192) (j : Fin 1024) :
    mergedRows G ya yb yc w (ix3 b t j) = merged (fun n => G (ix3 b t n)) (fun k => ya (ix3 b t k)) (fun k => yb (ix3 b t k)) (fun k => yc (ix3 b t k))
      (fun r k j => w (ix3 r k j)) j := by
  pointwise [mergedRows, merged, branch]

/-- The merged rows' projection. -/
def out (M : FVec Ideal S4x8192x1024 .f32) (w : FVec Ideal S1024x1024 .f32) : FVec Ideal S4x8192x1024 .f32 :=
  Host.dotGeneral dot_S4x8192x1024_S1024x1024_S4x8192x1024_2_0_01_1_n_n none M w

theorem out_at (M : FVec Ideal S4x8192x1024 .f32) (w : FVec Ideal S1024x1024 .f32) (b : Fin 4) (t : Fin 8192) (o : Fin 1024) :
    out M w (ix3 b t o) = ∑ j, M (ix3 b t j) * w (ix2 j o) := by
  pointwise [out]

/-- The rows plus the gated norm. -/
def plus (X Y : FVec Ideal S4x8192x1024 .f32) (g : FVec Ideal S1024 .f32) (gate : FVec Ideal S4x1x1024 .f32) : FVec Ideal S4x8192x1024 .f32 :=
  addf X (mulf (broadcastInDim S4x8192x1024 ![0, 1, 2] bcast_S4x1x1024_S4x8192x1024_0_1_2 gate)
    (mulf (mulf Y (broadcastInDim S4x8192x1024 ![0, 1, 2] bcast_S4x8192x1_S4x8192x1024_0_1_2 (Host.rsqrt (addf (Host.divf
        (broadcastInDim S4x8192x1 ![0, 1] bcast_S4x8192_S4x8192x1_0_1 (Host.reduceAdd (mulf Y Y) (constant S_ .f32 0x00000000#32) reducesTo_S4x8192x1024_S4x8192_d2 h_S_))
        (broadcastInDim S4x8192x1 ![] bcast_S_S4x8192x1 (constant S_ .f32 0x44800000#32))) (broadcastInDim S4x8192x1 ![] bcast_S_S4x8192x1 (constant S_ .f32 0x358637BD#32))))))
      (broadcastInDim S4x8192x1024 ![0, 1, 2] bcast_S1x1x1024_S4x8192x1024_0_1_2 (broadcastInDim S1x1x1024 ![2] bcast_S1024_S1x1x1024_2 g))))

theorem plus_at (X Y : FVec Ideal S4x8192x1024 .f32) (g : FVec Ideal S1024 .f32) (gate : FVec Ideal S4x1x1024 .f32) (b : Fin 4) (t : Fin 8192) (o : Fin 1024) :
    plus X Y g gate (ix3 b t o)
      = Ffn.plusGated (fun j => X (ix3 b t j)) (fun j => Y (ix3 b t j)) (fun j => g (ix1 j)) (fun j => gate (ix3 b 0 j)) o := by
  pointwise [plus, Ffn.plusGated, Ffn.rms]

/-- The reference's result is made of these. -/
theorem res_eq (m : (ℓ : Loc nD τ sig) → Buf (Elt Ideal) ℓ) (c : Dev nD) :
    Value.res_main_v39 m c = plus (m ((c.tc : Thread nD τ).loc main_arg0))
      (out (mergedRows (gates (m ((c.tc : Thread nD τ).loc main_arg6))) (m ((c.tc : Thread nD τ).loc main_arg3)) (m ((c.tc : Thread nD τ).loc main_arg4))
        (m ((c.tc : Thread nD τ).loc main_arg5)) (m ((c.tc : Thread nD τ).loc main_arg7))) (m ((c.tc : Thread nD τ).loc main_arg8)))
      (m ((c.tc : Thread nD τ).loc main_arg2)) (m ((c.tc : Thread nD τ).loc main_arg1)) := rfl

/-- The reference's result at an index. -/
theorem res_at (m : (ℓ : Loc nD τ sig) → Buf (Elt Ideal) ℓ) (c : Dev nD) (b : Fin 4) (t : Fin 8192) (o : Fin 1024) :
    (Value.res_main_v39 m c : FVec Ideal S4x8192x1024 .f32) (ix3 b t o) = added
      (fun j => (m ((c.tc : Thread nD τ).loc main_arg0) : FVec Ideal S4x8192x1024 .f32) (ix3 b t j))
      (fun j => (m ((c.tc : Thread nD τ).loc main_arg1) : FVec Ideal S4x1x1024 .f32) (ix3 b 0 j))
      (fun j => (m ((c.tc : Thread nD τ).loc main_arg2) : FVec Ideal S1024 .f32) (ix1 j))
      (fun k => (m ((c.tc : Thread nD τ).loc main_arg3) : FVec Ideal S4x8192x512 .f32) (ix3 b t k))
      (fun k => (m ((c.tc : Thread nD τ).loc main_arg4) : FVec Ideal S4x8192x512 .f32) (ix3 b t k))
      (fun k => (m ((c.tc : Thread nD τ).loc main_arg5) : FVec Ideal S4x8192x512 .f32) (ix3 b t k))
      (fun n => Ideal.logistic ((m ((c.tc : Thread nD τ).loc main_arg6) : FVec Ideal S4x8192x3072 .f32) (ix3 b t n)))
      (fun r k j => (m ((c.tc : Thread nD τ).loc main_arg7) : FVec Ideal S3x512x1024 .f32) (ix3 r k j))
      (fun j o => (m ((c.tc : Thread nD τ).loc main_arg8) : FVec Ideal S1024x1024 .f32) (ix2 j o)) o := by
  rw [res_eq, plus_at]
  simp only [out_at, mergedRows_at, gates_at]
  rfl

end Cert.Reference3Ideal.At

end
-- ==== Proof.MergeValue.lean ====
/- The merge kernel's result array is the reference's. -/
module

public import proofs.«01_k».proof.Proof.Gen.Kernel3Ideal.Value
public import proofs.«01_k».proof.Proof.MergeRef
public import Idealize.ShloMosaic.Lib.Pipeline.ValueKit

@[expose] public section

set_option maxRecDepth 16384

noncomputable section

namespace Cert.Kernel3Ideal.Block

open Idealize.ShloMosaic Idealize.ShloMosaic.TcCoe Idealize.SL.Sem
open Cert.Kernel3Ideal Cert.Kernel3Ideal.Gen Cert.Merge

/-- The sum of the first two gated branches. -/
theorem pay2_at (ya yb : Vec Ideal S1x1024x512 .bf16) (wa wb : Vec Ideal S1x512x1024 .bf16) (ga gb : Vec Ideal S1x1024x1024 .bf16) (i : Fin 1024) (j : Fin 1024) :
    k0_pay2 (F := Ideal) ya wa ga yb wb gb (ix2 i j) = branch (ga (ix3 0 i j)) (fun k => ya (ix3 0 i k)) (fun k => wa (ix3 0 k j))
      + branch (gb (ix3 0 i j)) (fun k => yb (ix3 0 i k)) (fun k => wb (ix3 0 k j)) := by
  pointwise [k0_pay2, branch]
/-- The third branch, projected, and its gate. -/
theorem pay3_at (y : Vec Ideal S1x1024x512 .f32) (w : Vec Ideal S1x512x1024 .bf16) (i : Fin 1024) (j : Fin 1024) :
    k0_pay3 (F := Ideal) y w (ix2 i j) = ∑ k, y (ix3 0 i k) * w (ix3 0 k j) := by
  pointwise [k0_pay3]
theorem pay4_at (g : Vec Ideal S1x1024x1024 .bf16) (i : Fin 1024) (j : Fin 1024) : k0_pay4 (F := Ideal) g (ix2 i j) = g (ix3 0 i j) := by
  pointwise [k0_pay4]

/-- The merged block's projection. -/
def out (M : FVec Ideal S1024x1024 .f32) (w : Vec Ideal S1024x1024 .bf16) : FVec Ideal S1024x1024 .f32 :=
  matmul (φ₂ := .bf16) dot_S1024x1024_S1024x1024_S1024x1024_1_0_0_1_n_n none (truncf .bf16 M bitsLt_bf16_f32) (shapeCast S1024x1024 w shapeCasts_S1024x1024_S1024x1024)
    (constant S1024x1024 .f32 0x00000000#32)

theorem out_at (M : FVec Ideal S1024x1024 .f32) (w : Vec Ideal S1024x1024 .bf16) (i : Fin 1024) (o : Fin 1024) :
    out M w (ix2 i o) = ∑ j, M (ix2 i j) * w (ix2 j o) := by
  pointwise [out]

/-- The block plus the gated norm of the projection. -/
def plus (x : Vec Ideal S1x1024x1024 .f32) (Y : FVec Ideal S1024x1024 .f32) (gate : Vec Ideal S1x1x1024 .f32) (g : Vec Ideal S1x1024 .f32) : FVec Ideal S1x1024x1024 .f32 :=
  shapeCast S1x1024x1024 (addf (shapeCast S1024x1024 x shapeCasts_S1x1024x1024_S1024x1024)
    (mulf (broadcastTo S1024x1024 (shapeCast S1x1024 gate shapeCasts_S1x1x1024_S1x1024) broadcasts_S1x1024_S1024x1024)
      (mulf (mulf Y (broadcastTo S1024x1024 (rsqrt (addf (divf
          (shapeCast S1024x1 (multiReduction .add [1] S1024 (mulf Y Y) 0x00000000#32 reduces_S1024x1024_S1024 (.inl rfl) rfl) shapeCasts_S1024_S1024x1)
          (broadcast S1024x1 (Scalar.ofBits .f32 0x44800000#32))) (broadcast S1024x1 (Scalar.ofBits .f32 0x358637BD#32)))) broadcasts_S1024x1_S1024x1024))
        (broadcastTo S1024x1024 (shapeCast S1x1024 g shapeCasts_S1x1024_S1x1024) broadcasts_S1x1024_S1024x1024)))) shapeCasts_S1024x1024_S1x1024x1024

theorem plus_at (x : Vec Ideal S1x1024x1024 .f32) (Y : FVec Ideal S1024x1024 .f32) (gate : Vec Ideal S1x1x1024 .f32) (g : Vec Ideal S1x1024 .f32) (i : Fin 1024) (o : Fin 1024) :
    plus x Y gate g (ix3 0 i o) = Ffn.plusGated (fun j => x (ix3 0 i j)) (fun j => Y (ix2 i j)) (fun j => g (ix2 0 j)) (fun j => gate (ix3 0 0 j)) o := by
  pointwise [plus, Ffn.plusGated, Ffn.rms]

theorem pay1_eq (A T G : FVec Ideal S1024x1024 .f32) (wo : Vec Ideal S1024x1024 .bf16) (x : Vec Ideal S1x1024x1024 .f32) (gate : Vec Ideal S1x1x1024 .f32) (g : Vec Ideal S1x1024 .f32) :
    k0_pay1 (F := Ideal) A T G wo x gate g = plus x (out (addf A (mulf G T)) wo) gate g := rfl

theorem sum_at (A T G : FVec Ideal S1024x1024 .f32) (i : Fin 1024) (j : Fin 1024) : addf A (mulf G T) (ix2 i j) = A (ix2 i j) + G (ix2 i j) * T (ix2 i j) := rfl

/-- The loads at an index. -/
theorem ld_w0 (w : Vec Ideal S3x512x1024 .bf16) (k : Fin 512) (j : Fin 1024) : View.ld w r0_1 (ix3 0 k j) = w (ix3 0 k j) := by
  pointwise
theorem ld_w1 (w : Vec Ideal S3x512x1024 .bf16) (k : Fin 512) (j : Fin 1024) : View.ld w r0_3 (ix3 0 k j) = w (ix3 1 k j) := by
  pointwise
theorem ld_w2 (w : Vec Ideal S3x512x1024 .bf16) (k : Fin 512) (j : Fin 1024) : View.ld w r0_5 (ix3 0 k j) = w (ix3 2 k j) := by
  pointwise
theorem ld_g0 (g : Vec Ideal S1x1024x3072 .bf16) (i : Fin 1024) (j : Fin 1024) : View.ld g r0_2 (ix3 0 i j) = g (ix3 0 i ⟨j.val, by omega⟩) := by
  pointwise
theorem ld_g1 (g : Vec Ideal S1x1024x3072 .bf16) (i : Fin 1024) (j : Fin 1024) : View.ld g r0_4 (ix3 0 i j) = g (ix3 0 i ⟨1024 + j.val, by omega⟩) := by
  pointwise
theorem ld_g2 (g : Vec Ideal S1x1024x3072 .bf16) (i : Fin 1024) (j : Fin 1024) : View.ld g r0_6 (ix3 0 i j) = g (ix3 0 i ⟨2048 + j.val, by omega⟩) := by
  pointwise

/-- What the body computes at a row and lane, from its operands. -/
theorem pay_at (ya yb : Vec Ideal S1x1024x512 .bf16) (yc : Vec Ideal S1x1024x512 .f32) (wa wb wc : Vec Ideal S1x512x1024 .bf16) (ga gb gc : Vec Ideal S1x1024x1024 .bf16)
    (wo : Vec Ideal S1024x1024 .bf16) (x : Vec Ideal S1x1024x1024 .f32) (gate : Vec Ideal S1x1x1024 .f32) (g : Vec Ideal S1x1024 .f32) (i : Fin 1024) (o : Fin 1024)
    (X Gate Norm : Fin 1024 → EReal) (Ya Yb Yc : Fin 512 → EReal) (s : Fin 3072 → EReal) (W : Fin 3 → Fin 512 → Fin 1024 → EReal) (Wo : Fin 1024 → Fin 1024 → EReal)
    (hx : ∀ j, x (ix3 0 i j) = X j) (hgate : ∀ j, gate (ix3 0 0 j) = Gate j) (hnorm : ∀ j, g (ix2 0 j) = Norm j)
    (hya : ∀ k, ya (ix3 0 i k) = Ya k) (hyb : ∀ k, yb (ix3 0 i k) = Yb k) (hyc : ∀ k, yc (ix3 0 i k) = Yc k)
    (hga : ∀ j : Fin 1024, ga (ix3 0 i j) = s ⟨j.val, by omega⟩) (hgb : ∀ j : Fin 1024, gb (ix3 0 i j) = s ⟨1024 + j.val, by omega⟩)
    (hgc : ∀ j : Fin 1024, gc (ix3 0 i j) = s ⟨2048 + j.val, by omega⟩)
    (hwa : ∀ k j, wa (ix3 0 k j) = W 0 k j) (hwb : ∀ k j, wb (ix3 0 k j) = W 1 k j) (hwc : ∀ k j, wc (ix3 0 k j) = W 2 k j)
    (hwo : ∀ j o, wo (ix2 j o) = Wo j o) :
    k0_pay1 (F := Ideal) (k0_pay2 (F := Ideal) ya wa ga yb wb gb) (k0_pay3 (F := Ideal) yc wc) (k0_pay4 (F := Ideal) gc) wo x gate g (ix3 0 i o)
      = added X Gate Norm Ya Yb Yc s W Wo o := by
  rw [pay1_eq, plus_at]
  simp only [out_at, sum_at, pay2_at, pay3_at, pay4_at, hx, hgate, hnorm, hya, hyb, hyc, hga, hgb, hgc, hwa, hwb, hwc, hwo]
  rfl

/-- What the body writes at a row and lane, from blocks of the arrays. -/
theorem body_out (x0 : Vec Ideal S1x1024x1024 .f32) (x1 x2 : Vec Ideal S1x1024x512 .bf16) (x3 : Vec Ideal S1x1024x512 .f32) (x4 : Vec Ideal S1x1024x3072 .bf16)
    (x5 : Vec Ideal S3x512x1024 .bf16) (x6 : Vec Ideal S1024x1024 .bf16) (x7 : Vec Ideal S1x1024 .f32) (x8 : Vec Ideal S1x1x1024 .f32) (i : Fin 1024) (o : Fin 1024) :
    out0_9 (F := Ideal) x0 x1 x2 x3 x4 x5 x6 x7 x8 (ix3 0 i o)
      = added (fun j => x0 (ix3 0 i j)) (fun j => x8 (ix3 0 0 j)) (fun j => x7 (ix2 0 j)) (fun k => x1 (ix3 0 i k)) (fun k => x2 (ix3 0 i k)) (fun k => x3 (ix3 0 i k))
        (fun n => x4 (ix3 0 i n)) (fun r k j => x5 (ix3 r k j)) (fun j o => x6 (ix2 j o)) o := by
  frame_out
  exact pay_at _ _ _ _ _ _ _ _ _ _ _ _ _ i o _ _ _ _ _ _ (fun n => x4 (ix3 0 i n)) (fun r k j => x5 (ix3 r k j)) _
    (fun j => rfl) (fun j => rfl) (fun j => rfl) (fun k => rfl) (fun k => rfl) (fun k => rfl)
    (fun j => ld_g0 x4 i j) (fun j => ld_g1 x4 i j) (fun j => ld_g2 x4 i j) (fun k j => ld_w0 x5 k j) (fun k j => ld_w1 x5 k j) (fun k j => ld_w2 x5 k j) (fun j o => rfl)

variable (m : (ℓ : Loc nD τ sig) → Buf (Elt Ideal) ℓ) (c : Dev nD)

/-- The windows' block indices: batch and run of rows. -/
theorem idx : ∀ t : Fin cfg0.N, t.val < 32 ∧ win0_0.index t = ![t.val / 8, t.val % 8, 0] ∧ win0_1.index t = ![t.val / 8, t.val % 8, 0]
    ∧ win0_2.index t = ![t.val / 8, t.val % 8, 0] ∧ win0_3.index t = ![t.val / 8, t.val % 8, 0] ∧ win0_4.index t = ![t.val / 8, t.val % 8, 0]
    ∧ win0_5.index t = ![0, 0, 0] ∧ win0_6.index t = ![0, 0] ∧ win0_7.index t = ![0, 0] ∧ win0_8.index t = ![t.val / 8, 0, 0] ∧ win0_9.index t = ![t.val / 8, t.val % 8, 0] :=
  (by decide +kernel : ∀ t : Fin grid0.N, _)

/-- A block read from its array. -/
theorem read_x (X : Vec Ideal S4x8192x1024 .f32) (t : Fin cfg0.N) (i : Fin 1024) (j : Fin 1024) (b : Fin 4) (r : Fin 8192) (hb : b.val = t.val / 8) (hr : r.val = 1024 * (t.val % 8) + i.val) :
    ((cfg0.win 0).blk t).view.read (Elt Ideal) X (ix3 0 i j) = X (ix3 b r j) :=
  congrArg X (by blk_ext [idx t] : ((cfg0.win 0).blk t).view.emb (ix3 0 i j) = (ix3 b r j : S4x8192x1024.Idx))
theorem read_ya (X : Vec Ideal S4x8192x512 .bf16) (t : Fin cfg0.N) (i : Fin 1024) (j : Fin 512) (b : Fin 4) (r : Fin 8192) (hb : b.val = t.val / 8) (hr : r.val = 1024 * (t.val % 8) + i.val) :
    ((cfg0.win 1).blk t).view.read (Elt Ideal) X (ix3 0 i j) = X (ix3 b r j) :=
  congrArg X (by blk_ext [idx t] : ((cfg0.win 1).blk t).view.emb (ix3 0 i j) = (ix3 b r j : S4x8192x512.Idx))
theorem read_yb (X : Vec Ideal S4x8192x512 .bf16) (t : Fin cfg0.N) (i : Fin 1024) (j : Fin 512) (b : Fin 4) (r : Fin 8192) (hb : b.val = t.val / 8) (hr : r.val = 1024 * (t.val % 8) + i.val) :
    ((cfg0.win 2).blk t).view.read (Elt Ideal) X (ix3 0 i j) = X (ix3 b r j) :=
  congrArg X (by blk_ext [idx t] : ((cfg0.win 2).blk t).view.emb (ix3 0 i j) = (ix3 b r j : S4x8192x512.Idx))
theorem read_yc (X : Vec Ideal S4x8192x512 .f32) (t : Fin cfg0.N) (i : Fin 1024) (j : Fin 512) (b : Fin 4) (r : Fin 8192) (hb : b.val = t.val / 8) (hr : r.val = 1024 * (t.val % 8) + i.val) :
    ((cfg0.win 3).blk t).view.read (Elt Ideal) X (ix3 0 i j) = X (ix3 b r j) :=
  congrArg X (by blk_ext [idx t] : ((cfg0.win 3).blk t).view.emb (ix3 0 i j) = (ix3 b r j : S4x8192x512.Idx))
theorem read_gates (X : Vec Ideal S4x8192x3072 .bf16) (t : Fin cfg0.N) (i : Fin 1024) (j : Fin 3072) (b : Fin 4) (r : Fin 8192) (hb : b.val = t.val / 8) (hr : r.val = 1024 * (t.val % 8) + i.val) :
    ((cfg0.win 4).blk t).view.read (Elt Ideal) X (ix3 0 i j) = X (ix3 b r j) :=
  congrArg X (by blk_ext [idx t] : ((cfg0.win 4).blk t).view.emb (ix3 0 i j) = (ix3 b r j : S4x8192x3072.Idx))
theorem read_wb (X : Vec Ideal S3x512x1024 .bf16) (t : Fin cfg0.N) (q : Fin 3) (k : Fin 512) (j : Fin 1024) :
    ((cfg0.win 5).blk t).view.read (Elt Ideal) X (ix3 q k j) = X (ix3 q k j) :=
  congrArg X (by blk_ext [idx t] : ((cfg0.win 5).blk t).view.emb (ix3 q k j) = (ix3 q k j : S3x512x1024.Idx))
theorem read_wo (X : Vec Ideal S1024x1024 .bf16) (t : Fin cfg0.N) (k : Fin 1024) (j : Fin 1024) :
    ((cfg0.win 6).blk t).view.read (Elt Ideal) X (ix2 k j) = X (ix2 k j) :=
  congrArg X (by blk_ext [idx t] : ((cfg0.win 6).blk t).view.emb (ix2 k j) = (ix2 k j : S1024x1024.Idx))
theorem read_norm (X : Vec Ideal S1x1024 .f32) (t : Fin cfg0.N) (j : Fin 1024) :
    ((cfg0.win 7).blk t).view.read (Elt Ideal) X (ix2 0 j) = X (ix2 0 j) :=
  congrArg X (by blk_ext [idx t] : ((cfg0.win 7).blk t).view.emb (ix2 0 j) = (ix2 0 j : S1x1024.Idx))
theorem read_gate (X : Vec Ideal S4x1x1024 .f32) (t : Fin cfg0.N) (j : Fin 1024) (b : Fin 4) (hb : b.val = t.val / 8) :
    ((cfg0.win 8).blk t).view.read (Elt Ideal) X (ix3 0 0 j) = X (ix3 b 0 j) :=
  congrArg X (by blk_ext [idx t] : ((cfg0.win 8).blk t).view.emb (ix3 0 0 j) = (ix3 b 0 j : S4x1x1024.Idx))
theorem emb_out (t : Fin cfg0.N) (i : Fin 1024) (j : Fin 1024) (b : Fin 4) (r : Fin 8192) (hb : b.val = t.val / 8) (hr : r.val = 1024 * (t.val % 8) + i.val) :
    ((cfg0.win 9).blk t).view.emb (ix3 0 i j) = (ix3 b r j : S4x8192x1024.Idx) := by
  blk_ext [idx t]

/-- The operands, from the arguments. -/
theorem ya_at (b : Fin 4) (r : Fin 8192) (j : Fin 512) : (V m c main_v0 : Vec Ideal S4x8192x512 .bf16) (ix3 b r j) = (m ((c.tc : Thread nD τ).loc main_arg3) : Vec Ideal S4x8192x512 .f32) (ix3 b r j) := by
  entry_read
  pointwise
theorem yb_at (b : Fin 4) (r : Fin 8192) (j : Fin 512) : (V m c main_v1 : Vec Ideal S4x8192x512 .bf16) (ix3 b r j) = (m ((c.tc : Thread nD τ).loc main_arg4) : Vec Ideal S4x8192x512 .f32) (ix3 b r j) := by
  entry_read
  pointwise
theorem gates_at (b : Fin 4) (r : Fin 8192) (j : Fin 3072) : (V m c main_v8 : Vec Ideal S4x8192x3072 .bf16) (ix3 b r j) = Ideal.logistic ((m ((c.tc : Thread nD τ).loc main_arg6) : Vec Ideal S4x8192x3072 .f32) (ix3 b r j)) := by
  entry_read
  pointwise [Ideal.logistic]
theorem wb_at (q : Fin 3) (k : Fin 512) (j : Fin 1024) : (V m c main_v9 : Vec Ideal S3x512x1024 .bf16) (ix3 q k j) = (m ((c.tc : Thread nD τ).loc main_arg7) : Vec Ideal S3x512x1024 .f32) (ix3 q k j) := by
  entry_read
  pointwise
theorem wo_at (k : Fin 1024) (j : Fin 1024) : (V m c main_v10 : Vec Ideal S1024x1024 .bf16) (ix2 k j) = (m ((c.tc : Thread nD τ).loc main_arg8) : Vec Ideal S1024x1024 .f32) (ix2 k j) := by
  entry_read
  pointwise
theorem norm_at (j : Fin 1024) : (V m c main_v11 : Vec Ideal S1x1024 .f32) (ix2 0 j) = (m ((c.tc : Thread nD τ).loc main_arg2) : Vec Ideal S1024 .f32) (ix1 j) := by
  entry_read
  pointwise

/-- The staged blocks read from the arguments. -/
theorem staged_x (t : Fin cfg0.N) (i : Fin 1024) (j : Fin 1024) (b : Fin 4) (r : Fin 8192) (hb : b.val = t.val / 8) (hr : r.val = 1024 * (t.val % 8) + i.val) :
    (iblk m c 0 t : Vec Ideal S1x1024x1024 .f32) (ix3 0 i j) = (m ((c.tc : Thread nD τ).loc main_arg0) : Vec Ideal S4x8192x1024 .f32) (ix3 b r j) := by
  unfold iblk
  refine (read_x (V m c (Pipeline.arrRef spec0 0)) t i j b r hb hr).trans ?_
  exact congrFun (V_main_arg0 m c) _
theorem staged_ya (t : Fin cfg0.N) (i : Fin 1024) (j : Fin 512) (b : Fin 4) (r : Fin 8192) (hb : b.val = t.val / 8) (hr : r.val = 1024 * (t.val % 8) + i.val) :
    (iblk m c 1 t : Vec Ideal S1x1024x512 .bf16) (ix3 0 i j) = (m ((c.tc : Thread nD τ).loc main_arg3) : Vec Ideal S4x8192x512 .f32) (ix3 b r j) := by
  unfold iblk
  refine (read_ya (V m c (Pipeline.arrRef spec0 1)) t i j b r hb hr).trans ?_
  exact ya_at m c b r j
theorem staged_yb (t : Fin cfg0.N) (i : Fin 1024) (j : Fin 512) (b : Fin 4) (r : Fin 8192) (hb : b.val = t.val / 8) (hr : r.val = 1024 * (t.val % 8) + i.val) :
    (iblk m c 2 t : Vec Ideal S1x1024x512 .bf16) (ix3 0 i j) = (m ((c.tc : Thread nD τ).loc main_arg4) : Vec Ideal S4x8192x512 .f32) (ix3 b r j) := by
  unfold iblk
  refine (read_yb (V m c (Pipeline.arrRef spec0 2)) t i j b r hb hr).trans ?_
  exact yb_at m c b r j
theorem staged_yc (t : Fin cfg0.N) (i : Fin 1024) (j : Fin 512) (b : Fin 4) (r : Fin 8192) (hb : b.val = t.val / 8) (hr : r.val = 1024 * (t.val % 8) + i.val) :
    (iblk m c 3 t : Vec Ideal S1x1024x512 .f32) (ix3 0 i j) = (m ((c.tc : Thread nD τ).loc main_arg5) : Vec Ideal S4x8192x512 .f32) (ix3 b r j) := by
  unfold iblk
  refine (read_yc (V m c (Pipeline.arrRef spec0 3)) t i j b r hb hr).trans ?_
  exact congrFun (V_main_arg5 m c) _
theorem staged_gates (t : Fin cfg0.N) (i : Fin 1024) (j : Fin 3072) (b : Fin 4) (r : Fin 8192) (hb : b.val = t.val / 8) (hr : r.val = 1024 * (t.val % 8) + i.val) :
    (iblk m c 4 t : Vec Ideal S1x1024x3072 .bf16) (ix3 0 i j) = Ideal.logistic ((m ((c.tc : Thread nD τ).loc main_arg6) : Vec Ideal S4x8192x3072 .f32) (ix3 b r j)) := by
  unfold iblk
  refine (read_gates (V m c (Pipeline.arrRef spec0 4)) t i j b r hb hr).trans ?_
  exact gates_at m c b r j
theorem staged_wb (t : Fin cfg0.N) (q : Fin 3) (k : Fin 512) (j : Fin 1024) :
    (iblk m c 5 t : Vec Ideal S3x512x1024 .bf16) (ix3 q k j) = (m ((c.tc : Thread nD τ).loc main_arg7) : Vec Ideal S3x512x1024 .f32) (ix3 q k j) := by
  unfold iblk
  refine (read_wb (V m c (Pipeline.arrRef spec0 5)) t q k j).trans ?_
  exact wb_at m c q k j
theorem staged_wo (t : Fin cfg0.N) (k : Fin 1024) (j : Fin 1024) :
    (iblk m c 6 t : Vec Ideal S1024x1024 .bf16) (ix2 k j) = (m ((c.tc : Thread nD τ).loc main_arg8) : Vec Ideal S1024x1024 .f32) (ix2 k j) := by
  unfold iblk
  refine (read_wo (V m c (Pipeline.arrRef spec0 6)) t k j).trans ?_
  exact wo_at m c k j
theorem staged_norm (t : Fin cfg0.N) (j : Fin 1024) :
    (iblk m c 7 t : Vec Ideal S1x1024 .f32) (ix2 0 j) = (m ((c.tc : Thread nD τ).loc main_arg2) : Vec Ideal S1024 .f32) (ix1 j) := by
  unfold iblk
  refine (read_norm (V m c (Pipeline.arrRef spec0 7)) t j).trans ?_
  exact norm_at m c j
theorem staged_gate (t : Fin cfg0.N) (j : Fin 1024) (b : Fin 4) (hb : b.val = t.val / 8) :
    (iblk m c 8 t : Vec Ideal S1x1x1024 .f32) (ix3 0 0 j) = (m ((c.tc : Thread nD τ).loc main_arg1) : Vec Ideal S4x1x1024 .f32) (ix3 b 0 j) := by
  unfold iblk
  refine (read_gate (V m c (Pipeline.arrRef spec0 8)) t j b hb).trans ?_
  exact congrFun (V_main_arg1 m c) _

variable (m' : (ℓ : Loc Cert.Reference3Ideal.nD Cert.Reference3Ideal.τ Cert.Reference3Ideal.sig) → Buf (Elt Ideal) ℓ)

/-- The reference's arguments are the kernel's. -/
structure Agree : Prop where
  h0 : (m' ((c.tc : Thread Cert.Reference3Ideal.nD Cert.Reference3Ideal.τ).loc Cert.Reference3Ideal.main_arg0) : FVec Ideal S4x8192x1024 .f32) = m ((c.tc : Thread nD τ).loc main_arg0)
  h1 : (m' ((c.tc : Thread Cert.Reference3Ideal.nD Cert.Reference3Ideal.τ).loc Cert.Reference3Ideal.main_arg1) : FVec Ideal S4x1x1024 .f32) = m ((c.tc : Thread nD τ).loc main_arg1)
  h2 : (m' ((c.tc : Thread Cert.Reference3Ideal.nD Cert.Reference3Ideal.τ).loc Cert.Reference3Ideal.main_arg2) : FVec Ideal S1024 .f32) = m ((c.tc : Thread nD τ).loc main_arg2)
  h3 : (m' ((c.tc : Thread Cert.Reference3Ideal.nD Cert.Reference3Ideal.τ).loc Cert.Reference3Ideal.main_arg3) : FVec Ideal S4x8192x512 .f32) = m ((c.tc : Thread nD τ).loc main_arg3)
  h4 : (m' ((c.tc : Thread Cert.Reference3Ideal.nD Cert.Reference3Ideal.τ).loc Cert.Reference3Ideal.main_arg4) : FVec Ideal S4x8192x512 .f32) = m ((c.tc : Thread nD τ).loc main_arg4)
  h5 : (m' ((c.tc : Thread Cert.Reference3Ideal.nD Cert.Reference3Ideal.τ).loc Cert.Reference3Ideal.main_arg5) : FVec Ideal S4x8192x512 .f32) = m ((c.tc : Thread nD τ).loc main_arg5)
  h6 : (m' ((c.tc : Thread Cert.Reference3Ideal.nD Cert.Reference3Ideal.τ).loc Cert.Reference3Ideal.main_arg6) : FVec Ideal S4x8192x3072 .f32) = m ((c.tc : Thread nD τ).loc main_arg6)
  h7 : (m' ((c.tc : Thread Cert.Reference3Ideal.nD Cert.Reference3Ideal.τ).loc Cert.Reference3Ideal.main_arg7) : FVec Ideal S3x512x1024 .f32) = m ((c.tc : Thread nD τ).loc main_arg7)
  h8 : (m' ((c.tc : Thread Cert.Reference3Ideal.nD Cert.Reference3Ideal.τ).loc Cert.Reference3Ideal.main_arg8) : FVec Ideal S1024x1024 .f32) = m ((c.tc : Thread nD τ).loc main_arg8)

set_option maxHeartbeats 1000000 in
/-- At every point, what the body writes at a row and lane is the reference's result there. -/
theorem point (A : Agree m c m') (t : Fin cfg0.N) (i : Fin 1024) (o : Fin 1024) (b : Fin 4) (r : Fin 8192) (hb : b.val = t.val / 8) (hr : r.val = 1024 * (t.val % 8) + i.val) :
    out0_9 (iblk m c 0 t) (iblk m c 1 t) (iblk m c 2 t) (iblk m c 3 t) (iblk m c 4 t) (iblk m c 5 t) (iblk m c 6 t) (iblk m c 7 t) (iblk m c 8 t) (ix3 0 i o)
      = (Cert.Reference3Ideal.Value.res_main_v39 m' c : FVec Ideal S4x8192x1024 .f32) (ix3 b r o) := by
  obtain ⟨h0, h1, h2, h3, h4, h5, h6, h7, h8⟩ := A
  rw [body_out, Cert.Reference3Ideal.At.res_at]
  have e0 := funext fun j => staged_x m c t i j b r hb hr
  have e1 := funext fun j => staged_ya m c t i j b r hb hr
  have e2 := funext fun j => staged_yb m c t i j b r hb hr
  have e3 := funext fun j => staged_yc m c t i j b r hb hr
  have e4 := funext fun j => staged_gates m c t i j b r hb hr
  have e5 := funext fun q => funext fun k => funext fun j => staged_wb m c t q k j
  have e6 := funext fun k => funext fun j => staged_wo m c t k j
  have e7 := funext fun j => staged_norm m c t j
  have e8 := funext fun j => staged_gate m c t j b hb
  rw [e0, e1, e2, e3, e4, e5, e6, e7, e8, h0, h1, h2, h3, h4, h5, h6, h7, h8]

/-- The kernel's result array is the reference's. -/
theorem final (A : Agree m c m') : (dats m 0 c).arrAt 9 cfg0.N = (Cert.Reference3Ideal.Value.res_main_v39 m' c : FVec Ideal S4x8192x1024 .f32) := by
  refine (dats m 0 c).arrAt_eq_of_covers 9 _ (by decide +kernel) fun t _ y => ?_
  have ht := (idx t).1
  blk_simp
  rw [after0_9]
  have h0 : (y 0).val < 1 := (y 0).isLt
  have h1 : (y 1).val < 1024 := (y 1).isLt
  have h2 : (y 2).val < 1024 := (y 2).isLt
  have e : y = (ix3 0 (⟨(y 1).val, h1⟩ : Fin 1024) (⟨(y 2).val, h2⟩ : Fin 1024) : S1x1024x1024.Idx) := funext fun a => Fin.ext (by
    match a with
    | ⟨0, _⟩ => show (y 0).val = 0; omega
    | ⟨1, _⟩ => rfl
    | ⟨2, _⟩ => rfl)
  rw [e]
  exact (point m c m' A t _ _ ⟨t.val / 8, by omega⟩ ⟨1024 * (t.val % 8) + (y 1).val, by omega⟩ rfl rfl).trans
    (congrArg (Cert.Reference3Ideal.Value.res_main_v39 m' c : FVec Ideal S4x8192x1024 .f32) (emb_out t _ _ _ _ rfl rfl).symm)

end Cert.Kernel3Ideal.Block

end
-- ==== Proof.ProjBlock.lean ====
/- The projection call's block computations read at an index. -/
module

public import proofs.«01_k».proof.Proof.Gen.Kernel4Ideal.Skeleton
public import proofs.«01_k».proof.Proof.FfnBlock

@[expose] public section

set_option maxRecDepth 16384

noncomputable section

namespace Cert.Kernel4Ideal.Block

open Idealize.ShloMosaic
open Cert.Kernel4Ideal Cert.Kernel4Ideal.Gen Cert.Ffn
open Cert.Kernel2Ideal.Block (rows rows_here rows_before rows_after modulatedRows modulatedRows_at first_row last_row first_block last_block)

theorem pay4_eq (g : Vec Ideal S1x1024 .f32) (sh sc : Vec Ideal S1x1x1024 .f32) (x : Vec Ideal S1x512x1024 .f32) (xp xn : Vec Ideal S1x8x1024 .f32) :
    k0_pay4 (F := Ideal) g sh sc x xp xn = modulatedRows (rows x xp xn) g sh sc := rfl

/-- The rows' product with the convolved columns. -/
theorem pay52_at (H : FVec Ideal S528x1024 .bf16) (w : Vec Ideal S1024x1536 .bf16) (p : Fin 528) (n : Fin 1536) :
    k0_pay52 (F := Ideal) H w (ix2 p n) = ∑ k, H (ix2 p k) * w (ix2 k n) := by
  pointwise [k0_pay52]

/-- The rows before the block's, the first from the halo where there is one. -/
def before (a : BitVec 32) (P : FVec Ideal S528x1536 .f32) : FVec Ideal S512x1536 .f32 :=
  select (broadcastTo S512x1536 (shapeCast S512x1 (cmpi .eq (iota .tc S512x1 32 [0] iota_S512x1_d0_w32) (broadcast S512x1 0#32)) shapeCasts_S512x1_S512x1) broadcasts_S512x1_S512x1536)
    (broadcastTo S512x1536 (shapeCast S1x1536 (Scalar.select (Scalar.cmpi .sgt a 0#32) (extractStridedSlice S1x1536 ![519, 0] P slices_S528x1536_o519_0_S1x1536)
      (broadcast S1x1536 (Scalar.ofBits .f32 0x00000000#32))) shapeCasts_S1x1536_S1x1536) broadcasts_S1x1536_S512x1536)
    (dynamicRotate 0 1#32 none (extractStridedSlice S512x1536 ![0, 0] P slices_S528x1536_o0_0_S512x1536) rotates_S512x1536_d0)

/-- The rows after the block's, the last from the halo where there is one. -/
def after (a : BitVec 32) (P : FVec Ideal S528x1536 .f32) : FVec Ideal S512x1536 .f32 :=
  select (broadcastTo S512x1536 (shapeCast S512x1 (cmpi .eq (iota .tc S512x1 32 [0] iota_S512x1_d0_w32) (broadcast S512x1 511#32)) shapeCasts_S512x1_S512x1) broadcasts_S512x1_S512x1536)
    (broadcastTo S512x1536 (shapeCast S1x1536 (Scalar.select (Scalar.cmpi .slt a 15#32) (extractStridedSlice S1x1536 ![520, 0] P slices_S528x1536_o520_0_S1x1536)
      (broadcast S1x1536 (Scalar.ofBits .f32 0x00000000#32))) shapeCasts_S1x1536_S1x1536) broadcasts_S1x1536_S512x1536)
    (dynamicRotate 0 511#32 none (extractStridedSlice S512x1536 ![0, 0] P slices_S528x1536_o0_0_S512x1536) rotates_S512x1536_d0)

theorem before_at (q : Fin 16) (P : FVec Ideal S528x1536 .f32) (i : Fin 512) (n : Fin 1536) :
    before (BitVec.ofNat 32 q.val) P (ix2 i n)
      = if i.val = 0 then (if q.val = 0 then 0 else P (ix2 519 n)) else P (ix2 ⟨i.val - 1, by omega⟩ n) := by
  pointwise [before]
  rw [first_row, first_block]
  by_cases hi : i.val = 0
  · by_cases hq : q.val = 0 <;> simp [hi, hq, Scalar.select]
  · simp only [hi, if_false, Scalar.select]
    exact congrArg (fun p : Fin 528 => P (ix2 p n)) (Fin.ext (by show (i.val + 512 - 1) % 512 = i.val - 1; omega))

theorem after_at (q : Fin 16) (P : FVec Ideal S528x1536 .f32) (i : Fin 512) (n : Fin 1536) :
    after (BitVec.ofNat 32 q.val) P (ix2 i n)
      = if i.val = 511 then (if q.val = 15 then 0 else P (ix2 520 n)) else P (ix2 ⟨i.val + 1, by omega⟩ n) := by
  pointwise [after]
  rw [last_row, last_block]
  by_cases hi : i.val = 511
  · by_cases hq : q.val = 15 <;> simp [hi, hq, Scalar.select]
  · simp only [hi, if_false, Scalar.select]
    exact congrArg (fun p : Fin 528 => P (ix2 p n)) (Fin.ext (by show (i.val + 512 - 511) % 512 = i.val + 1; omega))

/-- The convolved rows. -/
def convolved (a : BitVec 32) (P : FVec Ideal S528x1536 .f32) (w0 w1 w2 cb : Vec Ideal S1x1536 .f32) : FVec Ideal S512x1536 .f32 :=
  addf (addf (addf (mulf (before a P) (broadcastTo S512x1536 w0 broadcasts_S1x1536_S512x1536))
      (mulf (extractStridedSlice S512x1536 ![0, 0] P slices_S528x1536_o0_0_S512x1536) (broadcastTo S512x1536 w1 broadcasts_S1x1536_S512x1536)))
      (mulf (after a P) (broadcastTo S512x1536 w2 broadcasts_S1x1536_S512x1536)))
    (broadcastTo S512x1536 (shapeCast S1x1536 cb shapeCasts_S1x1536_S1x1536) broadcasts_S1x1536_S512x1536)

theorem convolved_at (a : BitVec 32) (P : FVec Ideal S528x1536 .f32) (w0 w1 w2 cb : Vec Ideal S1x1536 .f32) (i : Fin 512) (n : Fin 1536) :
    convolved a P w0 w1 w2 cb (ix2 i n)
      = conv (before a P (ix2 i n)) (P (ix2 ⟨i.val, by omega⟩ n)) (after a P (ix2 i n)) (w0 (ix2 0 n)) (w1 (ix2 0 n)) (w2 (ix2 0 n)) (cb (ix2 0 n)) := by
  pointwise [convolved, conv]

theorem pay54_eq (a : BitVec 32) (H : FVec Ideal S528x1024 .bf16) (w : Vec Ideal S1024x1536 .bf16) (w0 w1 w2 cb : Vec Ideal S1x1536 .f32) :
    k0_pay54 (F := Ideal) a (k0_pay52 (F := Ideal) H w) (k0_pay53 (F := Ideal) a H w) 15#32 w0 w1 w2 cb = convolved a (k0_pay52 (F := Ideal) H w) w0 w1 w2 cb := rfl

/-- The convolution's three parts, from the convolved rows. -/
theorem part0_at (a : BitVec 32) (P : FVec Ideal S528x1536 .f32) (v : FVec Ideal S1x1536 .f32) (w0 w1 w2 cb : Vec Ideal S1x1536 .f32) (i : Fin 512) (o : Fin 512) :
    k0_pay55 (F := Ideal) a P v 15#32 w0 w1 w2 cb (ix3 0 i o) = k0_pay54 (F := Ideal) a P v 15#32 w0 w1 w2 cb (ix2 i ⟨o.val, by omega⟩) := by
  pointwise [k0_pay55]
theorem part1_at (a : BitVec 32) (P : FVec Ideal S528x1536 .f32) (v : FVec Ideal S1x1536 .f32) (w0 w1 w2 cb : Vec Ideal S1x1536 .f32) (i : Fin 512) (o : Fin 512) :
    k0_pay1 (F := Ideal) (k0_pay56 (F := Ideal) a P v 15#32 w0 w1 w2 cb) (ix3 0 i o) = k0_pay54 (F := Ideal) a P v 15#32 w0 w1 w2 cb (ix2 i ⟨512 + o.val, by omega⟩) := by
  pointwise [k0_pay1, k0_pay56]
theorem part2_at (U : FVec Ideal S512x1536 .f32) (i : Fin 512) (o : Fin 512) :
    k0_pay2 (F := Ideal) U (ix3 0 i o) = U (ix2 i ⟨1024 + o.val, by omega⟩) := by
  pointwise [k0_pay2]

/-- The gates' block. -/
theorem pay3_at (H : FVec Ideal S512x1024 .bf16) (w : Vec Ideal S1024x3072 .bf16) (i : Fin 512) (n : Fin 3072) :
    k0_pay3 (F := Ideal) H w (ix3 0 i n) = Ideal.logistic (∑ k, H (ix2 i k) * w (ix2 k n)) := by
  pointwise [k0_pay3, Ideal.logistic]

section

variable (X : Fin 8192 → Fin 1024 → EReal) (q : Fin 16) (g : Vec Ideal S1x1024 .f32) (sh sc : Vec Ideal S1x1x1024 .f32) (x : Vec Ideal S1x512x1024 .f32) (xp xn : Vec Ideal S1x8x1024 .f32)

/-- The block's own rows of the modulated ones. -/
theorem pay5_at (i : Fin 512) (k : Fin 1024) : k0_pay5 (F := Ideal) g sh sc x xp xn (ix2 i k)
    = modulated (fun j => x (ix3 0 i j)) (fun j => g (ix2 0 j)) (fun j => sc (ix3 0 0 j)) (fun j => sh (ix3 0 0 j)) k := by
  have e : k0_pay5 (F := Ideal) g sh sc x xp xn (ix2 i k) = k0_pay4 (F := Ideal) g sh sc x xp xn (ix2 (⟨i.val, by omega⟩ : Fin 528) k) := by
    pointwise [k0_pay5]
  rw [e, pay4_eq, modulatedRows_at]
  simp only [rows_here x xp xn ⟨i.val, by omega⟩ i rfl]

theorem gates_out (w : Vec Ideal S1024x3072 .bf16) (W : Fin 1024 → Fin 3072 → EReal) (hw : ∀ k n, w (ix2 k n) = W k n) (i : Fin 512) (n : Fin 3072) :
    k0_pay3 (F := Ideal) (k0_pay5 (F := Ideal) g sh sc x xp xn) w (ix3 0 i n)
      = Ideal.logistic (project (fun j => x (ix3 0 i j)) (fun j => g (ix2 0 j)) (fun j => sc (ix3 0 0 j)) (fun j => sh (ix3 0 0 j)) (fun k => W k n)) := by
  rw [pay3_at]
  simp only [pay5_at, hw]
  rfl

/-- A row's product with a column. -/
theorem project_at (w : Vec Ideal S1024x1536 .bf16) (p : Fin 528) (n : Fin 1536) (R : Fin 1024 → EReal) (h : ∀ j, rows x xp xn (ix2 p j) = R j) :
    k0_pay52 (F := Ideal) (k0_pay4 (F := Ideal) g sh sc x xp xn) w (ix2 p n)
      = project R (fun j => g (ix2 0 j)) (fun j => sc (ix3 0 0 j)) (fun j => sh (ix3 0 0 j)) (fun k => w (ix2 k n)) := by
  rw [pay52_at, pay4_eq]
  simp only [modulatedRows_at, h]
  rfl

/-- A column of the convolved block, where the block's and the halo's rows are the array's. -/
theorem column_at (w : Vec Ideal S1024x1536 .bf16) (w0 w1 w2 cb : Vec Ideal S1x1536 .f32) (i : Fin 512) (n : Fin 1536) (t : Fin 8192) (ht : t.val = 512 * q.val + i.val)
    (hx : ∀ (i : Fin 512) (t : Fin 8192), t.val = 512 * q.val + i.val → ∀ j, x (ix3 0 i j) = X t j)
    (hp : ∀ t : Fin 8192, t.val + 1 = 512 * q.val → ∀ j, xp (ix3 0 (7 : Fin 8) j) = X t j)
    (hn : ∀ t : Fin 8192, t.val = 512 * q.val + 512 → ∀ j, xn (ix3 0 (0 : Fin 8) j) = X t j) :
    convolved (BitVec.ofNat 32 q.val) (k0_pay52 (F := Ideal) (k0_pay4 (F := Ideal) g sh sc x xp xn) w) w0 w1 w2 cb (ix2 i n)
      = column X (fun j => g (ix2 0 j)) (fun j => sc (ix3 0 0 j)) (fun j => sh (ix3 0 0 j)) (fun k => w (ix2 k n)) (w0 (ix2 0 n)) (w1 (ix2 0 n)) (w2 (ix2 0 n)) (cb (ix2 0 n)) t := by
  have hi := i.isLt
  have hq := q.isLt
  rw [convolved_at, before_at, after_at]
  unfold column
  congr 1
  · by_cases h0 : i.val = 0
    · rw [if_pos h0]
      by_cases h1 : q.val = 0
      · rw [if_pos h1, if_neg (by omega)]
      · rw [if_neg h1, if_pos (by omega)]
        exact project_at g sh sc x xp xn w _ n _ fun j => (rows_before x xp xn j).trans (hp _ (by show t.val - 1 + 1 = _; omega) j)
    · rw [if_neg h0, if_pos (by omega)]
      exact project_at g sh sc x xp xn w _ n _ fun j => (rows_here x xp xn _ ⟨i.val - 1, by omega⟩ rfl j).trans (hx _ _ (by show t.val - 1 = 512 * q.val + (i.val - 1); omega) j)
  · exact project_at g sh sc x xp xn w _ n _ fun j => (rows_here x xp xn _ i rfl j).trans (hx i t ht j)
  · by_cases h0 : i.val = 511
    · rw [if_pos h0]
      by_cases h1 : q.val = 15
      · rw [if_pos h1, dif_neg (by omega)]
      · rw [if_neg h1, dif_pos (by omega : t.val + 1 < 8192)]
        exact project_at g sh sc x xp xn w _ n _ fun j => (rows_after x xp xn j).trans (hn _ (by show t.val + 1 = _; omega) j)
    · rw [if_neg h0, dif_pos (by omega : t.val + 1 < 8192)]
      exact project_at g sh sc x xp xn w _ n _ fun j => (rows_here x xp xn _ ⟨i.val + 1, by omega⟩ rfl j).trans (hx _ _ (by show t.val + 1 = 512 * q.val + (i.val + 1); omega) j)

end

end Cert.Kernel4Ideal.Block

end
-- ==== Proof.ProjRef.lean ====
/- The projection reference's results read at an index. -/
module

public import proofs.«01_k».proof.Proof.Gen.Reference4Ideal.Run
public import proofs.«01_k».proof.Proof.FfnRef

@[expose] public section

set_option maxRecDepth 16384

noncomputable section

namespace Cert.Reference4Ideal.At

open Idealize.ShloMosaic Idealize.SL.Sem Idealize.ShloMosaic.TcCoe
open Cert.Reference4Ideal Cert.Reference4Ideal.Gen Cert.Ffn
open Cert.Reference2Ideal.At (normed normed_at)

/-- The modulated rows' products with the projection's columns. -/
def projected (N : FVec Ideal S4x8192x1024 .f32) (scale shift : FVec Ideal S4x1x1024 .f32) (w : FVec Ideal S1024x6432 .f32) : FVec Ideal S4x8192x6432 .f32 :=
  Host.dotGeneral dot_S4x8192x1024_S1024x6432_S4x8192x6432_2_0_01_1_n_n none (addf (mulf N (broadcastInDim S4x8192x1024 ![0, 1, 2] bcast_S4x1x1024_S4x8192x1024_0_1_2
      (addf (broadcastInDim S4x1x1024 ![] bcast_S_S4x1x1024 (constant S_ .f32 0x3F800000#32)) scale)))
    (broadcastInDim S4x8192x1024 ![0, 1, 2] bcast_S4x1x1024_S4x8192x1024_0_1_2 shift)) w

theorem projected_at (X : FVec Ideal S4x8192x1024 .f32) (g : FVec Ideal S1024 .f32) (scale shift : FVec Ideal S4x1x1024 .f32) (w : FVec Ideal S1024x6432 .f32)
    (b : Fin 4) (t : Fin 8192) (n : Fin 6432) :
    projected (normed X g) scale shift w (ix3 b t n)
      = project (fun j => X (ix3 b t j)) (fun j => g (ix1 j)) (fun j => scale (ix3 b 0 j)) (fun j => shift (ix3 b 0 j)) (fun k => w (ix2 k n)) := by
  pointwise [projected, project, modulated, normed_at]

/-- The convolved columns, with a row of zeros before and after. -/
def padded (P : FVec Ideal S4x8192x6432 .f32) : FVec Ideal S4x8194x1536 .f32 :=
  pad S4x8194x1536 ![0, 1, 0] ![0, 1, 0] ![0, 0, 0] (extractStridedSlice S4x8192x1536 ![0, 0, 1824] P slices_S4x8192x6432_S4x8192x1536_0_0_1824) (sitofp .f32 (constantI S_ 32 0#32))
    pads_S4x8192x1536_S4x8194x1536_000_110_000 h_S_

theorem padded_at (P : FVec Ideal S4x8192x6432 .f32) (b : Fin 4) (u : Fin 8194) (n : Fin 1536) :
    padded P (ix3 b u n) = if h : 1 ≤ u.val ∧ u.val - 1 < 8192 then P (ix3 b ⟨u.val - 1, h.2⟩ ⟨1824 + n.val, by omega⟩) else 0 := by
  have z : FloatOps.sitofp (F := Ideal) FTy.f32 0#32 = (0 : EReal) := by
    show (((0#32 : BitVec 32).toInt : ℝ) : EReal) = 0
    simp
  pointwise [padded]
  rw [z]

/-- A weight's row for every row. -/
def tap (w : FVec Ideal S1536 .f32) : FVec Ideal S4x8192x1536 .f32 :=
  broadcastInDim S4x8192x1536 ![0, 1, 2] bcast_S1x1x1536_S4x8192x1536_0_1_2 (broadcastInDim S1x1x1536 ![2] bcast_S1536_S1x1x1536_2 w)

/-- The three rows' convolution. -/
def convolved (Q : FVec Ideal S4x8194x1536 .f32) (w : FVec Ideal S3x1536 .f32) (cb : FVec Ideal S1536 .f32) : FVec Ideal S4x8192x1536 .f32 :=
  addf (addf (addf
      (mulf (extractStridedSlice S4x8192x1536 ![0, 0, 0] Q slices_S4x8194x1536_S4x8192x1536_0_0_0) (tap (shapeCast _ (extractStridedSlice S1x1536 ![0, 0] w slices_S3x1536_S1x1536_0_0) shapeCasts_S1x1536_S1536)))
      (mulf (extractStridedSlice S4x8192x1536 ![0, 1, 0] Q slices_S4x8194x1536_S4x8192x1536_0_1_0) (tap (shapeCast _ (extractStridedSlice S1x1536 ![1, 0] w slices_S3x1536_S1x1536_1_0) shapeCasts_S1x1536_S1536))))
      (mulf (extractStridedSlice S4x8192x1536 ![0, 2, 0] Q slices_S4x8194x1536_S4x8192x1536_0_2_0) (tap (shapeCast _ (extractStridedSlice S1x1536 ![2, 0] w slices_S3x1536_S1x1536_2_0) shapeCasts_S1x1536_S1536))))
    (tap cb)

theorem convolved_at (Q : FVec Ideal S4x8194x1536 .f32) (w : FVec Ideal S3x1536 .f32) (cb : FVec Ideal S1536 .f32) (b : Fin 4) (t : Fin 8192) (n : Fin 1536) :
    convolved Q w cb (ix3 b t n) = conv (Q (ix3 b ⟨t.val, by omega⟩ n)) (Q (ix3 b ⟨1 + t.val, by omega⟩ n)) (Q (ix3 b ⟨2 + t.val, by omega⟩ n))
      (w (ix2 0 n)) (w (ix2 1 n)) (w (ix2 2 n)) (cb (ix1 n)) := by
  pointwise [convolved, tap, conv]

/-- A column of the convolution at a row. -/
theorem column_at (X : FVec Ideal S4x8192x1024 .f32) (g : FVec Ideal S1024 .f32) (scale shift : FVec Ideal S4x1x1024 .f32) (w : FVec Ideal S1024x6432 .f32)
    (cw : FVec Ideal S3x1536 .f32) (cb : FVec Ideal S1536 .f32) (b : Fin 4) (t : Fin 8192) (n : Fin 1536) :
    convolved (padded (projected (normed X g) scale shift w)) cw cb (ix3 b t n)
      = column (fun u j => X (ix3 b u j)) (fun j => g (ix1 j)) (fun j => scale (ix3 b 0 j)) (fun j => shift (ix3 b 0 j)) (fun k => w (ix2 k ⟨1824 + n.val, by omega⟩))
        (cw (ix2 0 n)) (cw (ix2 1 n)) (cw (ix2 2 n)) (cb (ix1 n)) t := by
  have ht := t.isLt
  rw [convolved_at, padded_at, padded_at, padded_at]
  unfold column
  congr 1
  · by_cases h : 0 < t.val
    · rw [dif_pos ⟨h, by show t.val - 1 < 8192; omega⟩, if_pos h, projected_at]
    · rw [dif_neg fun h' => h h'.1, if_neg h]
  · rw [dif_pos ⟨by show 1 ≤ 1 + t.val; omega, by show 1 + t.val - 1 < 8192; omega⟩, projected_at]
    have e : (⟨1 + t.val - 1, by omega⟩ : Fin 8192) = t := Fin.ext (by show 1 + t.val - 1 = t.val; omega)
    simp only [e]
  · by_cases h : t.val + 1 < 8192
    · rw [dif_pos ⟨by show 1 ≤ 2 + t.val; omega, by show 2 + t.val - 1 < 8192; omega⟩, dif_pos h, projected_at]
      have e : (⟨2 + t.val - 1, by omega⟩ : Fin 8192) = ⟨t.val + 1, h⟩ := Fin.ext (by show 2 + t.val - 1 = t.val + 1; omega)
      simp only [e]
    · rw [dif_neg fun h' => h (by have := h'.2; change 2 + t.val - 1 < 8192 at this; omega), dif_neg h]

/-- The logistic function of the last columns. -/
def gates (P : FVec Ideal S4x8192x6432 .f32) : FVec Ideal S4x8192x3072 .bf16 :=
  truncf .bf16 (Host.divf (broadcastInDim S4x8192x3072 ![] bcast_S_S4x8192x3072 (constant S_ .f32 0x3F800000#32)) (addf (broadcastInDim S4x8192x3072 ![] bcast_S_S4x8192x3072 (constant S_ .f32 0x3F800000#32))
    (Host.exp (Host.negf (extractStridedSlice S4x8192x3072 ![0, 0, 3360] P slices_S4x8192x6432_S4x8192x3072_0_0_3360))))) bitsLt_bf16_f32

theorem gates_at (P : FVec Ideal S4x8192x6432 .f32) (b : Fin 4) (t : Fin 8192) (n : Fin 3072) :
    gates P (ix3 b t n) = Ideal.logistic (P (ix3 b t ⟨3360 + n.val, by omega⟩)) := by
  pointwise [gates, Ideal.logistic]

variable (m : (ℓ : Loc nD τ sig) → Buf (Elt Ideal) ℓ) (c : Dev nD)

/-- The projections of the reference's rows. -/
def projections : FVec Ideal S4x8192x6432 .f32 :=
  projected (normed (m ((c.tc : Thread nD τ).loc main_arg0)) (m ((c.tc : Thread nD τ).loc main_arg3))) (m ((c.tc : Thread nD τ).loc main_arg2)) (m ((c.tc : Thread nD τ).loc main_arg1))
    (m ((c.tc : Thread nD τ).loc main_arg4))

/-- The convolution's columns from the arguments. -/
def hyena (b : Fin 4) (t : Fin 8192) (n : Fin 1536) : EReal :=
  column (fun u j => (m ((c.tc : Thread nD τ).loc main_arg0) : FVec Ideal S4x8192x1024 .f32) (ix3 b u j))
    (fun j => (m ((c.tc : Thread nD τ).loc main_arg3) : FVec Ideal S1024 .f32) (ix1 j))
    (fun j => (m ((c.tc : Thread nD τ).loc main_arg2) : FVec Ideal S4x1x1024 .f32) (ix3 b 0 j))
    (fun j => (m ((c.tc : Thread nD τ).loc main_arg1) : FVec Ideal S4x1x1024 .f32) (ix3 b 0 j))
    (fun k => (m ((c.tc : Thread nD τ).loc main_arg4) : FVec Ideal S1024x6432 .f32) (ix2 k ⟨1824 + n.val, by omega⟩))
    ((m ((c.tc : Thread nD τ).loc main_arg7) : FVec Ideal S3x1536 .f32) (ix2 0 n)) ((m ((c.tc : Thread nD τ).loc main_arg7) : FVec Ideal S3x1536 .f32) (ix2 1 n))
    ((m ((c.tc : Thread nD τ).loc main_arg7) : FVec Ideal S3x1536 .f32) (ix2 2 n)) ((m ((c.tc : Thread nD τ).loc main_arg8) : FVec Ideal S1536 .f32) (ix1 n)) t

/-- The convolution's three parts. -/
theorem z_eq : Value.res_main_v45 m c = extractStridedSlice S4x8192x512 ![0, 0, 0]
    (convolved (padded (projections m c)) (m ((c.tc : Thread nD τ).loc main_arg7)) (m ((c.tc : Thread nD τ).loc main_arg8))) slices_S4x8192x1536_S4x8192x512_0_0_0 := rfl
theorem x1_eq : Value.res_main_v46 m c = extractStridedSlice S4x8192x512 ![0, 0, 512]
    (convolved (padded (projections m c)) (m ((c.tc : Thread nD τ).loc main_arg7)) (m ((c.tc : Thread nD τ).loc main_arg8))) slices_S4x8192x1536_S4x8192x512_0_0_512 := rfl
theorem x2_eq : Value.res_main_v47 m c = extractStridedSlice S4x8192x512 ![0, 0, 1024]
    (convolved (padded (projections m c)) (m ((c.tc : Thread nD τ).loc main_arg7)) (m ((c.tc : Thread nD τ).loc main_arg8))) slices_S4x8192x1536_S4x8192x512_0_0_1024 := rfl

theorem z_at (b : Fin 4) (t : Fin 8192) (o : Fin 512) : (Value.res_main_v45 m c : FVec Ideal S4x8192x512 .f32) (ix3 b t o) = hyena m c b t ⟨o.val, by omega⟩ := by
  rw [z_eq]
  refine Eq.trans ?_ (column_at _ _ _ _ _ _ _ b t _)
  pointwise [projections]
theorem x1_at (b : Fin 4) (t : Fin 8192) (o : Fin 512) : (Value.res_main_v46 m c : FVec Ideal S4x8192x512 .f32) (ix3 b t o) = hyena m c b t ⟨512 + o.val, by omega⟩ := by
  rw [x1_eq]
  refine Eq.trans ?_ (column_at _ _ _ _ _ _ _ b t _)
  pointwise [projections]
theorem x2_at (b : Fin 4) (t : Fin 8192) (o : Fin 512) : (Value.res_main_v47 m c : FVec Ideal S4x8192x512 .f32) (ix3 b t o) = hyena m c b t ⟨1024 + o.val, by omega⟩ := by
  rw [x2_eq]
  refine Eq.trans ?_ (column_at _ _ _ _ _ _ _ b t _)
  pointwise [projections]

/-- The gates as the run states them. -/
theorem gates_eq (x : FVec Ideal S4x8192x1024 .f32) (shift scale : FVec Ideal S4x1x1024 .f32) (norm : FVec Ideal S1024 .f32) (w : FVec Ideal S1024x6432 .f32) : (truncf .bf16 (Host.divf (broadcastInDim S4x8192x3072 ![] bcast_S_S4x8192x3072 (constant S_ .f32 0x3F800000#32)) (addf (broadcastInDim S4x8192x3072 ![] bcast_S_S4x8192x3072 (constant S_ .f32 0x3F800000#32)) (Host.exp (Host.negf (extractStridedSlice S4x8192x3072 ![0, 0, 3360] (Host.dotGeneral dot_S4x8192x1024_S1024x6432_S4x8192x6432_2_0_01_1_n_n none (addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 norm))) (broadcastInDim S4x8192x1024 ![0, 1, 2] bcast_S4x1x1024_S4x8192x1024_0_1_2 (addf (broadcastInDim S4x1x1024 ![] bcast_S_S4x1x1024 (constant S_ .f32 0x3F800000#32)) scale))) (broadcastInDim S4x8192x1024 ![0, 1, 2] bcast_S4x1x1024_S4x8192x1024_0_1_2 shift)) w) slices_S4x8192x6432_S4x8192x3072_0_0_3360))))) bitsLt_bf16_f32 : FVec Ideal S4x8192x3072 .bf16)
    = gates (projected (normed x norm) scale shift w) := rfl

/-- The gates from the arguments. -/
theorem gate_at (b : Fin 4) (t : Fin 8192) (n : Fin 3072) : gates (projections m c) (ix3 b t n) = Ideal.logistic
    (project (fun j => (m ((c.tc : Thread nD τ).loc main_arg0) : FVec Ideal S4x8192x1024 .f32) (ix3 b t j))
      (fun j => (m ((c.tc : Thread nD τ).loc main_arg3) : FVec Ideal S1024 .f32) (ix1 j))
      (fun j => (m ((c.tc : Thread nD τ).loc main_arg2) : FVec Ideal S4x1x1024 .f32) (ix3 b 0 j))
      (fun j => (m ((c.tc : Thread nD τ).loc main_arg1) : FVec Ideal S4x1x1024 .f32) (ix3 b 0 j))
      (fun k => (m ((c.tc : Thread nD τ).loc main_arg4) : FVec Ideal S1024x6432 .f32) (ix2 k ⟨3360 + n.val, by omega⟩))) := by
  rw [gates_at]
  exact congrArg Ideal.logistic (projected_at _ _ _ _ _ b t _)

end Cert.Reference4Ideal.At

end
-- ==== Proof.ProjValue.lean ====
/- The projection kernel's result arrays are the reference's. -/
module

public import proofs.«01_k».proof.Proof.ProjFrame
public import proofs.«01_k».proof.Proof.ProjBlock
public import proofs.«01_k».proof.Proof.ProjRef
public import Idealize.ShloMosaic.Lib.Pipeline.ValueKit

@[expose] public section

set_option maxRecDepth 16384

noncomputable section

namespace Cert.Kernel4Ideal.Block

open Idealize.ShloMosaic Idealize.ShloMosaic.TcCoe Idealize.SL.Sem
open Cert.Kernel4Ideal Cert.Kernel4Ideal.Gen Cert.Ffn

section

/-- The loads at an index. -/
theorem ld_hyena (w : Vec Ideal S1024x7040 .bf16) (k : Fin 1024) (n : Fin 1536) : View.ld w r0_28 (ix2 k n) = w (ix2 k ⟨2432 + n.val, by omega⟩) := by
  pointwise
theorem ld_gates (w : Vec Ideal S1024x7040 .bf16) (k : Fin 1024) (n : Fin 3072) : View.ld w r0_34 (ix2 k n) = w (ix2 k ⟨3968 + n.val, by omega⟩) := by
  pointwise
theorem ld_tap0 (w : Vec Ideal S3x1536 .f32) (n : Fin 1536) : View.ld w r0_29 (ix2 0 n) = w (ix2 0 n) := by
  pointwise
theorem ld_tap1 (w : Vec Ideal S3x1536 .f32) (n : Fin 1536) : View.ld w r0_30 (ix2 0 n) = w (ix2 1 n) := by
  pointwise
theorem ld_tap2 (w : Vec Ideal S3x1536 .f32) (n : Fin 1536) : View.ld w r0_31 (ix2 0 n) = w (ix2 2 n) := by
  pointwise

variable (x0 : Vec Ideal S1x512x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x7040 .bf16) (x7 : Vec Ideal S256x1536 .bf16) (x8 : Vec Ideal S1x256 .f32) (x9 : Vec Ideal S512x128 .f32) (x10 : Vec Ideal S512x128 .f32) (x11 : Vec Ideal S512x128 .f32) (x12 : Vec Ideal S512x128 .f32) (x13 : Vec Ideal S512x128 .f32) (x14 : Vec Ideal S512x128 .f32) (x15 : Vec Ideal S3x1536 .f32) (x16 : Vec Ideal S1x1536 .f32) (g : grid0.Coords) (i : Fin 512)

/-- What the body writes of the gates. -/
theorem body_gates (n : Fin 3072) : out0_26 (F := Ideal) g x0 x1 x2 x3 x4 x5 x6 x7 x8 x9 x10 x11 x12 x13 x14 x15 x16 (ix3 0 i n)
      = Ideal.logistic (project (fun j => x0 (ix3 0 i j)) (fun j => x5 (ix2 0 j)) (fun j => x4 (ix3 0 0 j)) (fun j => x3 (ix3 0 0 j)) (fun k => x6 (ix2 k ⟨3968 + n.val, by omega⟩))) := by
  unfold out0_26 k0_pay58
  simp (disch := decide) only [View.canon_cons_unit_lit', View.ld_unit_lit']
  exact gates_out x5 x3 x4 x0 x1 x2 _ (fun k n => x6 (ix2 k ⟨3968 + n.val, by omega⟩)) (fun k n => ld_gates x6 k n) i n

variable (q : Fin 16) (hg : (g 1).val = q.val) (X : Fin 8192 → Fin 1024 → EReal)
  (o : Fin 512) (t : Fin 8192) (ht : t.val = 512 * q.val + i.val)
  (hx : ∀ (i : Fin 512) (t : Fin 8192), t.val = 512 * q.val + i.val → ∀ j, x0 (ix3 0 i j) = X t j)
  (hp : ∀ t : Fin 8192, t.val + 1 = 512 * q.val → ∀ j, x1 (ix3 0 (7 : Fin 8) j) = X t j)
  (hn : ∀ t : Fin 8192, t.val = 512 * q.val + 512 → ∀ j, x2 (ix3 0 (0 : Fin 8) j) = X t j)

/-- The convolved rows, from the blocks. -/
theorem hyena_out (w : Vec Ideal S1024x1536 .bf16) (w0 w1 w2 : Vec Ideal S1x1536 .f32) (n : Fin 1536) (hg : (g 1).val = q.val) (ht : t.val = 512 * q.val + i.val)
    (hx : ∀ (i : Fin 512) (t : Fin 8192), t.val = 512 * q.val + i.val → ∀ j, x0 (ix3 0 i j) = X t j)
    (hp : ∀ t : Fin 8192, t.val + 1 = 512 * q.val → ∀ j, x1 (ix3 0 (7 : Fin 8) j) = X t j)
    (hn : ∀ t : Fin 8192, t.val = 512 * q.val + 512 → ∀ j, x2 (ix3 0 (0 : Fin 8) j) = X t j)
    (hw : ∀ k, w (ix2 k n) = x6 (ix2 k ⟨2432 + n.val, by omega⟩))
    (h0 : w0 (ix2 0 n) = x15 (ix2 0 n)) (h1 : w1 (ix2 0 n) = x15 (ix2 1 n)) (h2 : w2 (ix2 0 n) = x15 (ix2 2 n)) :
    k0_pay54 (F := Ideal) (BitVec.ofNat 32 (g 1).val) (k0_pay52 (F := Ideal) (k0_pay4 (F := Ideal) x5 x3 x4 x0 x1 x2) w)
        (k0_pay53 (F := Ideal) (BitVec.ofNat 32 (g 1).val) (k0_pay4 (F := Ideal) x5 x3 x4 x0 x1 x2) w) 15#32 w0 w1 w2 x16 (ix2 i n)
      = column X (fun j => x5 (ix2 0 j)) (fun j => x4 (ix3 0 0 j)) (fun j => x3 (ix3 0 0 j)) (fun k => x6 (ix2 k ⟨2432 + n.val, by omega⟩))
        (x15 (ix2 0 n)) (x15 (ix2 1 n)) (x15 (ix2 2 n)) (x16 (ix2 0 n)) t := by
  rw [pay54_eq, hg, column_at X q x5 x3 x4 x0 x1 x2 w w0 w1 w2 x16 i n t ht hx hp hn, h0, h1, h2]
  simp only [hw]

include hg ht hx hp hn

/-- What it writes of the convolved results, from blocks of the arrays. -/
theorem body_z : out0_23 (F := Ideal) g x0 x1 x2 x3 x4 x5 x6 x7 x8 x9 x10 x11 x12 x13 x14 x15 x16 (ix3 0 i o)
      = column X (fun j => x5 (ix2 0 j)) (fun j => x4 (ix3 0 0 j)) (fun j => x3 (ix3 0 0 j)) (fun k => x6 (ix2 k ⟨2432 + (0 + o.val), by omega⟩))
        (x15 (ix2 0 ⟨0 + o.val, by omega⟩)) (x15 (ix2 1 ⟨0 + o.val, by omega⟩)) (x15 (ix2 2 ⟨0 + o.val, by omega⟩)) (x16 (ix2 0 ⟨0 + o.val, by omega⟩)) t := by
  unfold out0_23 k0_pay65 k0_pay64 k0_pay57
  simp (disch := decide) only [View.canon_cons_unit_lit', View.ld_unit_lit']
  rw [part0_at, show (⟨o.val, by omega⟩ : Fin 1536) = ⟨0 + o.val, by omega⟩ from Fin.ext (Nat.zero_add o.val).symm]
  exact hyena_out x0 x1 x2 x3 x4 x5 x6 x15 x16 g i q X t _ _ _ _ _ hg ht hx hp hn (fun k => ld_hyena x6 k _) (ld_tap0 x15 _) (ld_tap1 x15 _) (ld_tap2 x15 _)
theorem body_x1 : out0_24 (F := Ideal) g x0 x1 x2 x3 x4 x5 x6 x7 x8 x9 x10 x11 x12 x13 x14 x15 x16 (ix3 0 i o)
      = column X (fun j => x5 (ix2 0 j)) (fun j => x4 (ix3 0 0 j)) (fun j => x3 (ix3 0 0 j)) (fun k => x6 (ix2 k ⟨2432 + (512 + o.val), by omega⟩))
        (x15 (ix2 0 ⟨512 + o.val, by omega⟩)) (x15 (ix2 1 ⟨512 + o.val, by omega⟩)) (x15 (ix2 2 ⟨512 + o.val, by omega⟩)) (x16 (ix2 0 ⟨512 + o.val, by omega⟩)) t := by
  unfold out0_24 k0_pay65 k0_pay64 k0_pay57
  simp (disch := decide) only [View.canon_cons_unit_lit', View.ld_unit_lit']
  rw [part1_at]
  exact hyena_out x0 x1 x2 x3 x4 x5 x6 x15 x16 g i q X t _ _ _ _ _ hg ht hx hp hn (fun k => ld_hyena x6 k _) (ld_tap0 x15 _) (ld_tap1 x15 _) (ld_tap2 x15 _)
theorem body_x2 : out0_25 (F := Ideal) g x0 x1 x2 x3 x4 x5 x6 x7 x8 x9 x10 x11 x12 x13 x14 x15 x16 (ix3 0 i o)
      = column X (fun j => x5 (ix2 0 j)) (fun j => x4 (ix3 0 0 j)) (fun j => x3 (ix3 0 0 j)) (fun k => x6 (ix2 k ⟨2432 + (1024 + o.val), by omega⟩))
        (x15 (ix2 0 ⟨1024 + o.val, by omega⟩)) (x15 (ix2 1 ⟨1024 + o.val, by omega⟩)) (x15 (ix2 2 ⟨1024 + o.val, by omega⟩)) (x16 (ix2 0 ⟨1024 + o.val, by omega⟩)) t := by
  unfold out0_25 k0_pay65 k0_pay64 k0_pay57
  simp (disch := decide) only [View.canon_cons_unit_lit', View.ld_unit_lit']
  rw [part2_at]
  exact hyena_out x0 x1 x2 x3 x4 x5 x6 x15 x16 g i q X t _ _ _ _ _ hg ht hx hp hn (fun k => ld_hyena x6 k _) (ld_tap0 x15 _) (ld_tap1 x15 _) (ld_tap2 x15 _)

end

variable (m : (ℓ : Loc nD τ sig) → Buf (Elt Ideal) ℓ) (c : Dev nD)

/-- The windows' block indices: batch and run of rows; eight rows before and after. -/
theorem idx : ∀ t : Fin cfg0.N, t.val < 64 ∧ ((grid0.coords t) 1).val = t.val % 16 ∧ win0_0.index t = ![t.val / 16, t.val % 16, 0]
    ∧ win0_1.index t = ![t.val / 16, t.val % 16 * 64 - 1, 0] ∧ win0_2.index t = ![t.val / 16, min ((t.val % 16 + 1) * 64) 1023, 0]
    ∧ win0_3.index t = ![t.val / 16, 0, 0] ∧ win0_4.index t = ![t.val / 16, 0, 0] ∧ win0_5.index t = ![0, 0]
    ∧ win0_6.index t = ![0, 0] ∧ win0_15.index t = ![0, 0] ∧ win0_16.index t = ![0, 0]
    ∧ win0_23.index t = ![t.val / 16, t.val % 16, 0] ∧ win0_24.index t = ![t.val / 16, t.val % 16, 0]
    ∧ win0_25.index t = ![t.val / 16, t.val % 16, 0] ∧ win0_26.index t = ![t.val / 16, t.val % 16, 0] :=
  (by decide +kernel : ∀ t : Fin grid0.N, _)

/-- A block read from its array. -/
theorem read_here (X : Vec Ideal S4x8192x1024 .f32) (t : Fin cfg0.N) (i : Fin 512) (j : Fin 1024) (b : Fin 4) (r : Fin 8192) (hb : b.val = t.val / 16) (hr : r.val = 512 * (t.val % 16) + i.val) :
    ((cfg0.win 0).blk t).view.read (Elt Ideal) X (ix3 0 i j) = X (ix3 b r j) :=
  congrArg X (by blk_ext [idx t] : ((cfg0.win 0).blk t).view.emb (ix3 0 i j) = (ix3 b r j : S4x8192x1024.Idx))
theorem read_before (X : Vec Ideal S4x8192x1024 .f32) (t : Fin cfg0.N) (j : Fin 1024) (b : Fin 4) (r : Fin 8192) (hb : b.val = t.val / 16) (hr : r.val + 1 = 512 * (t.val % 16)) :
    ((cfg0.win 1).blk t).view.read (Elt Ideal) X (ix3 0 (7 : Fin 8) j) = X (ix3 b r j) :=
  congrArg X (by blk_ext [idx t] : ((cfg0.win 1).blk t).view.emb (ix3 0 (7 : Fin 8) j) = (ix3 b r j : S4x8192x1024.Idx))
theorem read_after (X : Vec Ideal S4x8192x1024 .f32) (t : Fin cfg0.N) (j : Fin 1024) (b : Fin 4) (r : Fin 8192) (hb : b.val = t.val / 16) (hr : r.val = 512 * (t.val % 16) + 512) :
    ((cfg0.win 2).blk t).view.read (Elt Ideal) X (ix3 0 (0 : Fin 8) j) = X (ix3 b r j) :=
  congrArg X (by blk_ext [idx t] : ((cfg0.win 2).blk t).view.emb (ix3 0 (0 : Fin 8) j) = (ix3 b r j : S4x8192x1024.Idx))
theorem read_shift (X : Vec Ideal S4x1x1024 .f32) (t : Fin cfg0.N) (j : Fin 1024) (b : Fin 4) (hb : b.val = t.val / 16) :
    ((cfg0.win 3).blk t).view.read (Elt Ideal) X (ix3 0 0 j) = X (ix3 b 0 j) :=
  congrArg X (by blk_ext [idx t] : ((cfg0.win 3).blk t).view.emb (ix3 0 0 j) = (ix3 b 0 j : S4x1x1024.Idx))
theorem read_scale (X : Vec Ideal S4x1x1024 .f32) (t : Fin cfg0.N) (j : Fin 1024) (b : Fin 4) (hb : b.val = t.val / 16) :
    ((cfg0.win 4).blk t).view.read (Elt Ideal) X (ix3 0 0 j) = X (ix3 b 0 j) :=
  congrArg X (by blk_ext [idx t] : ((cfg0.win 4).blk t).view.emb (ix3 0 0 j) = (ix3 b 0 j : S4x1x1024.Idx))
theorem read_norm (X : Vec Ideal S1x1024 .f32) (t : Fin cfg0.N) (j : Fin 1024) :
    ((cfg0.win 5).blk t).view.read (Elt Ideal) X (ix2 0 j) = X (ix2 0 j) :=
  congrArg X (by blk_ext [idx t] : ((cfg0.win 5).blk t).view.emb (ix2 0 j) = (ix2 0 j : S1x1024.Idx))
theorem read_w (X : Vec Ideal S1024x7040 .bf16) (t : Fin cfg0.N) (k : Fin 1024) (n : Fin 7040) :
    ((cfg0.win 6).blk t).view.read (Elt Ideal) X (ix2 k n) = X (ix2 k n) :=
  congrArg X (by blk_ext [idx t] : ((cfg0.win 6).blk t).view.emb (ix2 k n) = (ix2 k n : S1024x7040.Idx))
theorem read_cw (X : Vec Ideal S3x1536 .f32) (t : Fin cfg0.N) (k : Fin 3) (n : Fin 1536) :
    ((cfg0.win 15).blk t).view.read (Elt Ideal) X (ix2 k n) = X (ix2 k n) :=
  congrArg X (by blk_ext [idx t] : ((cfg0.win 15).blk t).view.emb (ix2 k n) = (ix2 k n : S3x1536.Idx))
theorem read_cb (X : Vec Ideal S1x1536 .f32) (t : Fin cfg0.N) (n : Fin 1536) :
    ((cfg0.win 16).blk t).view.read (Elt Ideal) X (ix2 0 n) = X (ix2 0 n) :=
  congrArg X (by blk_ext [idx t] : ((cfg0.win 16).blk t).view.emb (ix2 0 n) = (ix2 0 n : S1x1536.Idx))
theorem emb_z (t : Fin cfg0.N) (i : Fin 512) (j : Fin 512) (b : Fin 4) (r : Fin 8192) (hb : b.val = t.val / 16) (hr : r.val = 512 * (t.val % 16) + i.val) :
    ((cfg0.win 23).blk t).view.emb (ix3 0 i j) = (ix3 b r j : S4x8192x512.Idx) := by
  blk_ext [idx t]
theorem emb_x1 (t : Fin cfg0.N) (i : Fin 512) (j : Fin 512) (b : Fin 4) (r : Fin 8192) (hb : b.val = t.val / 16) (hr : r.val = 512 * (t.val % 16) + i.val) :
    ((cfg0.win 24).blk t).view.emb (ix3 0 i j) = (ix3 b r j : S4x8192x512.Idx) := by
  blk_ext [idx t]
theorem emb_x2 (t : Fin cfg0.N) (i : Fin 512) (j : Fin 512) (b : Fin 4) (r : Fin 8192) (hb : b.val = t.val / 16) (hr : r.val = 512 * (t.val % 16) + i.val) :
    ((cfg0.win 25).blk t).view.emb (ix3 0 i j) = (ix3 b r j : S4x8192x512.Idx) := by
  blk_ext [idx t]
theorem emb_gates (t : Fin cfg0.N) (i : Fin 512) (j : Fin 3072) (b : Fin 4) (r : Fin 8192) (hb : b.val = t.val / 16) (hr : r.val = 512 * (t.val % 16) + i.val) :
    ((cfg0.win 26).blk t).view.emb (ix3 0 i j) = (ix3 b r j : S4x8192x3072.Idx) := by
  blk_ext [idx t]

/-- Operations in two lines, one after the other. -/
theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- What the buffers hold when the pieces of the packed weights are put together. -/
def cut : Valuation τ sig (Elt Ideal) :=
  StableHlo.after (hostOps0 ++ (hostOps0_1 ++ (hostOps0_2 ++ (hostOps0_3 ++ hostOps0_4.take 8)))) (fun b => m (c, b))
theorem V_cut (b : Ref sig .tc) : V m c b = StableHlo.after (hostOps0_4.drop 8 ++ (hostOps0_5 ++ hostOps0_6)) (cut m c) (Proc.tc.devRef b) := by
  unfold cut
  rw [← after_append]
  rfl
/-- The packed weights: eight pieces side by side, rounded. -/
theorem packed (σ : Valuation τ sig (Elt Ideal)) :
    (StableHlo.after (hostOps0_4.drop 8 ++ (hostOps0_5 ++ hostOps0_6)) σ (Proc.tc.devRef main_v22) : FVec Ideal S1024x7040 .bf16)
      = truncf (F := Ideal) .bf16 (concatenate S1024x7040 1 [⟨S1024x1024, (σ (Proc.tc.devRef main_v11) : FVec Ideal S1024x1024 .f32)⟩, ⟨S1024x256, (σ (Proc.tc.devRef main_v2) : FVec Ideal S1024x256 .f32)⟩,
          ⟨S1024x128, (σ (Proc.tc.devRef main_v12) : FVec Ideal S1024x128 .f32)⟩, ⟨S1024x512, (σ (Proc.tc.devRef main_v4) : FVec Ideal S1024x512 .f32)⟩,
          ⟨S1024x256, (σ (Proc.tc.devRef main_v16) : FVec Ideal S1024x256 .f32)⟩, ⟨S1024x256, (σ (Proc.tc.devRef main_v20) : FVec Ideal S1024x256 .f32)⟩,
          ⟨S1024x1536, (σ (Proc.tc.devRef main_v7) : FVec Ideal S1024x1536 .f32)⟩, ⟨S1024x3072, (σ (Proc.tc.devRef main_v8) : FVec Ideal S1024x3072 .f32)⟩]
        concatenates_S1024x1024_S1024x256_S1024x128_S1024x512_S1024x256_S1024x256_S1024x1536_S1024x3072_S1024x7040_d1) bitsLt_bf16_f32 := by
  rw [show (hostOps0_4.drop 8 ++ (hostOps0_5 ++ hostOps0_6) : List (HloOp τ sig (Elt Ideal))) = (hostOps0_4.drop 8).take 2 ++ (hostOps0_4.drop 10 ++ (hostOps0_5 ++ hostOps0_6)) from rfl, after_append]
  refine (StableHlo.after_of_forall_not_mem (b := Proc.devRef .tc main_v22) _ _ (List.forall_iff_forall_mem.mp (by
    simp only [hostOps0_4, hostOps0_5, hostOps0_6, List.drop_succ_cons, List.drop_zero, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))).trans ?_
  simp only [hostOps0_4, List.drop_succ_cons, List.drop_zero, List.take_succ_cons, List.take_zero, StableHlo.after_cons, StableHlo.after_nil]
  refine (StableHlo.unary_result main_v21 main_v22 _ _ _ _).trans ?_
  exact (congrArg (fun x : FVec Ideal S1024x7040 .f32 => truncf (F := Ideal) .bf16 x bitsLt_bf16_f32)
    (StableHlo.nary_result ![main_v11, main_v2, main_v12, main_v4, main_v16, main_v20, main_v7, main_v8] main_v21 _ _ _ σ))
theorem concat_hyena (a0 : FVec Ideal S1024x1024 .f32) (a1 : FVec Ideal S1024x256 .f32) (a2 : FVec Ideal S1024x128 .f32) (a3 : FVec Ideal S1024x512 .f32) (a4 a5 : FVec Ideal S1024x256 .f32)
    (a6 : FVec Ideal S1024x1536 .f32) (a7 : FVec Ideal S1024x3072 .f32) (k : Fin 1024) (n : Fin 1536) :
    (truncf (F := Ideal) .bf16 (concatenate S1024x7040 1 [⟨S1024x1024, a0⟩, ⟨S1024x256, a1⟩, ⟨S1024x128, a2⟩, ⟨S1024x512, a3⟩, ⟨S1024x256, a4⟩, ⟨S1024x256, a5⟩, ⟨S1024x1536, a6⟩, ⟨S1024x3072, a7⟩]
        concatenates_S1024x1024_S1024x256_S1024x128_S1024x512_S1024x256_S1024x256_S1024x1536_S1024x3072_S1024x7040_d1) bitsLt_bf16_f32 : FVec Ideal S1024x7040 .bf16) (ix2 k ⟨2432 + n.val, by omega⟩)
      = a6 (ix2 k n) := by
  pointwise
  rw [dif_neg (by omega), dif_neg (by omega), dif_neg (by omega), dif_neg (by omega), dif_neg (by omega), dif_neg (by omega), dif_pos (by omega)]
  exact congrArg (fun x => a6 (ix2 k x)) (Fin.ext (show 2432 + n.val - 1024 - 256 - 128 - 512 - 256 - 256 = n.val by omega))
theorem concat_gates (a0 : FVec Ideal S1024x1024 .f32) (a1 : FVec Ideal S1024x256 .f32) (a2 : FVec Ideal S1024x128 .f32) (a3 : FVec Ideal S1024x512 .f32) (a4 a5 : FVec Ideal S1024x256 .f32)
    (a6 : FVec Ideal S1024x1536 .f32) (a7 : FVec Ideal S1024x3072 .f32) (k : Fin 1024) (n : Fin 3072) :
    (truncf (F := Ideal) .bf16 (concatenate S1024x7040 1 [⟨S1024x1024, a0⟩, ⟨S1024x256, a1⟩, ⟨S1024x128, a2⟩, ⟨S1024x512, a3⟩, ⟨S1024x256, a4⟩, ⟨S1024x256, a5⟩, ⟨S1024x1536, a6⟩, ⟨S1024x3072, a7⟩]
        concatenates_S1024x1024_S1024x256_S1024x128_S1024x512_S1024x256_S1024x256_S1024x1536_S1024x3072_S1024x7040_d1) bitsLt_bf16_f32 : FVec Ideal S1024x7040 .bf16) (ix2 k ⟨3968 + n.val, by omega⟩)
      = a7 (ix2 k n) := by
  pointwise
  rw [dif_neg (by omega), dif_neg (by omega), dif_neg (by omega), dif_neg (by omega), dif_neg (by omega), dif_neg (by omega), dif_neg (by omega)]
  exact congrArg (fun x => a7 (ix2 k x)) (Fin.ext (show 3968 + n.val - 1024 - 256 - 128 - 512 - 256 - 256 - 1536 = n.val by omega))
theorem cut_hyena (k : Fin 1024) (n : Fin 1536) : (cut m c (Proc.tc.devRef main_v7) : FVec Ideal S1024x1536 .f32) (ix2 k n)
    = (m ((c.tc : Thread nD τ).loc main_arg4) : FVec Ideal S1024x6432 .f32) (ix2 k ⟨1824 + n.val, by omega⟩) := by
  unfold cut
  simp only [hostOps0, hostOps0_1, hostOps0_2, hostOps0_3, hostOps0_4, List.take_succ_cons, List.take_zero, List.cons_append, List.nil_append]
  entry_read
  pointwise
theorem cut_gates (k : Fin 1024) (n : Fin 3072) : (cut m c (Proc.tc.devRef main_v8) : FVec Ideal S1024x3072 .f32) (ix2 k n)
    = (m ((c.tc : Thread nD τ).loc main_arg4) : FVec Ideal S1024x6432 .f32) (ix2 k ⟨3360 + n.val, by omega⟩) := by
  unfold cut
  simp only [hostOps0, hostOps0_1, hostOps0_2, hostOps0_3, hostOps0_4, List.take_succ_cons, List.take_zero, List.cons_append, List.nil_append]
  entry_read
  pointwise
theorem w_hyena_at (k : Fin 1024) (n : Fin 1536) : (V m c main_v22 : Vec Ideal S1024x7040 .bf16) (ix2 k ⟨2432 + n.val, by omega⟩)
    = (m ((c.tc : Thread nD τ).loc main_arg4) : FVec Ideal S1024x6432 .f32) (ix2 k ⟨1824 + n.val, by omega⟩) :=
  (congrFun ((V_cut m c main_v22).trans (packed (cut m c))) _).trans ((concat_hyena _ _ _ _ _ _ _ _ k n).trans (cut_hyena m c k n))
theorem w_gates_at (k : Fin 1024) (n : Fin 3072) : (V m c main_v22 : Vec Ideal S1024x7040 .bf16) (ix2 k ⟨3968 + n.val, by omega⟩)
    = (m ((c.tc : Thread nD τ).loc main_arg4) : FVec Ideal S1024x6432 .f32) (ix2 k ⟨3360 + n.val, by omega⟩) :=
  (congrFun ((V_cut m c main_v22).trans (packed (cut m c))) _).trans ((concat_gates _ _ _ _ _ _ _ _ k n).trans (cut_gates m c k n))

/-- The operands, laid out from the arguments. -/
theorem norm_at (j : Fin 1024) : (V m c main_v0 : Vec Ideal S1x1024 .f32) (ix2 0 j) = (m ((c.tc : Thread nD τ).loc main_arg3) : Vec Ideal S1024 .f32) (ix1 j) := by
  simp only [V, hostOps0, hostOps0_1, hostOps0_2, hostOps0_3, hostOps0_4, hostOps0_5, hostOps0_6, List.flatten_cons, List.flatten_nil, List.append_nil, List.cons_append, List.nil_append]
  entry_read
  pointwise
theorem cb_at (n : Fin 1536) : (V m c main_v32 : Vec Ideal S1x1536 .f32) (ix2 0 n) = (m ((c.tc : Thread nD τ).loc main_arg8) : Vec Ideal S1536 .f32) (ix1 n) := by
  simp only [V, hostOps0, hostOps0_1, hostOps0_2, hostOps0_3, hostOps0_4, hostOps0_5, hostOps0_6, List.flatten_cons, List.flatten_nil, List.append_nil, List.cons_append, List.nil_append]
  entry_read
  pointwise

/-- The staged blocks read from the arguments. -/
theorem staged_here (t : Fin cfg0.N) (i : Fin 512) (j : Fin 1024) (b : Fin 4) (r : Fin 8192) (hb : b.val = t.val / 16) (hr : r.val = 512 * (t.val % 16) + i.val) :
    (iblk m c 0 t : Vec Ideal S1x512x1024 .f32) (ix3 0 i j) = (m ((c.tc : Thread nD τ).loc main_arg0) : Vec Ideal S4x8192x1024 .f32) (ix3 b r j) := by
  unfold iblk
  refine (read_here (V m c (Pipeline.arrRef spec0 0)) t i j b r hb hr).trans ?_
  exact congrFun (V_main_arg0 m c) _
theorem staged_before (t : Fin cfg0.N) (j : Fin 1024) (b : Fin 4) (r : Fin 8192) (hb : b.val = t.val / 16) (hr : r.val + 1 = 512 * (t.val % 16)) :
    (iblk m c 1 t : Vec Ideal S1x8x1024 .f32) (ix3 0 (7 : Fin 8) j) = (m ((c.tc : Thread nD τ).loc main_arg0) : Vec Ideal S4x8192x1024 .f32) (ix3 b r j) := by
  unfold iblk
  refine (read_before (V m c (Pipeline.arrRef spec0 1)) t j b r hb hr).trans ?_
  exact congrFun (V_main_arg0 m c) _
theorem staged_after (t : Fin cfg0.N) (j : Fin 1024) (b : Fin 4) (r : Fin 8192) (hb : b.val = t.val / 16) (hr : r.val = 512 * (t.val % 16) + 512) :
    (iblk m c 2 t : Vec Ideal S1x8x1024 .f32) (ix3 0 (0 : Fin 8) j) = (m ((c.tc : Thread nD τ).loc main_arg0) : Vec Ideal S4x8192x1024 .f32) (ix3 b r j) := by
  unfold iblk
  refine (read_after (V m c (Pipeline.arrRef spec0 2)) t j b r hb hr).trans ?_
  exact congrFun (V_main_arg0 m c) _
theorem staged_shift (t : Fin cfg0.N) (j : Fin 1024) (b : Fin 4) (hb : b.val = t.val / 16) :
    (iblk m c 3 t : Vec Ideal S1x1x1024 .f32) (ix3 0 0 j) = (m ((c.tc : Thread nD τ).loc main_arg1) : Vec Ideal S4x1x1024 .f32) (ix3 b 0 j) := by
  unfold iblk
  refine (read_shift (V m c (Pipeline.arrRef spec0 3)) t j b hb).trans ?_
  exact congrFun (V_main_arg1 m c) _
theorem staged_scale (t : Fin cfg0.N) (j : Fin 1024) (b : Fin 4) (hb : b.val = t.val / 16) :
    (iblk m c 4 t : Vec Ideal S1x1x1024 .f32) (ix3 0 0 j) = (m ((c.tc : Thread nD τ).loc main_arg2) : Vec Ideal S4x1x1024 .f32) (ix3 b 0 j) := by
  unfold iblk
  refine (read_scale (V m c (Pipeline.arrRef spec0 4)) t j b hb).trans ?_
  exact congrFun (V_main_arg2 m c) _
theorem staged_norm (t : Fin cfg0.N) (j : Fin 1024) :
    (iblk m c 5 t : Vec Ideal S1x1024 .f32) (ix2 0 j) = (m ((c.tc : Thread nD τ).loc main_arg3) : Vec Ideal S1024 .f32) (ix1 j) := by
  unfold iblk
  refine (read_norm (V m c (Pipeline.arrRef spec0 5)) t j).trans ?_
  exact norm_at m c j
theorem staged_hyena (t : Fin cfg0.N) (k : Fin 1024) (n : Fin 1536) :
    (iblk m c 6 t : Vec Ideal S1024x7040 .bf16) (ix2 k ⟨2432 + n.val, by omega⟩) = (m ((c.tc : Thread nD τ).loc main_arg4) : Vec Ideal S1024x6432 .f32) (ix2 k ⟨1824 + n.val, by omega⟩) := by
  unfold iblk
  refine (read_w (V m c (Pipeline.arrRef spec0 6)) t k _).trans ?_
  exact w_hyena_at m c k n
theorem staged_gates (t : Fin cfg0.N) (k : Fin 1024) (n : Fin 3072) :
    (iblk m c 6 t : Vec Ideal S1024x7040 .bf16) (ix2 k ⟨3968 + n.val, by omega⟩) = (m ((c.tc : Thread nD τ).loc main_arg4) : Vec Ideal S1024x6432 .f32) (ix2 k ⟨3360 + n.val, by omega⟩) := by
  unfold iblk
  refine (read_w (V m c (Pipeline.arrRef spec0 6)) t k _).trans ?_
  exact w_gates_at m c k n
theorem staged_cw (t : Fin cfg0.N) (k : Fin 3) (n : Fin 1536) :
    (iblk m c 15 t : Vec Ideal S3x1536 .f32) (ix2 k n) = (m ((c.tc : Thread nD τ).loc main_arg7) : Vec Ideal S3x1536 .f32) (ix2 k n) := by
  unfold iblk
  refine (read_cw (V m c (Pipeline.arrRef spec0 15)) t k n).trans ?_
  exact congrFun (V_main_arg7 m c) _
theorem staged_cb (t : Fin cfg0.N) (n : Fin 1536) :
    (iblk m c 16 t : Vec Ideal S1x1536 .f32) (ix2 0 n) = (m ((c.tc : Thread nD τ).loc main_arg8) : Vec Ideal S1536 .f32) (ix1 n) := by
  unfold iblk
  refine (read_cb (V m c (Pipeline.arrRef spec0 16)) t n).trans ?_
  exact cb_at m c n

variable (m' : (ℓ : Loc Cert.Reference4Ideal.nD Cert.Reference4Ideal.τ Cert.Reference4Ideal.sig) → Buf (Elt Ideal) ℓ)

/-- The arguments that the results depend on are the kernel's. -/
structure Agree : Prop where
  h0 : (m' ((c.tc : Thread Cert.Reference4Ideal.nD Cert.Reference4Ideal.τ).loc Cert.Reference4Ideal.main_arg0) : FVec Ideal S4x8192x1024 .f32) = m ((c.tc : Thread nD τ).loc main_arg0)
  h1 : (m' ((c.tc : Thread Cert.Reference4Ideal.nD Cert.Reference4Ideal.τ).loc Cert.Reference4Ideal.main_arg1) : FVec Ideal S4x1x1024 .f32) = m ((c.tc : Thread nD τ).loc main_arg1)
  h2 : (m' ((c.tc : Thread Cert.Reference4Ideal.nD Cert.Reference4Ideal.τ).loc Cert.Reference4Ideal.main_arg2) : FVec Ideal S4x1x1024 .f32) = m ((c.tc : Thread nD τ).loc main_arg2)
  h3 : (m' ((c.tc : Thread Cert.Reference4Ideal.nD Cert.Reference4Ideal.τ).loc Cert.Reference4Ideal.main_arg3) : FVec Ideal S1024 .f32) = m ((c.tc : Thread nD τ).loc main_arg3)
  h4 : (m' ((c.tc : Thread Cert.Reference4Ideal.nD Cert.Reference4Ideal.τ).loc Cert.Reference4Ideal.main_arg4) : FVec Ideal S1024x6432 .f32) = m ((c.tc : Thread nD τ).loc main_arg4)
  h7 : (m' ((c.tc : Thread Cert.Reference4Ideal.nD Cert.Reference4Ideal.τ).loc Cert.Reference4Ideal.main_arg7) : FVec Ideal S3x1536 .f32) = m ((c.tc : Thread nD τ).loc main_arg7)
  h8 : (m' ((c.tc : Thread Cert.Reference4Ideal.nD Cert.Reference4Ideal.τ).loc Cert.Reference4Ideal.main_arg8) : FVec Ideal S1536 .f32) = m ((c.tc : Thread nD τ).loc main_arg8)

/-- A column of the convolution over the staged blocks is the reference's. -/
theorem hyena_staged (A : Agree m c m') (t : Fin cfg0.N) (b : Fin 4) (r : Fin 8192) (hb : b.val = t.val / 16) (n : Fin 1536) :
    column (fun u j => (m ((c.tc : Thread nD τ).loc main_arg0) : Vec Ideal S4x8192x1024 .f32) (ix3 b u j)) (fun j => (iblk m c 5 t : Vec Ideal S1x1024 .f32) (ix2 0 j))
        (fun j => (iblk m c 4 t : Vec Ideal S1x1x1024 .f32) (ix3 0 0 j)) (fun j => (iblk m c 3 t : Vec Ideal S1x1x1024 .f32) (ix3 0 0 j))
        (fun k => (iblk m c 6 t : Vec Ideal S1024x7040 .bf16) (ix2 k ⟨2432 + n.val, by omega⟩)) ((iblk m c 15 t : Vec Ideal S3x1536 .f32) (ix2 0 n))
        ((iblk m c 15 t : Vec Ideal S3x1536 .f32) (ix2 1 n)) ((iblk m c 15 t : Vec Ideal S3x1536 .f32) (ix2 2 n)) ((iblk m c 16 t : Vec Ideal S1x1536 .f32) (ix2 0 n)) r
      = Cert.Reference4Ideal.At.hyena m' c b r n := by
  obtain ⟨h0, h1, h2, h3, h4, h7, h8⟩ := A
  unfold Cert.Reference4Ideal.At.hyena
  rw [funext fun j => staged_norm m c t j, funext fun j => staged_scale m c t j b hb, funext fun j => staged_shift m c t j b hb, funext fun k => staged_hyena m c t k n,
    staged_cw m c t 0 n, staged_cw m c t 1 n, staged_cw m c t 2 n, staged_cb m c t n, h0, h1, h2, h3, h4, h7, h8]

/-- At every point, what the body writes at a row and lane is the reference's result there. -/
theorem point_z (A : Agree m c m') (t : Fin cfg0.N) (i : Fin 512) (o : Fin 512) (b : Fin 4) (r : Fin 8192) (hb : b.val = t.val / 16) (hr : r.val = 512 * (t.val % 16) + i.val) :
    out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 0 i o) = (Cert.Reference4Ideal.Value.res_main_v45 m' c : FVec Ideal S4x8192x512 .f32) (ix3 b r o) := by
  have hq : t.val % 16 < 16 := Nat.mod_lt _ (by decide)
  refine (body_z _ _ _ _ _ _ _ _ _ _ _ _ _ _ _ _ _ (grid0.coords t) i ⟨t.val % 16, hq⟩ (idx t).2.1 (fun u j => (m ((c.tc : Thread nD τ).loc main_arg0) : Vec Ideal S4x8192x1024 .f32) (ix3 b u j)) o r hr
    (fun i u hu j => staged_here m c t i j b u hb hu) (fun u hu j => staged_before m c t j b u hb hu) (fun u hu j => staged_after m c t j b u hb hu)).trans ?_
  rw [Cert.Reference4Ideal.At.z_at]
  exact (hyena_staged m c m' A t b r hb ⟨0 + o.val, by omega⟩).trans (congrArg (Cert.Reference4Ideal.At.hyena m' c b r) (Fin.ext (Nat.zero_add o.val)))

theorem point_x1 (A : Agree m c m') (t : Fin cfg0.N) (i : Fin 512) (o : Fin 512) (b : Fin 4) (r : Fin 8192) (hb : b.val = t.val / 16) (hr : r.val = 512 * (t.val % 16) + i.val) :
    out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 0 i o) = (Cert.Reference4Ideal.Value.res_main_v46 m' c : FVec Ideal S4x8192x512 .f32) (ix3 b r o) := by
  have hq : t.val % 16 < 16 := Nat.mod_lt _ (by decide)
  refine (body_x1 _ _ _ _ _ _ _ _ _ _ _ _ _ _ _ _ _ (grid0.coords t) i ⟨t.val % 16, hq⟩ (idx t).2.1 (fun u j => (m ((c.tc : Thread nD τ).loc main_arg0) : Vec Ideal S4x8192x1024 .f32) (ix3 b u j)) o r hr
    (fun i u hu j => staged_here m c t i j b u hb hu) (fun u hu j => staged_before m c t j b u hb hu) (fun u hu j => staged_after m c t j b u hb hu)).trans ?_
  rw [Cert.Reference4Ideal.At.x1_at]
  exact (hyena_staged m c m' A t b r hb ⟨512 + o.val, by omega⟩)

theorem point_x2 (A : Agree m c m') (t : Fin cfg0.N) (i : Fin 512) (o : Fin 512) (b : Fin 4) (r : Fin 8192) (hb : b.val = t.val / 16) (hr : r.val = 512 * (t.val % 16) + i.val) :
    out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 0 i o) = (Cert.Reference4Ideal.Value.res_main_v47 m' c : FVec Ideal S4x8192x512 .f32) (ix3 b r o) := by
  have hq : t.val % 16 < 16 := Nat.mod_lt _ (by decide)
  refine (body_x2 _ _ _ _ _ _ _ _ _ _ _ _ _ _ _ _ _ (grid0.coords t) i ⟨t.val % 16, hq⟩ (idx t).2.1 (fun u j => (m ((c.tc : Thread nD τ).loc main_arg0) : Vec Ideal S4x8192x1024 .f32) (ix3 b u j)) o r hr
    (fun i u hu j => staged_here m c t i j b u hb hu) (fun u hu j => staged_before m c t j b u hb hu) (fun u hu j => staged_after m c t j b u hb hu)).trans ?_
  rw [Cert.Reference4Ideal.At.x2_at]
  exact (hyena_staged m c m' A t b r hb ⟨1024 + o.val, by omega⟩)

theorem point_gates (A : Agree m c m') (t : Fin cfg0.N) (i : Fin 512) (n : Fin 3072) (b : Fin 4) (r : Fin 8192) (hb : b.val = t.val / 16) (hr : r.val = 512 * (t.val % 16) + i.val) :
    out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 0 i n) = (Cert.Reference4Ideal.At.gates (Cert.Reference4Ideal.At.projections m' c) : FVec Ideal S4x8192x3072 .bf16) (ix3 b r n) := by
  obtain ⟨h0, h1, h2, h3, h4, h7, h8⟩ := A
  rw [body_gates, Cert.Reference4Ideal.At.gate_at, funext fun j => staged_here m c t i j b r hb hr, funext fun j => staged_norm m c t j, funext fun j => staged_scale m c t j b hb,
    funext fun j => staged_shift m c t j b hb, funext fun k => staged_gates m c t k n, h0, h1, h2, h3, h4]

/-- The kernel's result arrays are the reference's. -/
theorem final_z (A : Agree m c m') : (dats m 0 c).arrAt 23 cfg0.N = (Cert.Reference4Ideal.Value.res_main_v45 m' c : FVec Ideal S4x8192x512 .f32) := by
  refine (dats m 0 c).arrAt_eq_of_covers 23 _ (by decide +kernel) fun t _ y => ?_
  have ht := (idx t).1
  blk_simp
  rw [after0_23]
  have h0 : (y 0).val < 1 := (y 0).isLt
  have h1 : (y 1).val < 512 := (y 1).isLt
  have h2 : (y 2).val < 512 := (y 2).isLt
  have e : y = (ix3 0 (⟨(y 1).val, h1⟩ : Fin 512) (⟨(y 2).val, h2⟩ : Fin 512) : S1x512x512.Idx) := funext fun a => Fin.ext (by
    match a with
    | ⟨0, _⟩ => show (y 0).val = 0; omega
    | ⟨1, _⟩ => rfl
    | ⟨2, _⟩ => rfl)
  rw [e]
  exact (point_z m c m' A t _ _ ⟨t.val / 16, by omega⟩ ⟨512 * (t.val % 16) + (y 1).val, by omega⟩ rfl rfl).trans
    (congrArg (Cert.Reference4Ideal.Value.res_main_v45 m' c : FVec Ideal S4x8192x512 .f32) (emb_z t _ _ _ _ rfl rfl).symm)

theorem final_x1 (A : Agree m c m') : (dats m 0 c).arrAt 24 cfg0.N = (Cert.Reference4Ideal.Value.res_main_v46 m' c : FVec Ideal S4x8192x512 .f32) := by
  refine (dats m 0 c).arrAt_eq_of_covers 24 _ (by decide +kernel) fun t _ y => ?_
  have ht := (idx t).1
  blk_simp
  rw [after0_24]
  have h0 : (y 0).val < 1 := (y 0).isLt
  have h1 : (y 1).val < 512 := (y 1).isLt
  have h2 : (y 2).val < 512 := (y 2).isLt
  have e : y = (ix3 0 (⟨(y 1).val, h1⟩ : Fin 512) (⟨(y 2).val, h2⟩ : Fin 512) : S1x512x512.Idx) := funext fun a => Fin.ext (by
    match a with
    | ⟨0, _⟩ => show (y 0).val = 0; omega
    | ⟨1, _⟩ => rfl
    | ⟨2, _⟩ => rfl)
  rw [e]
  exact (point_x1 m c m' A t _ _ ⟨t.val / 16, by omega⟩ ⟨512 * (t.val % 16) + (y 1).val, by omega⟩ rfl rfl).trans
    (congrArg (Cert.Reference4Ideal.Value.res_main_v46 m' c : FVec Ideal S4x8192x512 .f32) (emb_x1 t _ _ _ _ rfl rfl).symm)

theorem final_x2 (A : Agree m c m') : (dats m 0 c).arrAt 25 cfg0.N = (Cert.Reference4Ideal.Value.res_main_v47 m' c : FVec Ideal S4x8192x512 .f32) := by
  refine (dats m 0 c).arrAt_eq_of_covers 25 _ (by decide +kernel) fun t _ y => ?_
  have ht := (idx t).1
  blk_simp
  rw [after0_25]
  have h0 : (y 0).val < 1 := (y 0).isLt
  have h1 : (y 1).val < 512 := (y 1).isLt
  have h2 : (y 2).val < 512 := (y 2).isLt
  have e : y = (ix3 0 (⟨(y 1).val, h1⟩ : Fin 512) (⟨(y 2).val, h2⟩ : Fin 512) : S1x512x512.Idx) := funext fun a => Fin.ext (by
    match a with
    | ⟨0, _⟩ => show (y 0).val = 0; omega
    | ⟨1, _⟩ => rfl
    | ⟨2, _⟩ => rfl)
  rw [e]
  exact (point_x2 m c m' A t _ _ ⟨t.val / 16, by omega⟩ ⟨512 * (t.val % 16) + (y 1).val, by omega⟩ rfl rfl).trans
    (congrArg (Cert.Reference4Ideal.Value.res_main_v47 m' c : FVec Ideal S4x8192x512 .f32) (emb_x2 t _ _ _ _ rfl rfl).symm)

theorem final_gates (A : Agree m c m') : (dats m 0 c).arrAt 26 cfg0.N = (Cert.Reference4Ideal.At.gates (Cert.Reference4Ideal.At.projections m' c) : FVec Ideal S4x8192x3072 .bf16) := by
  refine (dats m 0 c).arrAt_eq_of_covers 26 _ (by decide +kernel) fun t _ y => ?_
  have ht := (idx t).1
  blk_simp
  rw [after0_26]
  have h0 : (y 0).val < 1 := (y 0).isLt
  have h1 : (y 1).val < 512 := (y 1).isLt
  have h2 : (y 2).val < 3072 := (y 2).isLt
  have e : y = (ix3 0 (⟨(y 1).val, h1⟩ : Fin 512) (⟨(y 2).val, h2⟩ : Fin 3072) : S1x512x3072.Idx) := funext fun a => Fin.ext (by
    match a with
    | ⟨0, _⟩ => show (y 0).val = 0; omega
    | ⟨1, _⟩ => rfl
    | ⟨2, _⟩ => rfl)
  rw [e]
  exact (point_gates m c m' A t _ _ ⟨t.val / 16, by omega⟩ ⟨512 * (t.val % 16) + (y 1).val, by omega⟩ rfl rfl).trans
    (congrArg (Cert.Reference4Ideal.At.gates (Cert.Reference4Ideal.At.projections m' c) : FVec Ideal S4x8192x3072 .bf16) (emb_gates t _ _ _ _ rfl rfl).symm)

set_option maxHeartbeats 4000000 in
/-- The kernel's run: its results are what the proof data say, its arguments kept. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v33_6) = (dats m 0 c).arrAt 23 cfg0.N
      ∧ r.2.mem ((c.tc : Thread nD τ).loc main_v33_7) = (dats m 0 c).arrAt 24 cfg0.N
      ∧ r.2.mem ((c.tc : Thread nD τ).loc main_v33_8) = (dats m 0 c).arrAt 25 cfg0.N
      ∧ r.2.mem ((c.tc : Thread nD τ).loc main_v33_9) = (dats m 0 c).arrAt 26 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c).1 23, (h c).1 24, (h c).1 25, (h c).1 26, ((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c))),
    ((h c).1 4).trans (((dats m 0 c).arrAt_in 4 rfl _).trans ((A_eq m c 4).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 15).trans (((dats m 0 c).arrAt_in 15 rfl _).trans ((A_eq m c 15).trans (V_main_arg7 m c))),
    ((h c).2 main_arg8 (Pipeline.mem_restRefs_of main_arg8 (by decide) (by decide))).trans (V_main_arg8 m c),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).1 11).trans (((dats m 0 c).arrAt_in 11 rfl _).trans ((A_eq m c 11).trans (V_main_arg11 m c))),
    ((h c).1 12).trans (((dats m 0 c).arrAt_in 12 rfl _).trans ((A_eq m c 12).trans (V_main_arg12 m c))),
    ((h c).1 13).trans (((dats m 0 c).arrAt_in 13 rfl _).trans ((A_eq m c 13).trans (V_main_arg13 m c))),
    ((h c).1 14).trans (((dats m 0 c).arrAt_in 14 rfl _).trans ((A_eq m c 14).trans (V_main_arg14 m c)))⟩) (run_main m ρ)

end Cert.Kernel4Ideal.Block

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.ProjFrameRounded
public import proofs.«01_k».proof.Proof.Gen.Kernel4Ideal
public import proofs.«01_k».proof.Proof.ProjFrame
public import proofs.«01_k».proof.Proof.Gen.Reference4Ideal
public import proofs.«01_k».proof.Proof.Gen.Reference4Ideal.Run
public import proofs.«01_k».proof.Proof.Finite
public import proofs.«01_k».proof.Proof.Value
public import proofs.«01_k».proof.Proof.FfnValue
public import proofs.«01_k».proof.Proof.MergeValue
public import proofs.«01_k».proof.Proof.ProjValue
public import Idealize.ShloMosaic.Lib.Claim

@[expose] public section

set_option maxRecDepth 16384

noncomputable section

namespace Cert.Proof

open Idealize.ShloMosaic Idealize.SL.Sem

/-- The reference's run, its arguments kept and every semaphore at zero. -/
theorem quiescent_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m ρ)

/-- The kernel's run from a memory: its result array is what the pipeline's proof data say, its arguments kept. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (Pipeline.FramePost Cert.KernelIdeal.cfgs (Cert.KernelIdeal.Blocks.dat m) 0 (Cert.KernelIdeal.Gen.V m)) :=
  (θ_run (Cert.KernelIdeal.defs (F := Ideal)) _ _).mono (fun _ h => h.1) (Cert.KernelIdeal.Blocks.run_quiescent m g)

/-- The kernel's result is the reference's wherever the queries and keys are reals. -/
theorem algebraic : Cert.algebraic_KernelIdeal_ReferenceIdeal_pre_finite_scores := by
  pair_intro
  · run_from run_kernel m g
  · run_from Cert.ReferenceIdeal.Value.run m' g'
    obtain ⟨r0, r1, r2, r3, r5, r6⟩ := Cert.Pre_finite_scores.At.reals _ _ _ _ _ _ _ _ (hpre c)
    obtain ⟨h0, h1, h2, h3, h4, h5, h6, h7⟩ := hagree c
    exact (Cert.KernelIdeal.Blocks.final m c m' ⟨h0, h1, h2, h3, h4, h5, h6, h7, r0, r1, r2, r3, r5, r6⟩).symm

/-- The feed-forward reference's run. -/
theorem quiescent_reference2 : Cert.quiescent_Reference2Ideal := fun m ρ _ =>
  (θ_run (Cert.Reference2Ideal.defs (F := Ideal)) _ _).mono
    (fun r h => ⟨fun c => (h c).2, Idealize.ShloMosaic.sem_eq_zero_of_no_sems (by decide) r.2⟩) (Cert.Reference2Ideal.Value.run (F := Ideal) m ρ)

/-- The feed-forward kernel's result is the reference's, whatever the arguments. -/
theorem algebraic2 : Cert.algebraic_Kernel2Ideal_Reference2Ideal := by
  pair_intro
  · run_from Cert.Kernel2Ideal.Value.run_blocks m g
  · run_from Cert.Reference2Ideal.Value.run m' g'
    obtain ⟨h0, h1, h2, h3, h4, h5, h6, h7, h8, h9⟩ := hagree c
    exact (Cert.Kernel2Ideal.Block.final m c m' ⟨h0, h1, h2, h3, h4, h5, h6, h7, h8, h9⟩).symm

/-- The merge reference's run. -/
theorem quiescent_reference3 : Cert.quiescent_Reference3Ideal := fun m ρ _ =>
  (θ_run (Cert.Reference3Ideal.defs (F := Ideal)) _ _).mono
    (fun r h => ⟨fun c => (h c).2, Idealize.ShloMosaic.sem_eq_zero_of_no_sems (by decide) r.2⟩) (Cert.Reference3Ideal.Value.run (F := Ideal) m ρ)

/-- The merge kernel's result is the reference's, whatever the arguments. -/
theorem algebraic3 : Cert.algebraic_Kernel3Ideal_Reference3Ideal := by
  pair_intro
  · run_from Cert.Kernel3Ideal.Value.run_blocks m g
  · run_from Cert.Reference3Ideal.Value.run m' g'
    obtain ⟨h0, h1, h2, h3, h4, h5, h6, h7, h8⟩ := hagree c
    exact (Cert.Kernel3Ideal.Block.final m c m' ⟨h0, h1, h2, h3, h4, h5, h6, h7, h8⟩).symm

/-- The projection reference's run. -/
theorem quiescent_reference4 : Cert.quiescent_Reference4Ideal := fun m ρ _ =>
  (θ_run (Cert.Reference4Ideal.defs (F := Ideal)) _ _).mono
    (fun r h => ⟨fun c => (h c).2.2.2.2, Idealize.ShloMosaic.sem_eq_zero_of_no_sems (by decide) r.2⟩) (Cert.Reference4Ideal.Value.run (F := Ideal) m ρ)

/-- The projection kernel's four results are the reference's, whatever the arguments. -/
theorem algebraic4 : Cert.algebraic_Kernel4Ideal_Reference4Ideal := by
  pair_intro
  · run_from Cert.Kernel4Ideal.Block.run m g
  · run_from Cert.Reference4Ideal.Value.run m' g'
    all_goals obtain ⟨h0, h1, h2, h3, h4, h5, h6, h7, h8, h9, h10, h11, h12, h13, h14⟩ := hagree c
    · exact (Cert.Kernel4Ideal.Block.final_z m c m' ⟨h0, h1, h2, h3, h4, h7, h8⟩).symm
    · exact (Cert.Kernel4Ideal.Block.final_x1 m c m' ⟨h0, h1, h2, h3, h4, h7, h8⟩).symm
    · exact (Cert.Kernel4Ideal.Block.final_x2 m c m' ⟨h0, h1, h2, h3, h4, h7, h8⟩).symm
    · have f := Cert.Kernel4Ideal.Block.final_gates m c m' ⟨h0, h1, h2, h3, h4, h7, h8⟩
      unfold Cert.Reference4Ideal.At.projections at f
      rw [h0, h1, h2, h3, h4] at f
      exact (Cert.Reference4Ideal.At.gates_eq _ _ _ _ _).trans f.symm

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_scores.Gen.facts,
  fun m ρ _ => Cert.Kernel.Gen.frame m ρ, fun m ρ _ => Cert.KernelIdeal.Gen.frame m ρ, fun m ρ _ => Cert.KernelIdeal.Gen.frame m ρ,
  quiescent_reference, fun m ρ _ => quiescent_reference m ρ trivial,
  fun m ρ _ => Cert.Kernel2.Gen.frame m ρ, fun m ρ _ => Cert.Kernel2Ideal.Gen.frame m ρ, quiescent_reference2,
  fun m ρ _ => Cert.Kernel3.Gen.frame m ρ, fun m ρ _ => Cert.Kernel3Ideal.Gen.frame m ρ, quiescent_reference3,
  fun m ρ _ => Cert.Kernel4.Gen.frame m ρ, fun m ρ _ => Cert.Kernel4Ideal.Gen.frame m ρ, quiescent_reference4,
  trivial, algebraic, trivial, algebraic2, trivial, algebraic3, trivial, algebraic4⟩

end Cert.Proof

end
